-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_v_and_lambda [hPre_finite_v_and_lambda : Cert.Pre_finite_v_and_lambda.Facts] (m : (ℓ : Loc Cert.KernelIdeal.nD Cert.KernelIdeal.τ Cert.KernelIdeal.sig) → Buf (Elt Ideal) ℓ) : Prop :=
  ∀ c : Dev Cert.KernelIdeal.nD,
    (Cert.Pre_finite_v_and_lambda.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_v_and_lambda [hPre_finite_v_and_lambda : Cert.Pre_finite_v_and_lambda.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_v_and_lambda.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_v_and_lambda [hKernelIdeal : Cert.KernelIdeal.Facts] [hPre_finite_v_and_lambda : Cert.Pre_finite_v_and_lambda.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_v_and_lambda m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_v_and_lambda [hReferenceIdeal : Cert.ReferenceIdeal.Facts] [hPre_finite_v_and_lambda : Cert.Pre_finite_v_and_lambda.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_v_and_lambda m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_v_and_lambda [hKernelIdeal : Cert.KernelIdeal.Facts] [hReferenceIdeal : Cert.ReferenceIdeal.Facts] [hPre_finite_v_and_lambda : Cert.Pre_finite_v_and_lambda.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_v_and_lambda m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_v43) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v82) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)) (v2 : (c : Dev Cert.Kernel6Ideal.nD) → Buf (Elt Ideal) ((c.tc : Thread Cert.Kernel6Ideal.nD Cert.Kernel6Ideal.τ).loc Cert.Kernel6Ideal.main_v7_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_v7_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_v42) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_v_and_lambda : Cert.Pre_finite_v_and_lambda.Facts),
    quiescent_Kernel (hKernel := hKernel)
    ∧ quiescent_KernelIdeal (hKernelIdeal := hKernelIdeal)
    ∧ quiescent_KernelIdeal_pre_finite_v_and_lambda (hKernelIdeal := hKernelIdeal) (hPre_finite_v_and_lambda := hPre_finite_v_and_lambda)
    ∧ quiescent_ReferenceIdeal (hReferenceIdeal := hReferenceIdeal)
    ∧ quiescent_ReferenceIdeal_pre_finite_v_and_lambda (hReferenceIdeal := hReferenceIdeal) (hPre_finite_v_and_lambda := hPre_finite_v_and_lambda)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_v_and_lambda (hKernelIdeal := hKernelIdeal) (hReferenceIdeal := hReferenceIdeal) (hPre_finite_v_and_lambda := hPre_finite_v_and_lambda)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_v_and_lambda.lean ====
abbrev S8x2048x1024 : Shape := ⟨3, ![8, 2048, 1024]⟩
abbrev S8x2048x4x128 : Shape := ⟨4, ![8, 2048, 4, 128]⟩
abbrev S1x4x64 : Shape := ⟨3, ![1, 4, 64]⟩
abbrev S1x128 : Shape := ⟨2, ![1, 128]⟩
abbrev S_ : Shape := ⟨0, ![]⟩

class Facts : Prop where
  bcast_S_S8x2048x4x128 : S_.BroadcastsInDim S8x2048x4x128 (![] : Fin 0 → Fin S8x2048x4x128.rank)
  reducesTo_S8x2048x4x128_S_d0_1_2_3 : S8x2048x4x128.ReducesTo [0, 1, 2, 3] S_
  h_S_ : 0 < S_.numel
  bcast_S_S1x4x64 : S_.BroadcastsInDim S1x4x64 (![] : Fin 0 → Fin S1x4x64.rank)
  reducesTo_S1x4x64_S_d0_1_2 : S1x4x64.ReducesTo [0, 1, 2] S_

variable [Facts]

def fn {F : FTy → Type} [FloatOps F] (main_arg0 : FVec F S8x2048x1024 .f32) (main_arg1 : FVec F S8x2048x4x128 .f32) (main_arg2 : FVec F S8x2048x4x128 .f32) (main_arg3 : FVec F S1x4x64 .f32) (main_arg4 : FVec F S1x128 .f32) : IVec S_ 1 :=
  let main_v0 : FVec F S8x2048x4x128 .f32 := Host.absf main_arg2
  let main_cst : FVec F S_ .f32 := constant S_ .f32 0x7F800000#32
  let main_v1 : FVec F S8x2048x4x128 .f32 := broadcastInDim S8x2048x4x128 ![] bcast_S_S8x2048x4x128 main_cst
  let main_v2 : IVec S8x2048x4x128 1 := cmpf .olt main_v0 main_v1
  let main_c : IVec S_ 1 := constantI S_ 1 1#1
  let main_v3 : IVec S_ 1 := (fun x v => Host.reduce IntOp.andi x v reducesTo_S8x2048x4x128_S_d0_1_2_3 h_S_) main_v2 main_c
  let main_v4 : FVec F S1x4x64 .f32 := Host.absf main_arg3
  let main_cst_0 : FVec F S_ .f32 := constant S_ .f32 0x7F800000#32
  let main_v5 : FVec F S1x4x64 .f32 := broadcastInDim S1x4x64 ![] bcast_S_S1x4x64 main_cst_0
  let main_v6 : IVec S1x4x64 1 := cmpf .olt main_v4 main_v5
  let main_c_1 : IVec S_ 1 := constantI S_ 1 1#1
  let main_v7 : IVec S_ 1 := (fun x v => Host.reduce IntOp.andi x v reducesTo_S1x4x64_S_d0_1_2 h_S_) main_v6 main_c_1
  let main_v8 : IVec S_ 1 := andi main_v3 main_v7
  main_v8
-- ==== Kernel.lean ====
abbrev S8x2048x1024 : Shape := ⟨3, ![8, 2048, 1024]⟩
abbrev S8x2048x4x128 : Shape := ⟨4, ![8, 2048, 4, 128]⟩
abbrev S1x4x64 : Shape := ⟨3, ![1, 4, 64]⟩
abbrev S1x128 : Shape := ⟨2, ![1, 128]⟩
abbrev S8 : Shape := ⟨1, ![8]⟩
abbrev S4x64 : Shape := ⟨2, ![4, 64]⟩
abbrev S128 : Shape := ⟨1, ![128]⟩
abbrev S64x256x1024 : Shape := ⟨3, ![64, 256, 1024]⟩
abbrev S64x1024x256 : Shape := ⟨3, ![64, 1024, 256]⟩
abbrev S16384x512 : Shape := ⟨2, ![16384, 512]⟩
abbrev S64x256x512 : Shape := ⟨3, ![64, 256, 512]⟩
abbrev S64x512x256 : Shape := ⟨3, ![64, 512, 256]⟩
abbrev S128x1 : Shape := ⟨2, ![128, 1]⟩
abbrev S16384x1024 : Shape := ⟨2, ![16384, 1024]⟩
abbrev S1x256x256 : Shape := ⟨3, ![1, 256, 256]⟩
abbrev S2048x128 : Shape := ⟨2, ![2048, 128]⟩
abbrev S8x128x256 : Shape := ⟨3, ![8, 128, 256]⟩
abbrev S256x256 : Shape := ⟨2, ![256, 256]⟩
abbrev S128x1024 : Shape := ⟨2, ![128, 1024]⟩
abbrev S256x1024 : Shape := ⟨2, ![256, 1024]⟩
abbrev S1x1024 : Shape := ⟨2, ![1, 1024]⟩
abbrev S128x256 : Shape := ⟨2, ![128, 256]⟩
abbrev S1x128x256 : Shape := ⟨3, ![1, 128, 256]⟩
abbrev S1 : Shape := ⟨1, ![1]⟩
abbrev S256x128 : Shape := ⟨2, ![256, 128]⟩
abbrev S1024 : Shape := ⟨1, ![1024]⟩
abbrev S1x64 : Shape := ⟨2, ![1, 64]⟩
abbrev S1x1 : Shape := ⟨2, ![1, 1]⟩
abbrev S256 : Shape := ⟨1, ![256]⟩
abbrev S1x256 : Shape := ⟨2, ![1, 256]⟩

abbrev nBuf : Space → Nat
  | .hbm => 17
  | .vmem => 18
  | .smem => 1
  | _ => 0

abbrev bufTy : (tb : Table) → Fin (tcTables nBuf tb) → BufTy
  | .hbm, ⟨0, _⟩ => ⟨S8x2048x1024, .f32⟩
  | .hbm, ⟨1, _⟩ => ⟨S8x2048x4x128, .f32⟩
  | .hbm, ⟨2, _⟩ => ⟨S8x2048x4x128, .f32⟩
  | .hbm, ⟨3, _⟩ => ⟨S1x4x64, .f32⟩
  | .hbm, ⟨4, _⟩ => ⟨S1x128, .f32⟩
  | .hbm, ⟨5, _⟩ => ⟨S8, .f32⟩
  | .hbm, ⟨6, _⟩ => ⟨S4x64, .f32⟩
  | .hbm, ⟨7, _⟩ => ⟨S128, .f32⟩
  | .hbm, ⟨8, _⟩ => ⟨S64x256x1024, .f32⟩
  | .hbm, ⟨9, _⟩ => ⟨S64x1024x256, .f32⟩
  | .hbm, ⟨10, _⟩ => ⟨S16384x512, .f32⟩
  | .hbm, ⟨11, _⟩ => ⟨S16384x512, .bf16⟩
  | .hbm, ⟨12, _⟩ => ⟨S64x256x512, .f32⟩
  | .hbm, ⟨13, _⟩ => ⟨S64x512x256, .f32⟩
  | .hbm, ⟨14, _⟩ => ⟨S64x512x256, .bf16⟩
  | .hbm, ⟨15, _⟩ => ⟨S128x1, .f32⟩
  | .hbm, ⟨16, _⟩ => ⟨S16384x1024, .bf16⟩
  | .local _ .vmem, ⟨0, _⟩ => ⟨S1x256x256, .f32⟩
  | .local _ .vmem, ⟨1, _⟩ => ⟨S1x256x256, .f32⟩
  | .local _ .vmem, ⟨2, _⟩ => ⟨S2048x128, .bf16⟩
  | .local _ .vmem, ⟨3, _⟩ => ⟨S2048x128, .bf16⟩
  | .local _ .vmem, ⟨4, _⟩ => ⟨S8x128x256, .bf16⟩
  | .local _ .vmem, ⟨5, _⟩ => ⟨S8x128x256, .bf16⟩
  | .local _ .vmem, ⟨6, _⟩ => ⟨S4x64, .f32⟩
  | .local _ .vmem, ⟨7, _⟩ => ⟨S128x1, .f32⟩
  | .local _ .vmem, ⟨8, _⟩ => ⟨S256x256, .bf16⟩
  | .local _ .vmem, ⟨9, _⟩ => ⟨S256x256, .bf16⟩
  | .local _ .vmem, ⟨10, _⟩ => ⟨S128x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S1x1024, .f32⟩
  | .local _ .vmem, ⟨17, _⟩ => ⟨S128x1024, .f32⟩
  | .local _ .smem, ⟨0, _⟩ => ⟨S8, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 4, 8], ![false, false, false]⟩

def k0_cond1 (i : grid0.Coords) : BitVec 1 :=
  let arg2 : BitVec 32 := BitVec.ofNat 32 (i 2).val
  let c0_i32 : BitVec 32 := 0#32
  let v30 : BitVec 1 := Scalar.cmpi .eq arg2 c0_i32
  let v31 : BitVec 32 := Scalar.extui v30
  let c0_i32_11 : BitVec 32 := 0#32
  let v32 : BitVec 1 := Scalar.cmpi .ne v31 c0_i32_11
  v32

def k0_off1 (i : grid0.Coords) (c0_i32_97 : BitVec 32) : Fin 1 → Nat :=
  let c2_i32_96 : BitVec 32 := 2#32
  let arg1 : BitVec 32 := BitVec.ofNat 32 (i 1).val
  let v230 : BitVec 32 := Scalar.muli c2_i32_96 arg1
  let v231 : BitVec 32 := Scalar.addi v230 c0_i32_97
  let v232 : Index := Scalar.indexCast v231
  ![v232.toNat]
def k0_off2 (i : grid0.Coords) : Fin 1 → Nat :=
  let c2_i32_32 : BitVec 32 := 2#32
  let arg1 : BitVec 32 := BitVec.ofNat 32 (i 1).val
  let v88 : BitVec 32 := Scalar.muli c2_i32_32 arg1
  let v89 : Index := Scalar.indexCast v88
  ![v89.toNat]
def k0_off3 (i : grid0.Coords) : Fin 1 → Nat :=
  let c2_i32_33 : BitVec 32 := 2#32
  let arg1 : BitVec 32 := BitVec.ofNat 32 (i 1).val
  let v91 : BitVec 32 := Scalar.muli c2_i32_33 arg1
  let c1_i32_34 : BitVec 32 := 1#32
  let v92 : BitVec 32 := Scalar.addi v91 c1_i32_34
  let v93 : Index := Scalar.indexCast v92
  ![v93.toNat]
def k0_mult1 : BitVec 32 :=
  let c0_i32_36 : BitVec 32 := 0#32
  c0_i32_36
@[reducible] def k0_t1_loop (i : grid0.Coords) : Scf.Loop 32 :=
  let c0_i32_51 : BitVec 32 := 0#32
  let arg2 : BitVec 32 := BitVec.ofNat 32 (i 2).val
  let c0_i32_44 : BitVec 32 := 0#32
  let v110 : BitVec 1 := Scalar.cmpi .sgt arg2 c0_i32_44
  let v111 : BitVec 32 := Scalar.extui v110
  let c0_i32_45 : BitVec 32 := 0#32
  let v112 : BitVec 1 := Scalar.cmpi .slt arg2 c0_i32_45
  let v113 : BitVec 32 := Scalar.extui v112
  let v114 : BitVec 32 := Scalar.subi v111 v113
  let c2_i32_43 : BitVec 32 := 2#32
  let c0_i32_46 : BitVec 32 := 0#32
  let v115 : BitVec 1 := Scalar.cmpi .sgt c2_i32_43 c0_i32_46
  let v116 : BitVec 32 := Scalar.extui v115
  let c0_i32_47 : BitVec 32 := 0#32
  let v117 : BitVec 1 := Scalar.cmpi .slt c2_i32_43 c0_i32_47
  let v118 : BitVec 32 := Scalar.extui v117
  let v119 : BitVec 32 := Scalar.subi v116 v118
  let v120 : BitVec 1 := Scalar.cmpi .ne v114 v119
  let v121 : BitVec 32 := Scalar.remsi arg2 c2_i32_43
  let c0_i32_48 : BitVec 32 := 0#32
  let v122 : BitVec 1 := Scalar.cmpi .ne v121 c0_i32_48
  let v123 : BitVec 1 := Scalar.andi v120 v122
  let v109 : BitVec 32 := Scalar.divsi arg2 c2_i32_43
  let c1_i32_49 : BitVec 32 := 1#32
  let v124 : BitVec 32 := Scalar.subi v109 c1_i32_49
  let v125 : BitVec 32 := Scalar.select v123 v124 v109
  let v126 : BitVec 32 := Scalar.subi v125 c0_i32_51
  let c1_i32_52 : BitVec 32 := 1#32
  let v128 : BitVec 32 := Scalar.divsi v126 c1_i32_52
  let v129 : BitVec 32 := Scalar.muli v128 c1_i32_52
  let v130 : BitVec 32 := Scalar.addi c0_i32_51 v129
  let c1_i32_53 : BitVec 32 := 1#32
  ⟨c0_i32_51, v130, c1_i32_53⟩
def k0_mult2 (i : grid0.Coords) (k0_t1 : Fin (k0_t1_loop i).trips) : BitVec 32 :=
  let c2_i32_96 : BitVec 32 := 2#32
  let c0_i32_51 : BitVec 32 := 0#32
  let c1_i32_53 : BitVec 32 := 1#32
  let arg18 : BitVec 32 := Scf.iv c0_i32_51 c1_i32_53 k0_t1
  let v226 : BitVec 32 := Scalar.muli c2_i32_96 arg18
  let c1_i32_97 : BitVec 32 := 1#32
  let v227 : BitVec 32 := Scalar.addi v226 c1_i32_97
  let c256_i32_98 : BitVec 32 := 256#32
  let v228 : BitVec 32 := Scalar.muli v227 c256_i32_98
  v228
def k0_off4 (i : grid0.Coords) (k0_t1 : Fin (k0_t1_loop i).trips) (c1_i32_97 : BitVec 32) : Fin 2 → Nat :=
  let c2_i32_96 : BitVec 32 := 2#32
  let c0_i32_51 : BitVec 32 := 0#32
  let c1_i32_53 : BitVec 32 := 1#32
  let arg18 : BitVec 32 := Scf.iv c0_i32_51 c1_i32_53 k0_t1
  let v226 : BitVec 32 := Scalar.muli c2_i32_96 arg18
  let v227 : BitVec 32 := Scalar.addi v226 c1_i32_97
  let c256_i32_98 : BitVec 32 := 256#32
  let v228 : BitVec 32 := Scalar.muli v227 c256_i32_98
  let v229 : BitVec 32 := v228
  let v230 : Index := Scalar.indexCast v229
  let c0_99 : Index := 0#32
  ![v230.toNat, 0]
def k0_off5 (i : grid0.Coords) (k0_t1 : Fin (k0_t1_loop i).trips) : Fin 3 → Nat :=
  let c2_i32_96 : BitVec 32 := 2#32
  let c0_i32_51 : BitVec 32 := 0#32
  let c1_i32_53 : BitVec 32 := 1#32
  let arg18 : BitVec 32 := Scf.iv c0_i32_51 c1_i32_53 k0_t1
  let v226 : BitVec 32 := Scalar.muli c2_i32_96 arg18
  let v268 : Index := Scalar.indexCast v226
  let c0_120 : Index := 0#32
  let c0_121 : Index := 0#32
  ![v268.toNat, 0, 0]
def k0_mult3 (i : grid0.Coords) (k0_t1 : Fin (k0_t1_loop i).trips) : BitVec 32 :=
  let c2_i32_96 : BitVec 32 := 2#32
  let c0_i32_51 : BitVec 32 := 0#32
  let c1_i32_53 : BitVec 32 := 1#32
  let arg18 : BitVec 32 := Scf.iv c0_i32_51 c1_i32_53 k0_t1
  let v226 : BitVec 32 := Scalar.muli c2_i32_96 arg18
  let c2_i32_127 : BitVec 32 := 2#32
  let v280 : BitVec 32 := Scalar.addi v226 c2_i32_127
  let c256_i32_128 : BitVec 32 := 256#32
  let v281 : BitVec 32 := Scalar.muli v280 c256_i32_128
  v281
def k0_off6 (i : grid0.Coords) (k0_t1 : Fin (k0_t1_loop i).trips) : Fin 3 → Nat :=
  let c2_i32_96 : BitVec 32 := 2#32
  let c0_i32_51 : BitVec 32 := 0#32
  let c1_i32_53 : BitVec 32 := 1#32
  let arg18 : BitVec 32 := Scf.iv c0_i32_51 c1_i32_53 k0_t1
  let v226 : BitVec 32 := Scalar.muli c2_i32_96 arg18
  let c1_i32_139 : BitVec 32 := 1#32
  let v294 : BitVec 32 := Scalar.addi v226 c1_i32_139
  let v322 : Index := Scalar.indexCast v294
  let c0_151 : Index := 0#32
  let c0_152 : Index := 0#32
  ![v322.toNat, 0, 0]
@[reducible] def k0_t2_loop (i : grid0.Coords) : Scf.Loop 32 :=
  let c0_i32_51 : BitVec 32 := 0#32
  let arg2 : BitVec 32 := BitVec.ofNat 32 (i 2).val
  let c0_i32_44 : BitVec 32 := 0#32
  let v110 : BitVec 1 := Scalar.cmpi .sgt arg2 c0_i32_44
  let v111 : BitVec 32 := Scalar.extui v110
  let c0_i32_45 : BitVec 32 := 0#32
  let v112 : BitVec 1 := Scalar.cmpi .slt arg2 c0_i32_45
  let v113 : BitVec 32 := Scalar.extui v112
  let v114 : BitVec 32 := Scalar.subi v111 v113
  let c2_i32_43 : BitVec 32 := 2#32
  let c0_i32_46 : BitVec 32 := 0#32
  let v115 : BitVec 1 := Scalar.cmpi .sgt c2_i32_43 c0_i32_46
  let v116 : BitVec 32 := Scalar.extui v115
  let c0_i32_47 : BitVec 32 := 0#32
  let v117 : BitVec 1 := Scalar.cmpi .slt c2_i32_43 c0_i32_47
  let v118 : BitVec 32 := Scalar.extui v117
  let v119 : BitVec 32 := Scalar.subi v116 v118
  let v120 : BitVec 1 := Scalar.cmpi .ne v114 v119
  let v121 : BitVec 32 := Scalar.remsi arg2 c2_i32_43
  let c0_i32_48 : BitVec 32 := 0#32
  let v122 : BitVec 1 := Scalar.cmpi .ne v121 c0_i32_48
  let v123 : BitVec 1 := Scalar.andi v120 v122
  let v109 : BitVec 32 := Scalar.divsi arg2 c2_i32_43
  let c1_i32_49 : BitVec 32 := 1#32
  let v124 : BitVec 32 := Scalar.subi v109 c1_i32_49
  let v125 : BitVec 32 := Scalar.select v123 v124 v109
  let v126 : BitVec 32 := Scalar.subi v125 c0_i32_51
  let c1_i32_52 : BitVec 32 := 1#32
  let v128 : BitVec 32 := Scalar.divsi v126 c1_i32_52
  let v129 : BitVec 32 := Scalar.muli v128 c1_i32_52
  let v130 : BitVec 32 := Scalar.addi c0_i32_51 v129
  let v127 : BitVec 32 := Scalar.addi c0_i32_51 v126
  let c1_i32_54 : BitVec 32 := 1#32
  ⟨v130, v127, c1_i32_54⟩
def k0_mult4 (i : grid0.Coords) (k0_t2 : Fin (k0_t2_loop i).trips) : BitVec 32 :=
  let c2_i32_96 : BitVec 32 := 2#32
  let c0_i32_51 : BitVec 32 := 0#32
  let arg2 : BitVec 32 := BitVec.ofNat 32 (i 2).val
  let c0_i32_44 : BitVec 32 := 0#32
  let v110 : BitVec 1 := Scalar.cmpi .sgt arg2 c0_i32_44
  let v111 : BitVec 32 := Scalar.extui v110
  let c0_i32_45 : BitVec 32 := 0#32
  let v112 : BitVec 1 := Scalar.cmpi .slt arg2 c0_i32_45
  let v113 : BitVec 32 := Scalar.extui v112
  let v114 : BitVec 32 := Scalar.subi v111 v113
  let c2_i32_43 : BitVec 32 := 2#32
  let c0_i32_46 : BitVec 32 := 0#32
  let v115 : BitVec 1 := Scalar.cmpi .sgt c2_i32_43 c0_i32_46
  let v116 : BitVec 32 := Scalar.extui v115
  let c0_i32_47 : BitVec 32 := 0#32
  let v117 : BitVec 1 := Scalar.cmpi .slt c2_i32_43 c0_i32_47
  let v118 : BitVec 32 := Scalar.extui v117
  let v119 : BitVec 32 := Scalar.subi v116 v118
  let v120 : BitVec 1 := Scalar.cmpi .ne v114 v119
  let v121 : BitVec 32 := Scalar.remsi arg2 c2_i32_43
  let c0_i32_48 : BitVec 32 := 0#32
  let v122 : BitVec 1 := Scalar.cmpi .ne v121 c0_i32_48
  let v123 : BitVec 1 := Scalar.andi v120 v122
  let v109 : BitVec 32 := Scalar.divsi arg2 c2_i32_43
  let c1_i32_49 : BitVec 32 := 1#32
  let v124 : BitVec 32 := Scalar.subi v109 c1_i32_49
  let v125 : BitVec 32 := Scalar.select v123 v124 v109
  let v126 : BitVec 32 := Scalar.subi v125 c0_i32_51
  let c1_i32_52 : BitVec 32 := 1#32
  let v128 : BitVec 32 := Scalar.divsi v126 c1_i32_52
  let v129 : BitVec 32 := Scalar.muli v128 c1_i32_52
  let v130 : BitVec 32 := Scalar.addi c0_i32_51 v129
  let c1_i32_54 : BitVec 32 := 1#32
  let arg18 : BitVec 32 := Scf.iv v130 c1_i32_54 k0_t2
  let v226 : BitVec 32 := Scalar.muli c2_i32_96 arg18
  let c1_i32_97 : BitVec 32 := 1#32
  let v227 : BitVec 32 := Scalar.addi v226 c1_i32_97
  let c256_i32_98 : BitVec 32 := 256#32
  let v228 : BitVec 32 := Scalar.muli v227 c256_i32_98
  v228
def k0_off7 (i : grid0.Coords) (k0_t2 : Fin (k0_t2_loop i).trips) (c1_i32_97 : BitVec 32) : Fin 2 → Nat :=
  let c2_i32_96 : BitVec 32 := 2#32
  let c0_i32_51 : BitVec 32 := 0#32
  let arg2 : BitVec 32 := BitVec.ofNat 32 (i 2).val
  let c0_i32_44 : BitVec 32 := 0#32
  let v110 : BitVec 1 := Scalar.cmpi .sgt arg2 c0_i32_44
  let v111 : BitVec 32 := Scalar.extui v110
  let c0_i32_45 : BitVec 32 := 0#32
  let v112 : BitVec 1 := Scalar.cmpi .slt arg2 c0_i32_45
  let v113 : BitVec 32 := Scalar.extui v112
  let v114 : BitVec 32 := Scalar.subi v111 v113
  let c2_i32_43 : BitVec 32 := 2#32
  let c0_i32_46 : BitVec 32 := 0#32
  let v115 : BitVec 1 := Scalar.cmpi .sgt c2_i32_43 c0_i32_46
  let v116 : BitVec 32 := Scalar.extui v115
  let c0_i32_47 : BitVec 32 := 0#32
  let v117 : BitVec 1 := Scalar.cmpi .slt c2_i32_43 c0_i32_47
  let v118 : BitVec 32 := Scalar.extui v117
  let v119 : BitVec 32 := Scalar.subi v116 v118
  let v120 : BitVec 1 := Scalar.cmpi .ne v114 v119
  let v121 : BitVec 32 := Scalar.remsi arg2 c2_i32_43
  let c0_i32_48 : BitVec 32 := 0#32
  let v122 : BitVec 1 := Scalar.cmpi .ne v121 c0_i32_48
  let v123 : BitVec 1 := Scalar.andi v120 v122
  let v109 : BitVec 32 := Scalar.divsi arg2 c2_i32_43
  let c1_i32_49 : BitVec 32 := 1#32
  let v124 : BitVec 32 := Scalar.subi v109 c1_i32_49
  let v125 : BitVec 32 := Scalar.select v123 v124 v109
  let v126 : BitVec 32 := Scalar.subi v125 c0_i32_51
  let c1_i32_52 : BitVec 32 := 1#32
  let v128 : BitVec 32 := Scalar.divsi v126 c1_i32_52
  let v129 : BitVec 32 := Scalar.muli v128 c1_i32_52
  let v130 : BitVec 32 := Scalar.addi c0_i32_51 v129
  let c1_i32_54 : BitVec 32 := 1#32
  let arg18 : BitVec 32 := Scf.iv v130 c1_i32_54 k0_t2
  let v226 : BitVec 32 := Scalar.muli c2_i32_96 arg18
  let v227 : BitVec 32 := Scalar.addi v226 c1_i32_97
  let c256_i32_98 : BitVec 32 := 256#32
  let v228 : BitVec 32 := Scalar.muli v227 c256_i32_98
  let v229 : BitVec 32 := v228
  let v230 : Index := Scalar.indexCast v229
  let c0_99 : Index := 0#32
  ![v230.toNat, 0]
def k0_off8 (i : grid0.Coords) (k0_t2 : Fin (k0_t2_loop i).trips) : Fin 3 → Nat :=
  let c2_i32_96 : BitVec 32 := 2#32
  let c0_i32_51 : BitVec 32 := 0#32
  let arg2 : BitVec 32 := BitVec.ofNat 32 (i 2).val
  let c0_i32_44 : BitVec 32 := 0#32
  let v110 : BitVec 1 := Scalar.cmpi .sgt arg2 c0_i32_44
  let v111 : BitVec 32 := Scalar.extui v110
  let c0_i32_45 : BitVec 32 := 0#32
  let v112 : BitVec 1 := Scalar.cmpi .slt arg2 c0_i32_45
  let v113 : BitVec 32 := Scalar.extui v112
  let v114 : BitVec 32 := Scalar.subi v111 v113
  let c2_i32_43 : BitVec 32 := 2#32
  let c0_i32_46 : BitVec 32 := 0#32
  let v115 : BitVec 1 := Scalar.cmpi .sgt c2_i32_43 c0_i32_46
  let v116 : BitVec 32 := Scalar.extui v115
  let c0_i32_47 : BitVec 32 := 0#32
  let v117 : BitVec 1 := Scalar.cmpi .slt c2_i32_43 c0_i32_47
  let v118 : BitVec 32 := Scalar.extui v117
  let v119 : BitVec 32 := Scalar.subi v116 v118
  let v120 : BitVec 1 := Scalar.cmpi .ne v114 v119
  let v121 : BitVec 32 := Scalar.remsi arg2 c2_i32_43
  let c0_i32_48 : BitVec 32 := 0#32
  let v122 : BitVec 1 := Scalar.cmpi .ne v121 c0_i32_48
  let v123 : BitVec 1 := Scalar.andi v120 v122
  let v109 : BitVec 32 := Scalar.divsi arg2 c2_i32_43
  let c1_i32_49 : BitVec 32 := 1#32
  let v124 : BitVec 32 := Scalar.subi v109 c1_i32_49
  let v125 : BitVec 32 := Scalar.select v123 v124 v109
  let v126 : BitVec 32 := Scalar.subi v125 c0_i32_51
  let c1_i32_52 : BitVec 32 := 1#32
  let v128 : BitVec 32 := Scalar.divsi v126 c1_i32_52
  let v129 : BitVec 32 := Scalar.muli v128 c1_i32_52
  let v130 : BitVec 32 := Scalar.addi c0_i32_51 v129
  let c1_i32_54 : BitVec 32 := 1#32
  let arg18 : BitVec 32 := Scf.iv v130 c1_i32_54 k0_t2
  let v226 : BitVec 32 := Scalar.muli c2_i32_96 arg18
  let v268 : Index := Scalar.indexCast v226
  let c0_120 : Index := 0#32
  let c0_121 : Index := 0#32
  ![v268.toNat, 0, 0]
def k0_mult5 (i : grid0.Coords) (k0_t2 : Fin (k0_t2_loop i).trips) : BitVec 32 :=
  let c2_i32_96 : BitVec 32 := 2#32
  let c0_i32_51 : BitVec 32 := 0#32
  let arg2 : BitVec 32 := BitVec.ofNat 32 (i 2).val
  let c0_i32_44 : BitVec 32 := 0#32
  let v110 : BitVec 1 := Scalar.cmpi .sgt arg2 c0_i32_44
  let v111 : BitVec 32 := Scalar.extui v110
  let c0_i32_45 : BitVec 32 := 0#32
  let v112 : BitVec 1 := Scalar.cmpi .slt arg2 c0_i32_45
  let v113 : BitVec 32 := Scalar.extui v112
  let v114 : BitVec 32 := Scalar.subi v111 v113
  let c2_i32_43 : BitVec 32 := 2#32
  let c0_i32_46 : BitVec 32 := 0#32
  let v115 : BitVec 1 := Scalar.cmpi .sgt c2_i32_43 c0_i32_46
  let v116 : BitVec 32 := Scalar.extui v115
  let c0_i32_47 : BitVec 32 := 0#32
  let v117 : BitVec 1 := Scalar.cmpi .slt c2_i32_43 c0_i32_47
  let v118 : BitVec 32 := Scalar.extui v117
  let v119 : BitVec 32 := Scalar.subi v116 v118
  let v120 : BitVec 1 := Scalar.cmpi .ne v114 v119
  let v121 : BitVec 32 := Scalar.remsi arg2 c2_i32_43
  let c0_i32_48 : BitVec 32 := 0#32
  let v122 : BitVec 1 := Scalar.cmpi .ne v121 c0_i32_48
  let v123 : BitVec 1 := Scalar.andi v120 v122
  let v109 : BitVec 32 := Scalar.divsi arg2 c2_i32_43
  let c1_i32_49 : BitVec 32 := 1#32
  let v124 : BitVec 32 := Scalar.subi v109 c1_i32_49
  let v125 : BitVec 32 := Scalar.select v123 v124 v109
  let v126 : BitVec 32 := Scalar.subi v125 c0_i32_51
  let c1_i32_52 : BitVec 32 := 1#32
  let v128 : BitVec 32 := Scalar.divsi v126 c1_i32_52
  let v129 : BitVec 32 := Scalar.muli v128 c1_i32_52
  let v130 : BitVec 32 := Scalar.addi c0_i32_51 v129
  let c1_i32_54 : BitVec 32 := 1#32
  let arg18 : BitVec 32 := Scf.iv v130 c1_i32_54 k0_t2
  let v226 : BitVec 32 := Scalar.muli c2_i32_96 arg18
  let c2_i32_127 : BitVec 32 := 2#32
  let v280 : BitVec 32 := Scalar.addi v226 c2_i32_127
  let c256_i32_128 : BitVec 32 := 256#32
  let v281 : BitVec 32 := Scalar.muli v280 c256_i32_128
  v281
def k0_off9 (i : grid0.Coords) (k0_t2 : Fin (k0_t2_loop i).trips) : Fin 3 → Nat :=
  let c2_i32_96 : BitVec 32 := 2#32
  let c0_i32_51 : BitVec 32 := 0#32
  let arg2 : BitVec 32 := BitVec.ofNat 32 (i 2).val
  let c0_i32_44 : BitVec 32 := 0#32
  let v110 : BitVec 1 := Scalar.cmpi .sgt arg2 c0_i32_44
  let v111 : BitVec 32 := Scalar.extui v110
  let c0_i32_45 : BitVec 32 := 0#32
  let v112 : BitVec 1 := Scalar.cmpi .slt arg2 c0_i32_45
  let v113 : BitVec 32 := Scalar.extui v112
  let v114 : BitVec 32 := Scalar.subi v111 v113
  let c2_i32_43 : BitVec 32 := 2#32
  let c0_i32_46 : BitVec 32 := 0#32
  let v115 : BitVec 1 := Scalar.cmpi .sgt c2_i32_43 c0_i32_46
  let v116 : BitVec 32 := Scalar.extui v115
  let c0_i32_47 : BitVec 32 := 0#32
  let v117 : BitVec 1 := Scalar.cmpi .slt c2_i32_43 c0_i32_47
  let v118 : BitVec 32 := Scalar.extui v117
  let v119 : BitVec 32 := Scalar.subi v116 v118
  let v120 : BitVec 1 := Scalar.cmpi .ne v114 v119
  let v121 : BitVec 32 := Scalar.remsi arg2 c2_i32_43
  let c0_i32_48 : BitVec 32 := 0#32
  let v122 : BitVec 1 := Scalar.cmpi .ne v121 c0_i32_48
  let v123 : BitVec 1 := Scalar.andi v120 v122
  let v109 : BitVec 32 := Scalar.divsi arg2 c2_i32_43
  let c1_i32_49 : BitVec 32 := 1#32
  let v124 : BitVec 32 := Scalar.subi v109 c1_i32_49
  let v125 : BitVec 32 := Scalar.select v123 v124 v109
  let v126 : BitVec 32 := Scalar.subi v125 c0_i32_51
  let c1_i32_52 : BitVec 32 := 1#32
  let v128 : BitVec 32 := Scalar.divsi v126 c1_i32_52
  let v129 : BitVec 32 := Scalar.muli v128 c1_i32_52
  let v130 : BitVec 32 := Scalar.addi c0_i32_51 v129
  let c1_i32_54 : BitVec 32 := 1#32
  let arg18 : BitVec 32 := Scf.iv v130 c1_i32_54 k0_t2
  let v226 : BitVec 32 := Scalar.muli c2_i32_96 arg18
  let c1_i32_139 : BitVec 32 := 1#32
  let v294 : BitVec 32 := Scalar.addi v226 c1_i32_139
  let v322 : Index := Scalar.indexCast v294
  let c0_151 : Index := 0#32
  let c0_152 : Index := 0#32
  ![v322.toNat, 0, 0]
def k0_cond2 (i : grid0.Coords) : BitVec 1 :=
  let arg2 : BitVec 32 := BitVec.ofNat 32 (i 2).val
  let c2_i32_55 : BitVec 32 := 2#32
  let c0_i32_56 : BitVec 32 := 0#32
  let v131 : BitVec 1 := Scalar.cmpi .eq c2_i32_55 c0_i32_56
  let c1_i32_57 : BitVec 32 := 1#32
  let v132 : BitVec 32 := Scalar.select v131 c1_i32_57 c2_i32_55
  let v133 : BitVec 32 := Scalar.remsi arg2 v132
  let c0_i32_59 : BitVec 32 := 0#32
  let v135 : BitVec 1 := Scalar.cmpi .slt v133 c0_i32_59
  let c0_i32_60 : BitVec 32 := 0#32
  let v136 : BitVec 1 := Scalar.cmpi .slt v132 c0_i32_60
  let v137 : BitVec 1 := Scalar.xori v135 v136
  let c0_i32_58 : BitVec 32 := 0#32
  let v134 : BitVec 1 := Scalar.cmpi .ne v133 c0_i32_58
  let v138 : BitVec 1 := Scalar.andi v137 v134
  let v139 : BitVec 32 := Scalar.addi v133 v132
  let v140 : BitVec 32 := Scalar.select v138 v139 v133
  let c1_i32_61 : BitVec 32 := 1#32
  let v141 : BitVec 1 := Scalar.cmpi .eq v140 c1_i32_61
  let v142 : BitVec 32 := Scalar.extui v141
  let c0_i32_62 : BitVec 32 := 0#32
  let v143 : BitVec 1 := Scalar.cmpi .ne v142 c0_i32_62
  v143

def k0_mult6 (i : grid0.Coords) : BitVec 32 :=
  let arg2 : BitVec 32 := BitVec.ofNat 32 (i 2).val
  let c256_i32_96 : BitVec 32 := 256#32
  let v226 : BitVec 32 := Scalar.muli arg2 c256_i32_96
  v226
def k0_off10 (i : grid0.Coords) : Fin 2 → Nat :=
  let arg2 : BitVec 32 := BitVec.ofNat 32 (i 2).val
  let c256_i32_96 : BitVec 32 := 256#32
  let v226 : BitVec 32 := Scalar.muli arg2 c256_i32_96
  let v227 : BitVec 32 := v226
  let v228 : Index := Scalar.indexCast v227
  let c0_97 : Index := 0#32
  ![v228.toNat, 0]
def k0_off11 (i : grid0.Coords) : Fin 3 → Nat :=
  let arg2 : BitVec 32 := BitVec.ofNat 32 (i 2).val
  let c1_i32_107 : BitVec 32 := 1#32
  let v239 : BitVec 32 := Scalar.subi arg2 c1_i32_107
  let v267 : Index := Scalar.indexCast v239
  let c0_119 : Index := 0#32
  let c0_120 : Index := 0#32
  ![v267.toNat, 0, 0]
def k0_off12 (i : grid0.Coords) : Fin 3 → Nat :=
  let arg2 : BitVec 32 := BitVec.ofNat 32 (i 2).val
  let v309 : Index := Scalar.indexCast arg2
  let c0_141 : Index := 0#32
  let c0_142 : Index := 0#32
  ![v309.toNat, 0, 0]
def k0_cond3 (i : grid0.Coords) : BitVec 1 :=
  let arg2 : BitVec 32 := BitVec.ofNat 32 (i 2).val
  let c2_i32_63 : BitVec 32 := 2#32
  let c0_i32_64 : BitVec 32 := 0#32
  let v144 : BitVec 1 := Scalar.cmpi .eq c2_i32_63 c0_i32_64
  let c1_i32_65 : BitVec 32 := 1#32
  let v145 : BitVec 32 := Scalar.select v144 c1_i32_65 c2_i32_63
  let v146 : BitVec 32 := Scalar.remsi arg2 v145
  let c0_i32_67 : BitVec 32 := 0#32
  let v148 : BitVec 1 := Scalar.cmpi .slt v146 c0_i32_67
  let c0_i32_68 : BitVec 32 := 0#32
  let v149 : BitVec 1 := Scalar.cmpi .slt v145 c0_i32_68
  let v150 : BitVec 1 := Scalar.xori v148 v149
  let c0_i32_66 : BitVec 32 := 0#32
  let v147 : BitVec 1 := Scalar.cmpi .ne v146 c0_i32_66
  let v151 : BitVec 1 := Scalar.andi v150 v147
  let v152 : BitVec 32 := Scalar.addi v146 v145
  let v153 : BitVec 32 := Scalar.select v151 v152 v146
  let c0_i32_69 : BitVec 32 := 0#32
  let v154 : BitVec 1 := Scalar.cmpi .eq v153 c0_i32_69
  let v155 : BitVec 32 := Scalar.extui v154
  let c0_i32_70 : BitVec 32 := 0#32
  let v156 : BitVec 1 := Scalar.cmpi .ne v155 c0_i32_70
  v156

def k0_off13 (i : grid0.Coords) : Fin 3 → Nat :=
  let arg2 : BitVec 32 := BitVec.ofNat 32 (i 2).val
  let v256 : Index := Scalar.indexCast arg2
  let c0_111 : Index := 0#32
  let c0_112 : Index := 0#32
  ![v256.toNat, 0, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![v1.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "qscale" => some ((8⁻¹ * (Real.log 2)⁻¹ : ℝ) : EReal)
  | _ => none
-- ==== ReferenceIdeal.lean ====
abbrev S8x2048x1024 : Shape := ⟨3, ![8, 2048, 1024]⟩
abbrev S8x2048x4x128 : Shape := ⟨4, ![8, 2048, 4, 128]⟩
abbrev S1x4x64 : Shape := ⟨3, ![1, 4, 64]⟩
abbrev S1x128 : Shape := ⟨2, ![1, 128]⟩
abbrev S8 : Shape := ⟨1, ![8]⟩
abbrev S_ : Shape := ⟨0, ![]⟩
abbrev S4x2 : Shape := ⟨2, ![4, 2]⟩
abbrev S4x64 : Shape := ⟨2, ![4, 64]⟩
abbrev S1x64 : Shape := ⟨2, ![1, 64]⟩
abbrev S64 : Shape := ⟨1, ![64]⟩
abbrev S8x2048x4x2x2x64 : Shape := ⟨6, ![8, 2048, 4, 2, 2, 64]⟩
abbrev S8x2048x4x2x64 : Shape := ⟨5, ![8, 2048, 4, 2, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x2x4x2048x2048x2 : Shape := ⟨6, ![8, 2, 4, 2048, 2048, 2]⟩
abbrev S8x2x4x2x2048x2048 : Shape := ⟨6, ![8, 2, 4, 2, 2048, 2048]⟩
abbrev S4x2x1x1 : Shape := ⟨4, ![4, 2, 1, 1]⟩
abbrev S1x1x2048x2048 : Shape := ⟨4, ![1, 1, 2048, 2048]⟩
abbrev S4x2x2048x2048 : Shape := ⟨4, ![4, 2, 2048, 2048]⟩
abbrev S1x1x4x2x2048x2048 : Shape := ⟨6, ![1, 1, 4, 2, 2048, 2048]⟩
abbrev S8x2x4x2x2048 : Shape := ⟨5, ![8, 2, 4, 2, 2048]⟩
abbrev S8x2x4x2x2048x1 : Shape := ⟨6, ![8, 2, 4, 2, 2048, 1]⟩
abbrev S8x1x4x2x2048x2048 : Shape := ⟨6, ![8, 1, 4, 2, 2048, 2048]⟩
abbrev S8x4x2x2048x2048 : Shape := ⟨5, ![8, 4, 2, 2048, 2048]⟩
abbrev S8x4x128x2x2048 : Shape := ⟨5, ![8, 4, 128, 2, 2048]⟩
abbrev S8x2048x4x2x128 : Shape := ⟨5, ![8, 2048, 4, 2, 128]⟩
abbrev S8x2048x4x2 : Shape := ⟨4, ![8, 2048, 4, 2]⟩
abbrev S8x2048x4x2x1 : Shape := ⟨5, ![8, 2048, 4, 2, 1]⟩
abbrev S128 : Shape := ⟨1, ![128]⟩
abbrev S1x1x1x1x128 : Shape := ⟨5, ![1, 1, 1, 1, 128]⟩
abbrev S16384x1024 : Shape := ⟨2, ![16384, 1024]⟩

abbrev nBuf : Space → Nat
  | .hbm => 114
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x4x128, .f32⟩
  | .hbm, ⟨2, _⟩ => ⟨S8x2048x4x128, .f32⟩
  | .hbm, ⟨3, _⟩ => ⟨S1x4x64, .f32⟩
  | .hbm, ⟨4, _⟩ => ⟨S1x128, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S4x2, .f32⟩
  | .hbm, ⟨19, _⟩ => ⟨S4x64, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1x64, .f32⟩
  | .hbm, ⟨29, _⟩ => ⟨S64, .f32⟩
  | .hbm, ⟨30, _⟩ => ⟨S1x64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8x2048x4x2x2x64, .f32⟩
  | .hbm, ⟨40, _⟩ => ⟨S8x2048x4x2x64, .f32⟩
  | .hbm, ⟨41, _⟩ => ⟨S2048, .i32⟩
  | .hbm, ⟨42, _⟩ => ⟨S2048x1, .i32⟩
  | .hbm, ⟨43, _⟩ => ⟨S1x2048, .i32⟩
  | .hbm, ⟨44, _⟩ => ⟨S2048x2048, .i32⟩
  | .hbm, ⟨45, _⟩ => ⟨S2048x2048, .i32⟩
  | .hbm, ⟨46, _⟩ => ⟨S2048x2048, .i32⟩
  | .hbm, ⟨47, _⟩ => ⟨S8x2x4x2048x2048x2, .f32⟩
  | .hbm, ⟨48, _⟩ => ⟨S8x2x4x2x2048x2048, .f32⟩
  | .hbm, ⟨49, _⟩ => ⟨S_, .f32⟩
  | .hbm, ⟨50, _⟩ => ⟨S8x2x4x2x2048x2048, .f32⟩
  | .hbm, ⟨51, _⟩ => ⟨S8x2x4x2x2048x2048, .f32⟩
  | .hbm, ⟨52, _⟩ => ⟨S4x2x1x1, .f32⟩
  | .hbm, ⟨53, _⟩ => ⟨S2048x2048, .f32⟩
  | .hbm, ⟨54, _⟩ => ⟨S1x1x2048x2048, .f32⟩
  | .hbm, ⟨55, _⟩ => ⟨S4x2x2048x2048, .f32⟩
  | .hbm, ⟨56, _⟩ => ⟨S4x2x2048x2048, .f32⟩
  | .hbm, ⟨57, _⟩ => ⟨S4x2x2048x2048, .f32⟩
  | .hbm, ⟨58, _⟩ => ⟨S1x1x4x2x2048x2048, .f32⟩
  | .hbm, ⟨59, _⟩ => ⟨S8x2x4x2x2048x2048, .f32⟩
  | .hbm, ⟨60, _⟩ => ⟨S8x2x4x2x2048x2048, .f32⟩
  | .hbm, ⟨61, _⟩ => ⟨S_, .i32⟩
  | .hbm, ⟨62, _⟩ => ⟨S2048x2048, .i32⟩
  | .hbm, ⟨63, _⟩ => ⟨S2048x2048, .i1⟩
  | .hbm, ⟨64, _⟩ => ⟨S_, .f32⟩
  | .hbm, ⟨65, _⟩ => ⟨S_, .f32⟩
  | .hbm, ⟨66, _⟩ => ⟨S8x2x4x2x2048x2048, .i1⟩
  | .hbm, ⟨67, _⟩ => ⟨S8x2x4x2x2048x2048, .f32⟩
  | .hbm, ⟨68, _⟩ => ⟨S8x2x4x2x2048x2048, .f32⟩
  | .hbm, ⟨69, _⟩ => ⟨S_, .f32⟩
  | .hbm, ⟨70, _⟩ => ⟨S8x2x4x2x2048, .f32⟩
  | .hbm, ⟨71, _⟩ => ⟨S_, .f32⟩
  | .hbm, ⟨72, _⟩ => ⟨S8x2x4x2x2048, .f32⟩
  | .hbm, ⟨73, _⟩ => ⟨S8x2x4x2x2048, .f32⟩
  | .hbm, ⟨74, _⟩ => ⟨S8x2x4x2x2048x1, .f32⟩
  | .hbm, ⟨75, _⟩ => ⟨S8x2x4x2x2048x2048, .f32⟩
  | .hbm, ⟨76, _⟩ => ⟨S8x2x4x2x2048x2048, .f32⟩
  | .hbm, ⟨77, _⟩ => ⟨S8x2x4x2x2048x2048, .f32⟩
  | .hbm, ⟨78, _⟩ => ⟨S_, .f32⟩
  | .hbm, ⟨79, _⟩ => ⟨S8x2x4x2x2048, .f32⟩
  | .hbm, ⟨80, _⟩ => ⟨S8x2x4x2x2048x1, .f32⟩
  | .hbm, ⟨81, _⟩ => ⟨S8x2x4x2x2048x2048, .f32⟩
  | .hbm, ⟨82, _⟩ => ⟨S8x2x4x2x2048x2048, .f32⟩
  | .hbm, ⟨83, _⟩ => ⟨S8x1x4x2x2048x2048, .f32⟩
  | .hbm, ⟨84, _⟩ => ⟨S8x4x2x2048x2048, .f32⟩
  | .hbm, ⟨85, _⟩ => ⟨S8x1x4x2x2048x2048, .f32⟩
  | .hbm, ⟨86, _⟩ => ⟨S8x4x2x2048x2048, .f32⟩
  | .hbm, ⟨87, _⟩ => ⟨S8x4x2x2048x2048, .f32⟩
  | .hbm, ⟨88, _⟩ => ⟨S8x4x2x2048x2048, .f32⟩
  | .hbm, ⟨89, _⟩ => ⟨S8x4x2x2048x2048, .f32⟩
  | .hbm, ⟨90, _⟩ => ⟨S8x4x128x2x2048, .f32⟩
  | .hbm, ⟨91, _⟩ => ⟨S8x2048x4x2x128, .f32⟩
  | .hbm, ⟨92, _⟩ => ⟨S8x2048x4x2x128, .f32⟩
  | .hbm, ⟨93, _⟩ => ⟨S_, .f32⟩
  | .hbm, ⟨94, _⟩ => ⟨S8x2048x4x2, .f32⟩
  | .hbm, ⟨95, _⟩ => ⟨S8x2048x4x2x1, .f32⟩
  | .hbm, ⟨96, _⟩ => ⟨S_, .f32⟩
  | .hbm, ⟨97, _⟩ => ⟨S8x2048x4x2x1, .f32⟩
  | .hbm, ⟨98, _⟩ => ⟨S8x2048x4x2x1, .f32⟩
  | .hbm, ⟨99, _⟩ => ⟨S_, .f32⟩
  | .hbm, ⟨100, _⟩ => ⟨S8x2048x4x2x1, .f32⟩
  | .hbm, ⟨101, _⟩ => ⟨S8x2048x4x2x1, .f32⟩
  | .hbm, ⟨102, _⟩ => ⟨S8x2048x4x2x1, .f32⟩
  | .hbm, ⟨103, _⟩ => ⟨S8x2048x4x2x128, .f32⟩
  | .hbm, ⟨104, _⟩ => ⟨S8x2048x4x2x128, .f32⟩
  | .hbm, ⟨105, _⟩ => ⟨S128, .f32⟩
  | .hbm, ⟨106, _⟩ => ⟨S1x1x1x1x128, .f32⟩
  | .hbm, ⟨107, _⟩ => ⟨S8x2048x4x2x128, .f32⟩
  | .hbm, ⟨108, _⟩ => ⟨S8x2048x4x2x128, .f32⟩
  | .hbm, ⟨109, _⟩ => ⟨S_, .f32⟩
  | .hbm, ⟨110, _⟩ => ⟨S8x2048x4x2x128, .f32⟩
  | .hbm, ⟨111, _⟩ => ⟨S8x2048x4x2x128, .f32⟩
  | .hbm, ⟨112, _⟩ => ⟨S16384x1024, .f32⟩
  | .hbm, ⟨113, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_11 : Ref sig .tc := ⟨.hbm, 93, rfl⟩
abbrev main_v72 : Ref sig .tc := ⟨.hbm, 94, rfl⟩
abbrev main_v73 : Ref sig .tc := ⟨.hbm, 95, rfl⟩
abbrev main_cst_12 : Ref sig .tc := ⟨.hbm, 96, rfl⟩
abbrev main_v74 : Ref sig .tc := ⟨.hbm, 97, rfl⟩
abbrev main_v75 : Ref sig .tc := ⟨.hbm, 98, rfl⟩
abbrev main_cst_13 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_14 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x6144 : Shape := ⟨2, ![8, 6144]⟩
abbrev S2x4x1024 : Shape := ⟨3, ![2, 4, 1024]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S1x4x1024 : Shape := ⟨3, ![1, 4, 1024]⟩
abbrev S4x1024 : Shape := ⟨2, ![4, 1024]⟩
abbrev S1024x1024 : Shape := ⟨2, ![1024, 1024]⟩
abbrev S16384x1024 : Shape := ⟨2, ![16384, 1024]⟩
abbrev S8x1x6144 : Shape := ⟨3, ![8, 1, 6144]⟩
abbrev S512x1024 : Shape := ⟨2, ![512, 1024]⟩
abbrev S1x1x6144 : Shape := ⟨3, ![1, 1, 6144]⟩
abbrev S1x1024x5632 : Shape := ⟨3, ![1, 1024, 5632]⟩
abbrev S1x2816x1024 : Shape := ⟨3, ![1, 2816, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 18
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x6144, .f32⟩
  | .hbm, ⟨3, _⟩ => ⟨S2x4x1024, .f32⟩
  | .hbm, ⟨4, _⟩ => ⟨S1x1024x1024, .f32⟩
  | .hbm, ⟨5, _⟩ => ⟨S2x1024x5632, .f32⟩
  | .hbm, ⟨6, _⟩ => ⟨S2x2816x1024, .f32⟩
  | .hbm, ⟨7, _⟩ => ⟨S1x4x1024, .f32⟩
  | .hbm, ⟨8, _⟩ => ⟨S4x1024, .f32⟩
  | .hbm, ⟨9, _⟩ => ⟨S1024x1024, .f32⟩
  | .hbm, ⟨10, _⟩ => ⟨S1024x1024, .bf16⟩
  | .hbm, ⟨11, _⟩ => ⟨S2x1024x5632, .bf16⟩
  | .hbm, ⟨12, _⟩ => ⟨S2x2816x1024, .bf16⟩
  | .hbm, ⟨13, _⟩ => ⟨S16384x1024, .f32⟩
  | .hbm, ⟨14, _⟩ => ⟨S16384x1024, .f32⟩
  | .hbm, ⟨15, _⟩ => ⟨S16384x1024, .bf16⟩
  | .hbm, ⟨16, _⟩ => ⟨S8x1x6144, .f32⟩
  | .hbm, ⟨17, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1x6144, .f32⟩
  | .local _ .vmem, ⟨5, _⟩ => ⟨S1x1x6144, .f32⟩
  | .local _ .vmem, ⟨6, _⟩ => ⟨S4x1024, .f32⟩
  | .local _ .vmem, ⟨7, _⟩ => ⟨S1024x1024, .bf16⟩
  | .local _ .vmem, ⟨8, _⟩ => ⟨S1x1024x5632, .bf16⟩
  | .local _ .vmem, ⟨9, _⟩ => ⟨S1x2816x1024, .bf16⟩
  | .local _ .vmem, ⟨10, _⟩ => ⟨S512x1024, .f32⟩
  | .local _ .vmem, ⟨11, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x2048x1024 : Shape := ⟨3, ![8, 2048, 1024]⟩
abbrev S8x6144 : Shape := ⟨2, ![8, 6144]⟩
abbrev S2x4x1024 : Shape := ⟨3, ![2, 4, 1024]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S8x1024 : Shape := ⟨2, ![8, 1024]⟩
abbrev S8x1x1024 : Shape := ⟨3, ![8, 1, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1024x5632 : Shape := ⟨3, ![1, 1024, 5632]⟩
abbrev S1024x5632 : Shape := ⟨2, ![1024, 5632]⟩
abbrev S8x2048x5632 : Shape := ⟨3, ![8, 2048, 5632]⟩
abbrev S8x2048x2816 : Shape := ⟨3, ![8, 2048, 2816]⟩
abbrev S1x2816x1024 : Shape := ⟨3, ![1, 2816, 1024]⟩
abbrev S2816x1024 : Shape := ⟨2, ![2816, 1024]⟩
abbrev S16384x1024 : Shape := ⟨2, ![16384, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x6144, .f32⟩
  | .hbm, ⟨3, _⟩ => ⟨S2x4x1024, .f32⟩
  | .hbm, ⟨4, _⟩ => ⟨S1x1024x1024, .f32⟩
  | .hbm, ⟨5, _⟩ => ⟨S2x1024x5632, .f32⟩
  | .hbm, ⟨6, _⟩ => ⟨S2x2816x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S1024x1024, .f32⟩
  | .hbm, ⟨20, _⟩ => ⟨S8x2048x1024, .f32⟩
  | .hbm, ⟨21, _⟩ => ⟨S1x1x1024, .f32⟩
  | .hbm, ⟨22, _⟩ => ⟨S1024, .f32⟩
  | .hbm, ⟨23, _⟩ => ⟨S8x2048x1024, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S8x2048x1, .f32⟩
  | .hbm, ⟨34, _⟩ => ⟨S8x2048x1024, .f32⟩
  | .hbm, ⟨35, _⟩ => ⟨S8x2048x1024, .f32⟩
  | .hbm, ⟨36, _⟩ => ⟨S1x1x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S1x1x1024, .f32⟩
  | .hbm, ⟨43, _⟩ => ⟨S1024, .f32⟩
  | .hbm, ⟨44, _⟩ => ⟨S8x2048x1024, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S8x2048x1, .f32⟩
  | .hbm, ⟨55, _⟩ => ⟨S8x2048x1024, .f32⟩
  | .hbm, ⟨56, _⟩ => ⟨S8x2048x1024, .f32⟩
  | .hbm, ⟨57, _⟩ => ⟨S1x1x1024, .f32⟩
  | .hbm, ⟨58, _⟩ => ⟨S8x2048x1024, .f32⟩
  | .hbm, ⟨59, _⟩ => ⟨S8x2048x1024, .f32⟩
  | .hbm, ⟨60, _⟩ => ⟨S_, .f32⟩
  | .hbm, ⟨61, _⟩ => ⟨S8x1x1024, .f32⟩
  | .hbm, ⟨62, _⟩ => ⟨S8x1x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S1x1024x5632, .f32⟩
  | .hbm, ⟨68, _⟩ => ⟨S1024x5632, .f32⟩
  | .hbm, ⟨69, _⟩ => ⟨S8x2048x5632, .f32⟩
  | .hbm, ⟨70, _⟩ => ⟨S8x2048x2816, .f32⟩
  | .hbm, ⟨71, _⟩ => ⟨S8x2048x2816, .f32⟩
  | .hbm, ⟨72, _⟩ => ⟨S8x2048x2816, .f32⟩
  | .hbm, ⟨73, _⟩ => ⟨S8x2048x2816, .f32⟩
  | .hbm, ⟨74, _⟩ => ⟨S_, .f32⟩
  | .hbm, ⟨75, _⟩ => ⟨S8x2048x2816, .f32⟩
  | .hbm, ⟨76, _⟩ => ⟨S8x2048x2816, .f32⟩
  | .hbm, ⟨77, _⟩ => ⟨S_, .f32⟩
  | .hbm, ⟨78, _⟩ => ⟨S8x2048x2816, .f32⟩
  | .hbm, ⟨79, _⟩ => ⟨S8x2048x2816, .f32⟩
  | .hbm, ⟨80, _⟩ => ⟨S8x2048x2816, .f32⟩
  | .hbm, ⟨81, _⟩ => ⟨S8x2048x2816, .f32⟩
  | .hbm, ⟨82, _⟩ => ⟨S1x2816x1024, .f32⟩
  | .hbm, ⟨83, _⟩ => ⟨S2816x1024, .f32⟩
  | .hbm, ⟨84, _⟩ => ⟨S8x2048x1024, .f32⟩
  | .hbm, ⟨85, _⟩ => ⟨S1x1x1024, .f32⟩
  | .hbm, ⟨86, _⟩ => ⟨S1024, .f32⟩
  | .hbm, ⟨87, _⟩ => ⟨S8x2048x1024, .f32⟩
  | .hbm, ⟨88, _⟩ => ⟨S_, .f32⟩
  | .hbm, ⟨89, _⟩ => ⟨S8x2048, .f32⟩
  | .hbm, ⟨90, _⟩ => ⟨S8x2048x1, .f32⟩
  | .hbm, ⟨91, _⟩ => ⟨S_, .f32⟩
  | .hbm, ⟨92, _⟩ => ⟨S8x2048x1, .f32⟩
  | .hbm, ⟨93, _⟩ => ⟨S8x2048x1, .f32⟩
  | .hbm, ⟨94, _⟩ => ⟨S_, .f32⟩
  | .hbm, ⟨95, _⟩ => ⟨S8x2048x1, .f32⟩
  | .hbm, ⟨96, _⟩ => ⟨S8x2048x1, .f32⟩
  | .hbm, ⟨97, _⟩ => ⟨S8x2048x1, .f32⟩
  | .hbm, ⟨98, _⟩ => ⟨S8x2048x1024, .f32⟩
  | .hbm, ⟨99, _⟩ => ⟨S8x2048x1024, .f32⟩
  | .hbm, ⟨100, _⟩ => ⟨S1x1x1024, .f32⟩
  | .hbm, ⟨101, _⟩ => ⟨S8x2048x1024, .f32⟩
  | .hbm, ⟨102, _⟩ => ⟨S8x2048x1024, .f32⟩
  | .hbm, ⟨103, _⟩ => ⟨S8x2048x1024, .f32⟩
  | .hbm, ⟨104, _⟩ => ⟨S8x2048x1024, .f32⟩
  | .hbm, ⟨105, _⟩ => ⟨S8x2048x1024, .f32⟩
  | .hbm, ⟨106, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_6 : Ref sig .tc := ⟨.hbm, 88, rfl⟩
abbrev main_v66 : Ref sig .tc := ⟨.hbm, 89, rfl⟩
abbrev main_v67 : Ref sig .tc := ⟨.hbm, 90, rfl⟩
abbrev main_cst_7 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x6144 : Shape := ⟨2, ![8, 6144]⟩
abbrev S2x4x1024 : Shape := ⟨3, ![2, 4, 1024]⟩
abbrev S1x1024x1536 : Shape := ⟨3, ![1, 1024, 1536]⟩
abbrev S1x4x1024 : Shape := ⟨3, ![1, 4, 1024]⟩
abbrev S4x1024 : Shape := ⟨2, ![4, 1024]⟩
abbrev S1024x1536 : Shape := ⟨2, ![1024, 1536]⟩
abbrev S16384x1024 : Shape := ⟨2, ![16384, 1024]⟩
abbrev S8x1x6144 : Shape := ⟨3, ![8, 1, 6144]⟩
abbrev S16384x256 : Shape := ⟨2, ![16384, 256]⟩
abbrev S512x1024 : Shape := ⟨2, ![512, 1024]⟩
abbrev S1x1x6144 : Shape := ⟨3, ![1, 1, 6144]⟩
abbrev S512x256 : Shape := ⟨2, ![512, 256]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S512x1536 : Shape := ⟨2, ![512, 1536]⟩

abbrev nBuf : Space → Nat
  | .hbm => 13
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S2x4x1024, .f32⟩
  | .hbm, ⟨3, _⟩ => ⟨S1x1024x1536, .f32⟩
  | .hbm, ⟨4, _⟩ => ⟨S1x4x1024, .f32⟩
  | .hbm, ⟨5, _⟩ => ⟨S4x1024, .f32⟩
  | .hbm, ⟨6, _⟩ => ⟨S1024x1536, .f32⟩
  | .hbm, ⟨7, _⟩ => ⟨S1024x1536, .bf16⟩
  | .hbm, ⟨8, _⟩ => ⟨S16384x1024, .f32⟩
  | .hbm, ⟨9, _⟩ => ⟨S8x1x6144, .f32⟩
  | .hbm, ⟨10, _⟩ => ⟨S16384x1024, .bf16⟩
  | .hbm, ⟨11, _⟩ => ⟨S16384x256, .f32⟩
  | .hbm, ⟨12, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S4x1024, .f32⟩
  | .local _ .vmem, ⟨5, _⟩ => ⟨S1024x1536, .bf16⟩
  | .local _ .vmem, ⟨6, _⟩ => ⟨S512x1024, .bf16⟩
  | .local _ .vmem, ⟨7, _⟩ => ⟨S512x1024, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x2048x1024 : Shape := ⟨3, ![8, 2048, 1024]⟩
abbrev S8x6144 : Shape := ⟨2, ![8, 6144]⟩
abbrev S2x4x1024 : Shape := ⟨3, ![2, 4, 1024]⟩
abbrev S1x1024x1536 : Shape := ⟨3, ![1, 1024, 1536]⟩
abbrev S8x1024 : Shape := ⟨2, ![8, 1024]⟩
abbrev S8x1x1024 : Shape := ⟨3, ![8, 1, 1024]⟩
abbrev S1x1x1024 : Shape := ⟨3, ![1, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1024x1536 : Shape := ⟨2, ![1024, 1536]⟩
abbrev S8x2048x1536 : Shape := ⟨3, ![8, 2048, 1536]⟩
abbrev S16384x1024 : Shape := ⟨2, ![16384, 1024]⟩
abbrev S8x2048x256 : Shape := ⟨3, ![8, 2048, 256]⟩
abbrev S16384x256 : Shape := ⟨2, ![16384, 256]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S2x4x1024, .f32⟩
  | .hbm, ⟨3, _⟩ => ⟨S1x1024x1536, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S1x1x1024, .f32⟩
  | .hbm, ⟨17, _⟩ => ⟨S1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S1024x1536, .f32⟩
  | .hbm, ⟨42, _⟩ => ⟨S8x2048x1536, .f32⟩
  | .hbm, ⟨43, _⟩ => ⟨S8x2048x1024, .f32⟩
  | .hbm, ⟨44, _⟩ => ⟨S_, .f32⟩
  | .hbm, ⟨45, _⟩ => ⟨S8x2048x1024, .f32⟩
  | .hbm, ⟨46, _⟩ => ⟨S8x2048x1024, .f32⟩
  | .hbm, ⟨47, _⟩ => ⟨S16384x1024, .f32⟩
  | .hbm, ⟨48, _⟩ => ⟨S16384x1024, .bf16⟩
  | .hbm, ⟨49, _⟩ => ⟨S8x2048x256, .f32⟩
  | .hbm, ⟨50, _⟩ => ⟨S16384x256, .f32⟩
  | .hbm, ⟨51, _⟩ => ⟨S8x2048x256, .f32⟩
  | .hbm, ⟨52, _⟩ => ⟨S16384x256, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== Kernel4.lean ====
abbrev S128x4x1024 : Shape := ⟨3, ![128, 4, 1024]⟩
abbrev S128x6144 : Shape := ⟨2, ![128, 6144]⟩
abbrev S2x4x1024 : Shape := ⟨3, ![2, 4, 1024]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S1x4x1024 : Shape := ⟨3, ![1, 4, 1024]⟩
abbrev S4x1024 : Shape := ⟨2, ![4, 1024]⟩
abbrev S1024x1024 : Shape := ⟨2, ![1024, 1024]⟩
abbrev S4x128x1024 : Shape := ⟨3, ![4, 128, 1024]⟩
abbrev S512x1024 : Shape := ⟨2, ![512, 1024]⟩
abbrev S1x128x6144 : Shape := ⟨3, ![1, 128, 6144]⟩
abbrev S128x1024 : Shape := ⟨2, ![128, 1024]⟩
abbrev S1x1024x5632 : Shape := ⟨3, ![1, 1024, 5632]⟩
abbrev S1x2816x1024 : Shape := ⟨3, ![1, 2816, 1024]⟩
abbrev S1x128x1024 : Shape := ⟨3, ![1, 128, 1024]⟩
abbrev S1x1024 : Shape := ⟨2, ![1, 1024]⟩
abbrev S128 : Shape := ⟨1, ![128]⟩
abbrev S128x1 : Shape := ⟨2, ![128, 1]⟩
abbrev S1x1024x256 : Shape := ⟨3, ![1, 1024, 256]⟩
abbrev S1024x256 : Shape := ⟨2, ![1024, 256]⟩
abbrev S128x256 : Shape := ⟨2, ![128, 256]⟩
abbrev S1x256x1024 : Shape := ⟨3, ![1, 256, 1024]⟩
abbrev S256x1024 : Shape := ⟨2, ![256, 1024]⟩

abbrev nBuf : Space → Nat
  | .hbm => 20
  | .vmem => 12
  | .smem => 0
  | _ => 0

abbrev bufTy : (tb : Table) → Fin (tcTables nBuf tb) → BufTy
  | .hbm, ⟨0, _⟩ => ⟨S128x4x1024, .f32⟩
  | .hbm, ⟨1, _⟩ => ⟨S128x4x1024, .f32⟩
  | .hbm, ⟨2, _⟩ => ⟨S128x6144, .f32⟩
  | .hbm, ⟨3, _⟩ => ⟨S2x4x1024, .f32⟩
  | .hbm, ⟨4, _⟩ => ⟨S1x1024x1024, .f32⟩
  | .hbm, ⟨5, _⟩ => ⟨S2x1024x5632, .f32⟩
  | .hbm, ⟨6, _⟩ => ⟨S2x2816x1024, .f32⟩
  | .hbm, ⟨7, _⟩ => ⟨S1x4x1024, .f32⟩
  | .hbm, ⟨8, _⟩ => ⟨S4x1024, .f32⟩
  | .hbm, ⟨9, _⟩ => ⟨S1024x1024, .f32⟩
  | .hbm, ⟨10, _⟩ => ⟨S1024x1024, .bf16⟩
  | .hbm, ⟨11, _⟩ => ⟨S2x1024x5632, .bf16⟩
  | .hbm, ⟨12, _⟩ => ⟨S2x2816x1024, .bf16⟩
  | .hbm, ⟨13, _⟩ => ⟨S4x128x1024, .f32⟩
  | .hbm, ⟨14, _⟩ => ⟨S512x1024, .f32⟩
  | .hbm, ⟨15, _⟩ => ⟨S4x128x1024, .f32⟩
  | .hbm, ⟨16, _⟩ => ⟨S512x1024, .f32⟩
  | .hbm, ⟨17, _⟩ => ⟨S512x1024, .bf16⟩
  | .hbm, ⟨18, _⟩ => ⟨S1x128x6144, .f32⟩
  | .hbm, ⟨19, _⟩ => ⟨S512x1024, .f32⟩
  | .local _ .vmem, ⟨0, _⟩ => ⟨S128x1024, .bf16⟩
  | .local _ .vmem, ⟨1, _⟩ => ⟨S128x1024, .bf16⟩
  | .local _ .vmem, ⟨2, _⟩ => ⟨S128x1024, .f32⟩
  | .local _ .vmem, ⟨3, _⟩ => ⟨S128x1024, .f32⟩
  | .local _ .vmem, ⟨4, _⟩ => ⟨S1x128x6144, .f32⟩
  | .local _ .vmem, ⟨5, _⟩ => ⟨S1x128x6144, .f32⟩
  | .local _ .vmem, ⟨6, _⟩ => ⟨S4x1024, .f32⟩
  | .local _ .vmem, ⟨7, _⟩ => ⟨S1024x1024, .bf16⟩
  | .local _ .vmem, ⟨8, _⟩ => ⟨S1x1024x5632, .bf16⟩
  | .local _ .vmem, ⟨9, _⟩ => ⟨S1x2816x1024, .bf16⟩
  | .local _ .vmem, ⟨10, _⟩ => ⟨S128x1024, .f32⟩
  | .local _ .vmem, ⟨11, _⟩ => ⟨S128x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S128x4x1024 : Shape := ⟨3, ![128, 4, 1024]⟩
abbrev S128x6144 : Shape := ⟨2, ![128, 6144]⟩
abbrev S2x4x1024 : Shape := ⟨3, ![2, 4, 1024]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S128x1024 : Shape := ⟨2, ![128, 1024]⟩
abbrev S128x1x1024 : Shape := ⟨3, ![128, 1, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1024x5632 : Shape := ⟨3, ![1, 1024, 5632]⟩
abbrev S1024x5632 : Shape := ⟨2, ![1024, 5632]⟩
abbrev S128x4x5632 : Shape := ⟨3, ![128, 4, 5632]⟩
abbrev S128x4x2816 : Shape := ⟨3, ![128, 4, 2816]⟩
abbrev S1x2816x1024 : Shape := ⟨3, ![1, 2816, 1024]⟩
abbrev S2816x1024 : Shape := ⟨2, ![2816, 1024]⟩
abbrev S4x128x1024 : Shape := ⟨3, ![4, 128, 1024]⟩
abbrev S512x1024 : Shape := ⟨2, ![512, 1024]⟩

abbrev nBuf : Space → Nat
  | .hbm => 108
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x4x1024, .f32⟩
  | .hbm, ⟨2, _⟩ => ⟨S128x6144, .f32⟩
  | .hbm, ⟨3, _⟩ => ⟨S2x4x1024, .f32⟩
  | .hbm, ⟨4, _⟩ => ⟨S1x1024x1024, .f32⟩
  | .hbm, ⟨5, _⟩ => ⟨S2x1024x5632, .f32⟩
  | .hbm, ⟨6, _⟩ => ⟨S2x2816x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1x1024, .f32⟩
  | .hbm, ⟨14, _⟩ => ⟨S128x1x1024, .f32⟩
  | .hbm, ⟨15, _⟩ => ⟨S128x1x1024, .f32⟩
  | .hbm, ⟨16, _⟩ => ⟨S128x1x1024, .f32⟩
  | .hbm, ⟨17, _⟩ => ⟨S128x1x1024, .f32⟩
  | .hbm, ⟨18, _⟩ => ⟨S128x1x1024, .f32⟩
  | .hbm, ⟨19, _⟩ => ⟨S1024x1024, .f32⟩
  | .hbm, ⟨20, _⟩ => ⟨S128x4x1024, .f32⟩
  | .hbm, ⟨21, _⟩ => ⟨S1x1x1024, .f32⟩
  | .hbm, ⟨22, _⟩ => ⟨S1024, .f32⟩
  | .hbm, ⟨23, _⟩ => ⟨S128x4x1024, .f32⟩
  | .hbm, ⟨24, _⟩ => ⟨S_, .f32⟩
  | .hbm, ⟨25, _⟩ => ⟨S128x4, .f32⟩
  | .hbm, ⟨26, _⟩ => ⟨S128x4x1, .f32⟩
  | .hbm, ⟨27, _⟩ => ⟨S_, .f32⟩
  | .hbm, ⟨28, _⟩ => ⟨S128x4x1, .f32⟩
  | .hbm, ⟨29, _⟩ => ⟨S128x4x1, .f32⟩
  | .hbm, ⟨30, _⟩ => ⟨S_, .f32⟩
  | .hbm, ⟨31, _⟩ => ⟨S128x4x1, .f32⟩
  | .hbm, ⟨32, _⟩ => ⟨S128x4x1, .f32⟩
  | .hbm, ⟨33, _⟩ => ⟨S128x4x1, .f32⟩
  | .hbm, ⟨34, _⟩ => ⟨S128x4x1024, .f32⟩
  | .hbm, ⟨35, _⟩ => ⟨S128x4x1024, .f32⟩
  | .hbm, ⟨36, _⟩ => ⟨S1x1x1024, .f32⟩
  | .hbm, ⟨37, _⟩ => ⟨S128x4x1024, .f32⟩
  | .hbm, ⟨38, _⟩ => ⟨S128x4x1024, .f32⟩
  | .hbm, ⟨39, _⟩ => ⟨S128x4x1024, .f32⟩
  | .hbm, ⟨40, _⟩ => ⟨S128x4x1024, .f32⟩
  | .hbm, ⟨41, _⟩ => ⟨S128x4x1024, .f32⟩
  | .hbm, ⟨42, _⟩ => ⟨S1x1x1024, .f32⟩
  | .hbm, ⟨43, _⟩ => ⟨S1024, .f32⟩
  | .hbm, ⟨44, _⟩ => ⟨S128x4x1024, .f32⟩
  | .hbm, ⟨45, _⟩ => ⟨S_, .f32⟩
  | .hbm, ⟨46, _⟩ => ⟨S128x4, .f32⟩
  | .hbm, ⟨47, _⟩ => ⟨S128x4x1, .f32⟩
  | .hbm, ⟨48, _⟩ => ⟨S_, .f32⟩
  | .hbm, ⟨49, _⟩ => ⟨S128x4x1, .f32⟩
  | .hbm, ⟨50, _⟩ => ⟨S128x4x1, .f32⟩
  | .hbm, ⟨51, _⟩ => ⟨S_, .f32⟩
  | .hbm, ⟨52, _⟩ => ⟨S128x4x1, .f32⟩
  | .hbm, ⟨53, _⟩ => ⟨S128x4x1, .f32⟩
  | .hbm, ⟨54, _⟩ => ⟨S128x4x1, .f32⟩
  | .hbm, ⟨55, _⟩ => ⟨S128x4x1024, .f32⟩
  | .hbm, ⟨56, _⟩ => ⟨S128x4x1024, .f32⟩
  | .hbm, ⟨57, _⟩ => ⟨S1x1x1024, .f32⟩
  | .hbm, ⟨58, _⟩ => ⟨S128x4x1024, .f32⟩
  | .hbm, ⟨59, _⟩ => ⟨S128x4x1024, .f32⟩
  | .hbm, ⟨60, _⟩ => ⟨S_, .f32⟩
  | .hbm, ⟨61, _⟩ => ⟨S128x1x1024, .f32⟩
  | .hbm, ⟨62, _⟩ => ⟨S128x1x1024, .f32⟩
  | .hbm, ⟨63, _⟩ => ⟨S128x4x1024, .f32⟩
  | .hbm, ⟨64, _⟩ => ⟨S128x4x1024, .f32⟩
  | .hbm, ⟨65, _⟩ => ⟨S128x4x1024, .f32⟩
  | .hbm, ⟨66, _⟩ => ⟨S128x4x1024, .f32⟩
  | .hbm, ⟨67, _⟩ => ⟨S1x1024x5632, .f32⟩
  | .hbm, ⟨68, _⟩ => ⟨S1024x5632, .f32⟩
  | .hbm, ⟨69, _⟩ => ⟨S128x4x5632, .f32⟩
  | .hbm, ⟨70, _⟩ => ⟨S128x4x2816, .f32⟩
  | .hbm, ⟨71, _⟩ => ⟨S128x4x2816, .f32⟩
  | .hbm, ⟨72, _⟩ => ⟨S128x4x2816, .f32⟩
  | .hbm, ⟨73, _⟩ => ⟨S128x4x2816, .f32⟩
  | .hbm, ⟨74, _⟩ => ⟨S_, .f32⟩
  | .hbm, ⟨75, _⟩ => ⟨S128x4x2816, .f32⟩
  | .hbm, ⟨76, _⟩ => ⟨S128x4x2816, .f32⟩
  | .hbm, ⟨77, _⟩ => ⟨S_, .f32⟩
  | .hbm, ⟨78, _⟩ => ⟨S128x4x2816, .f32⟩
  | .hbm, ⟨79, _⟩ => ⟨S128x4x2816, .f32⟩
  | .hbm, ⟨80, _⟩ => ⟨S128x4x2816, .f32⟩
  | .hbm, ⟨81, _⟩ => ⟨S128x4x2816, .f32⟩
  | .hbm, ⟨82, _⟩ => ⟨S1x2816x1024, .f32⟩
  | .hbm, ⟨83, _⟩ => ⟨S2816x1024, .f32⟩
  | .hbm, ⟨84, _⟩ => ⟨S128x4x1024, .f32⟩
  | .hbm, ⟨85, _⟩ => ⟨S1x1x1024, .f32⟩
  | .hbm, ⟨86, _⟩ => ⟨S1024, .f32⟩
  | .hbm, ⟨87, _⟩ => ⟨S128x4x1024, .f32⟩
  | .hbm, ⟨88, _⟩ => ⟨S_, .f32⟩
  | .hbm, ⟨89, _⟩ => ⟨S128x4, .f32⟩
  | .hbm, ⟨90, _⟩ => ⟨S128x4x1, .f32⟩
  | .hbm, ⟨91, _⟩ => ⟨S_, .f32⟩
  | .hbm, ⟨92, _⟩ => ⟨S128x4x1, .f32⟩
  | .hbm, ⟨93, _⟩ => ⟨S128x4x1, .f32⟩
  | .hbm, ⟨94, _⟩ => ⟨S_, .f32⟩
  | .hbm, ⟨95, _⟩ => ⟨S128x4x1, .f32⟩
  | .hbm, ⟨96, _⟩ => ⟨S128x4x1, .f32⟩
  | .hbm, ⟨97, _⟩ => ⟨S128x4x1, .f32⟩
  | .hbm, ⟨98, _⟩ => ⟨S128x4x1024, .f32⟩
  | .hbm, ⟨99, _⟩ => ⟨S128x4x1024, .f32⟩
  | .hbm, ⟨100, _⟩ => ⟨S1x1x1024, .f32⟩
  | .hbm, ⟨101, _⟩ => ⟨S128x4x1024, .f32⟩
  | .hbm, ⟨102, _⟩ => ⟨S128x4x1024, .f32⟩
  | .hbm, ⟨103, _⟩ => ⟨S128x4x1024, .f32⟩
  | .hbm, ⟨104, _⟩ => ⟨S128x4x1024, .f32⟩
  | .hbm, ⟨105, _⟩ => ⟨S128x4x1024, .f32⟩
  | .hbm, ⟨106, _⟩ => ⟨S4x128x1024, .f32⟩
  | .hbm, ⟨107, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_6 : Ref sig .tc := ⟨.hbm, 88, rfl⟩
abbrev main_v66 : Ref sig .tc := ⟨.hbm, 89, rfl⟩
abbrev main_v67 : Ref sig .tc := ⟨.hbm, 90, rfl⟩
abbrev main_cst_7 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩

abbrev nD : Nat := 1
abbrev τ : Topo := Topo.v7x

variable {F : FTy → Type} [FloatOps F]
-- ==== Kernel5.lean ====
abbrev S136x1024 : Shape := ⟨2, ![136, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x136x6144 : Shape := ⟨3, ![2, 136, 6144]⟩
abbrev S1x1024x1024 : Shape := ⟨3, ![1, 1024, 1024]⟩
abbrev S1x1x1024 : Shape := ⟨3, ![1, 1, 1024]⟩
abbrev S1x136x1024 : Shape := ⟨3, ![1, 136, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S136x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x136x6144, .f32⟩
  | .local _ .vmem, ⟨0, _⟩ => ⟨S136x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x136x1024, .f32⟩
  | .local _ .vmem, ⟨6, _⟩ => ⟨S1x136x1024, .f32⟩
  | _, _ => ⟨S136x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S136x1024 : Shape := ⟨2, ![136, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S136x6144 : Shape := ⟨2, ![136, 6144]⟩
abbrev S1x6144 : Shape := ⟨2, ![1, 6144]⟩
abbrev S6144 : Shape := ⟨1, ![6144]⟩
abbrev S1x136x6144 : Shape := ⟨3, ![1, 136, 6144]⟩
abbrev S2x136x6144 : Shape := ⟨3, ![2, 136, 6144]⟩

abbrev nBuf : Space → Nat
  | .hbm => 40
  | .vmem => 0
  | .smem => 0
  | _ => 0

abbrev bufTy : (tb : Table) → Fin (tcTables nBuf tb) → BufTy
  | .hbm, ⟨0, _⟩ => ⟨S136x1024, .f32⟩
  | .hbm, ⟨1, _⟩ => ⟨S2x1024x6144, .f32⟩
  | .hbm, ⟨2, _⟩ => ⟨S2x6144, .f32⟩
  | .hbm, ⟨3, _⟩ => ⟨S136x1024, .f32⟩
  | .hbm, ⟨4, _⟩ => ⟨S136x1024, .f32⟩
  | .hbm, ⟨5, _⟩ => ⟨S_, .f32⟩
  | .hbm, ⟨6, _⟩ => ⟨S136x1024, .f32⟩
  | .hbm, ⟨7, _⟩ => ⟨S136x1024, .f32⟩
  | .hbm, ⟨8, _⟩ => ⟨S_, .f32⟩
  | .hbm, ⟨9, _⟩ => ⟨S136x1024, .f32⟩
  | .hbm, ⟨10, _⟩ => ⟨S136x1024, .f32⟩
  | .hbm, ⟨11, _⟩ => ⟨S136x1024, .f32⟩
  | .hbm, ⟨12, _⟩ => ⟨S1x1024x6144, .f32⟩
  | .hbm, ⟨13, _⟩ => ⟨S1024x6144, .f32⟩
  | .hbm, ⟨14, _⟩ => ⟨S136x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S136x6144, .f32⟩
  | .hbm, ⟨19, _⟩ => ⟨S136x6144, .f32⟩
  | .hbm, ⟨20, _⟩ => ⟨S136x1024, .f32⟩
  | .hbm, ⟨21, _⟩ => ⟨S136x1024, .f32⟩
  | .hbm, ⟨22, _⟩ => ⟨S_, .f32⟩
  | .hbm, ⟨23, _⟩ => ⟨S136x1024, .f32⟩
  | .hbm, ⟨24, _⟩ => ⟨S136x1024, .f32⟩
  | .hbm, ⟨25, _⟩ => ⟨S_, .f32⟩
  | .hbm, ⟨26, _⟩ => ⟨S136x1024, .f32⟩
  | .hbm, ⟨27, _⟩ => ⟨S136x1024, .f32⟩
  | .hbm, ⟨28, _⟩ => ⟨S136x1024, .f32⟩
  | .hbm, ⟨29, _⟩ => ⟨S1x1024x6144, .f32⟩
  | .hbm, ⟨30, _⟩ => ⟨S1024x6144, .f32⟩
  | .hbm, ⟨31, _⟩ => ⟨S136x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S136x6144, .f32⟩
  | .hbm, ⟨36, _⟩ => ⟨S136x6144, .f32⟩
  | .hbm, ⟨37, _⟩ => ⟨S1x136x6144, .f32⟩
  | .hbm, ⟨38, _⟩ => ⟨S1x136x6144, .f32⟩
  | .hbm, ⟨39, _⟩ => ⟨S2x136x6144, .f32⟩
  | _, _ => ⟨S136x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel6.lean ====
abbrev S128x4x1024 : Shape := ⟨3, ![128, 4, 1024]⟩
abbrev S128x6144 : Shape := ⟨2, ![128, 6144]⟩
abbrev S2x4x1024 : Shape := ⟨3, ![2, 4, 1024]⟩
abbrev S1x1024x2048 : Shape := ⟨3, ![1, 1024, 2048]⟩
abbrev S1x4x1024 : Shape := ⟨3, ![1, 4, 1024]⟩
abbrev S4x1024 : Shape := ⟨2, ![4, 1024]⟩
abbrev S1024x2048 : Shape := ⟨2, ![1024, 2048]⟩
abbrev S4x128x1024 : Shape := ⟨3, ![4, 128, 1024]⟩
abbrev S512x1024 : Shape := ⟨2, ![512, 1024]⟩
abbrev S1x128x6144 : Shape := ⟨3, ![1, 128, 6144]⟩
abbrev S512x512 : Shape := ⟨2, ![512, 512]⟩
abbrev S128x1024 : Shape := ⟨2, ![128, 1024]⟩
abbrev S128x512 : Shape := ⟨2, ![128, 512]⟩
abbrev S1x128x1024 : Shape := ⟨3, ![1, 128, 1024]⟩
abbrev S1x1024 : Shape := ⟨2, ![1, 1024]⟩
abbrev S128 : Shape := ⟨1, ![128]⟩
abbrev S128x1 : Shape := ⟨2, ![128, 1]⟩
abbrev S128x2048 : Shape := ⟨2, ![128, 2048]⟩

abbrev nBuf : Space → Nat
  | .hbm => 14
  | .vmem => 12
  | .smem => 0
  | _ => 0

abbrev bufTy : (tb : Table) → Fin (tcTables nBuf tb) → BufTy
  | .hbm, ⟨0, _⟩ => ⟨S128x4x1024, .f32⟩
  | .hbm, ⟨1, _⟩ => ⟨S128x6144, .f32⟩
  | .hbm, ⟨2, _⟩ => ⟨S2x4x1024, .f32⟩
  | .hbm, ⟨3, _⟩ => ⟨S1x1024x2048, .f32⟩
  | .hbm, ⟨4, _⟩ => ⟨S1x4x1024, .f32⟩
  | .hbm, ⟨5, _⟩ => ⟨S4x1024, .f32⟩
  | .hbm, ⟨6, _⟩ => ⟨S1024x2048, .f32⟩
  | .hbm, ⟨7, _⟩ => ⟨S1024x2048, .bf16⟩
  | .hbm, ⟨8, _⟩ => ⟨S4x128x1024, .f32⟩
  | .hbm, ⟨9, _⟩ => ⟨S512x1024, .f32⟩
  | .hbm, ⟨10, _⟩ => ⟨S1x128x6144, .f32⟩
  | .hbm, ⟨11, _⟩ => ⟨S512x1024, .bf16⟩
  | .hbm, ⟨12, _⟩ => ⟨S512x512, .f32⟩
  | .hbm, ⟨13, _⟩ => ⟨S512x512, .f32⟩
  | .local _ .vmem, ⟨0, _⟩ => ⟨S128x1024, .f32⟩
  | .local _ .vmem, ⟨1, _⟩ => ⟨S128x1024, .f32⟩
  | .local _ .vmem, ⟨2, _⟩ => ⟨S1x128x6144, .f32⟩
  | .local _ .vmem, ⟨3, _⟩ => ⟨S1x128x6144, .f32⟩
  | .local _ .vmem, ⟨4, _⟩ => ⟨S4x1024, .f32⟩
  | .local _ .vmem, ⟨5, _⟩ => ⟨S1024x2048, .bf16⟩
  | .local _ .vmem, ⟨6, _⟩ => ⟨S128x1024, .bf16⟩
  | .local _ .vmem, ⟨7, _⟩ => ⟨S128x1024, .bf16⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S128x4x1024 : Shape := ⟨3, ![128, 4, 1024]⟩
abbrev S128x6144 : Shape := ⟨2, ![128, 6144]⟩
abbrev S2x4x1024 : Shape := ⟨3, ![2, 4, 1024]⟩
abbrev S1x1024x2048 : Shape := ⟨3, ![1, 1024, 2048]⟩
abbrev S128x1024 : Shape := ⟨2, ![128, 1024]⟩
abbrev S128x1x1024 : Shape := ⟨3, ![128, 1, 1024]⟩
abbrev S1x1x1024 : Shape := ⟨3, ![1, 1, 1024]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1024x2048 : Shape := ⟨2, ![1024, 2048]⟩
abbrev S128x4x2048 : Shape := ⟨3, ![128, 4, 2048]⟩
abbrev S4x128x2048 : Shape := ⟨3, ![4, 128, 2048]⟩
abbrev S512x2048 : Shape := ⟨2, ![512, 2048]⟩
abbrev S512x1024 : Shape := ⟨2, ![512, 1024]⟩
abbrev S512x512 : Shape := ⟨2, ![512, 512]⟩

abbrev nBuf : Space → Nat
  | .hbm => 52
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x6144, .f32⟩
  | .hbm, ⟨2, _⟩ => ⟨S2x4x1024, .f32⟩
  | .hbm, ⟨3, _⟩ => ⟨S1x1024x2048, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1x1024, .f32⟩
  | .hbm, ⟨11, _⟩ => ⟨S128x1x1024, .f32⟩
  | .hbm, ⟨12, _⟩ => ⟨S128x1x1024, .f32⟩
  | .hbm, ⟨13, _⟩ => ⟨S128x1x1024, .f32⟩
  | .hbm, ⟨14, _⟩ => ⟨S128x1x1024, .f32⟩
  | .hbm, ⟨15, _⟩ => ⟨S128x1x1024, .f32⟩
  | .hbm, ⟨16, _⟩ => ⟨S1x1x1024, .f32⟩
  | .hbm, ⟨17, _⟩ => ⟨S1024, .f32⟩
  | .hbm, ⟨18, _⟩ => ⟨S128x4x1024, .f32⟩
  | .hbm, ⟨19, _⟩ => ⟨S_, .f32⟩
  | .hbm, ⟨20, _⟩ => ⟨S128x4, .f32⟩
  | .hbm, ⟨21, _⟩ => ⟨S128x4x1, .f32⟩
  | .hbm, ⟨22, _⟩ => ⟨S_, .f32⟩
  | .hbm, ⟨23, _⟩ => ⟨S128x4x1, .f32⟩
  | .hbm, ⟨24, _⟩ => ⟨S128x4x1, .f32⟩
  | .hbm, ⟨25, _⟩ => ⟨S_, .f32⟩
  | .hbm, ⟨26, _⟩ => ⟨S128x4x1, .f32⟩
  | .hbm, ⟨27, _⟩ => ⟨S128x4x1, .f32⟩
  | .hbm, ⟨28, _⟩ => ⟨S128x4x1, .f32⟩
  | .hbm, ⟨29, _⟩ => ⟨S128x4x1024, .f32⟩
  | .hbm, ⟨30, _⟩ => ⟨S128x4x1024, .f32⟩
  | .hbm, ⟨31, _⟩ => ⟨S1x1x1024, .f32⟩
  | .hbm, ⟨32, _⟩ => ⟨S128x4x1024, .f32⟩
  | .hbm, ⟨33, _⟩ => ⟨S128x4x1024, .f32⟩
  | .hbm, ⟨34, _⟩ => ⟨S_, .f32⟩
  | .hbm, ⟨35, _⟩ => ⟨S128x1x1024, .f32⟩
  | .hbm, ⟨36, _⟩ => ⟨S128x1x1024, .f32⟩
  | .hbm, ⟨37, _⟩ => ⟨S128x4x1024, .f32⟩
  | .hbm, ⟨38, _⟩ => ⟨S128x4x1024, .f32⟩
  | .hbm, ⟨39, _⟩ => ⟨S128x4x1024, .f32⟩
  | .hbm, ⟨40, _⟩ => ⟨S128x4x1024, .f32⟩
  | .hbm, ⟨41, _⟩ => ⟨S1024x2048, .f32⟩
  | .hbm, ⟨42, _⟩ => ⟨S128x4x2048, .f32⟩
  | .hbm, ⟨43, _⟩ => ⟨S4x128x2048, .f32⟩
  | .hbm, ⟨44, _⟩ => ⟨S512x2048, .f32⟩
  | .hbm, ⟨45, _⟩ => ⟨S512x1024, .f32⟩
  | .hbm, ⟨46, _⟩ => ⟨S_, .f32⟩
  | .hbm, ⟨47, _⟩ => ⟨S512x1024, .f32⟩
  | .hbm, ⟨48, _⟩ => ⟨S512x1024, .f32⟩
  | .hbm, ⟨49, _⟩ => ⟨S512x1024, .bf16⟩
  | .hbm, ⟨50, _⟩ => ⟨S512x512, .f32⟩
  | .hbm, ⟨51, _⟩ => ⟨S512x512, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== Proof.Model.lean ====
/-
  What one grid point of the attention kernel computes, as functions of the blocks it reads: the
  scores of one chunk of keys, one update of the running softmax state, and the state after all the
  chunks a query block attends to.
-/
module

public import Idealize.ShloMosaic.Lib.VecWindow
public import proofs.«01_k».proof.Proof.Gen.KernelIdeal.Skeleton

@[expose] public section

noncomputable section

namespace Cert.KernelIdeal.Model

open Idealize.ShloMosaic Idealize.SL.Sem
open Cert.KernelIdeal Cert.KernelIdeal.Gen

variable {F : FTy → Type} [FloatOps F] [Named F]

/-- Rows `256 n … 256 n + 255` of the keys of one head. -/
def kblk (K : Vec F S2048x128 .bf16) (n : ℕ) : Vec F S256x128 .bf16 :=
  fun y => K (fun a => match a with
    | 0 => (⟨(n * 256 + (y 0).val) % 2048, Nat.mod_lt _ (by decide)⟩ : Fin 2048)
    | 1 => (y 1 : Fin 128))

/-- Chunk `n` of the (transposed) values of one head. -/
def vblk (V : Vec F S8x128x256 .bf16) (n : ℕ) : Vec F S1x128x256 .bf16 :=
  fun y => V (fun a => match a with
    | 0 => (⟨n % 8, Nat.mod_lt _ (by decide)⟩ : Fin 8)
    | 1 => (y 1 : Fin 128)
    | 2 => (y 2 : Fin 256))

/-- The running state of the softmax: the maxima, the sums of weights, the weighted sums of values. -/
abbrev State (F : FTy → Type) : Type := FVec F S1x1024 .f32 × FVec F S1x1024 .f32 × FVec F S128x1024 .f32

/-- The state before any chunk. -/
def init : State F := (k0_pay85, k0_pay86, k0_pay87)

/-- The scores of chunk `n`: its keys against the four columns of queries. -/
def scores (K : Vec F S2048x128 .bf16) (Q : Vec F S128x1024 .bf16) (n : ℕ) : FVec F S256x1024 .f32 := k0_pay22 (kblk K n) Q

/-- One update of the state by a chunk with biased scores `s`, `w` blocks from the queries, values `V`. -/
def upd (slope : FVec F S1x1024 .f32) (s : FVec F S256x1024 .f32) (w : BitVec 32) (V : Vec F S1x128x256 .bf16) (st : State F) : State F :=
  (k0_pay25 slope s w st.1, k0_pay28 slope s w st.1 st.2.1, k0_pay29 slope s w st.1 st.2.2 V)

/-- How many blocks chunk `n` lies from query block `i`. -/
def dist (n i : ℕ) : BitVec 32 := BitVec.ofNat 32 n - BitVec.ofNat 32 i

/-- The state after the first `n` chunks, none of which reaches the diagonal of query block `i`. -/
def states (K : Vec F S2048x128 .bf16) (V : Vec F S8x128x256 .bf16) (Q : Vec F S128x1024 .bf16) (slope : FVec F S1x1024 .f32)
    (bias : FVec F S256x1024 .f32) (i : ℕ) : ℕ → State F
  | 0 => init
  | n + 1 => upd slope (k0_pay23 (scores K Q n) bias) (dist n i) (vblk V n) (states K V Q slope bias i n)

/-- The state after the chunks `0 … i`, the last one under the causal mask. -/
def final (K : Vec F S2048x128 .bf16) (V : Vec F S8x128x256 .bf16) (Q : Vec F S128x1024 .bf16) (slope : FVec F S1x1024 .f32)
    (bias dbias : FVec F S256x1024 .f32) (i : ℕ) : State F :=
  upd slope (k0_pay23 (scores K Q i) dbias) (dist i i) (vblk V i) (states K V Q slope bias i i)

/-- Four blocks of 128×256 side by side, in the kernel's order of writing. -/
def quads (a b c d : Vec F S128x256 .bf16) : Vec F S128x1024 .bf16 :=
  VecWindow.put (VecWindow.put (VecWindow.put (VecWindow.put (fun _ => a (fun j => ⟨0, by fin_cases j <;> decide⟩)) ![0, 0] S128x256.size a)
    ![0, 512] S128x256.size b) ![0, 256] S128x256.size c) ![0, 768] S128x256.size d

/-- Four blocks of 256×256 side by side, in the kernel's order of writing. -/
def quads' (a b c d : Vec F S256x256 .f32) : Vec F S256x1024 .f32 :=
  VecWindow.put (VecWindow.put (VecWindow.put (VecWindow.put (fun _ => a (fun j => ⟨0, by fin_cases j <;> decide⟩)) ![0, 0] S256x256.size a)
    ![0, 512] S256x256.size b) ![0, 256] S256x256.size c) ![0, 768] S256x256.size d

/-- The queries of one block as the kernel lays them out: a column block for each map and head. -/
def qmat (X : Vec F S1x256x256 .f32) : Vec F S128x1024 .bf16 :=
  let h0 := VecWindow.window X ![0, 0, 0] S1x128x256.size (by intro a; fin_cases a <;> decide)
  let h1 := VecWindow.window X ![0, 128, 0] S1x128x256.size (by intro a; fin_cases a <;> decide)
  quads (k0_pay76 h0) (k0_pay77 h0) (k0_pay79 h1) (k0_pay80 h1)

/-- Entry `n` of the table of slopes. -/
def slot (S : Vec F S8 .f32) (n : ℕ) : F .f32 := S (fun a => match a with | 0 => (⟨n % 8, Nat.mod_lt _ (by decide)⟩ : Fin 8))

/-- The bias of the chunks below the diagonal, for the heads `2j` and `2j+1`. -/
def biasV (S : Vec F S8 .f32) (j : ℕ) : Vec F S256x1024 .f32 :=
  quads' (k0_pay6 (slot S (2 * j))) (k0_pay8 (slot S (2 * j))) (k0_pay81 (k0_pay10 (slot S (2 * j + 1)))) (k0_pay83 (k0_pay10 (slot S (2 * j + 1))))

/-- The bias of the chunk on the diagonal, with the causal mask. -/
def dbiasV (S : Vec F S8 .f32) (j : ℕ) : Vec F S256x1024 .f32 :=
  quads' (k0_pay7 (slot S (2 * j))) (k0_pay9 (slot S (2 * j))) (k0_pay82 (k0_pay11 (slot S (2 * j + 1)))) (k0_pay84 (k0_pay11 (slot S (2 * j + 1))))

/-- The slope of each column, in base-2 units. -/
def slopeV (S : Vec F S8 .f32) (j : ℕ) : FVec F S1x1024 .f32 :=
  k0_pay89 k0_pay88 2#32 (Scalar.cmpi .eq 2#32 0#32) (slot S (2 * j)) (slot S (2 * j + 1))

/-- The output block from the final state: the difference of the two maps, normalised, scaled and turned round. -/
def outOf (lam : Vec F S4x64 .f32) (sub : Vec F S128x1 .f32) (st : State F) : Vec F S256x256 .bf16 :=
  let a : FVec F S256x128 .bf16 := k0_pay1 (k0_pay97 lam st.2.2 st.2.1) (k0_pay98 lam st.2.2 st.2.1) sub
  VecWindow.put (VecWindow.put (fun _ => a (fun j => ⟨0, by fin_cases j <;> decide⟩)) ![0, 0] S256x128.size a)
    ![0, 128] S256x128.size (k0_pay2 (k0_pay95 lam) (k0_pay96 st.2.2 st.2.1) sub)

/-- The output block of query block `i` for the heads `2j`, `2j+1`, from the blocks the kernel reads. -/
def outV (S : Vec F S8 .f32) (X : Vec F S1x256x256 .f32) (K : Vec F S2048x128 .bf16) (V : Vec F S8x128x256 .bf16) (lam : Vec F S4x64 .f32)
    (sub : Vec F S128x1 .f32) (j i : ℕ) : Vec F S256x256 .bf16 :=
  outOf lam sub (final K V (qmat X) (slopeV S j) (biasV S j) (dbiasV S j) i)

end Cert.KernelIdeal.Model
-- ==== Proof.Run.Base.lean ====
/-
  How the kernel's buffers are held in the run: by the value read through them; and what the loads
  at the kernel's offsets read of a held buffer.
-/
module

public import Idealize.ShloMosaic.Lib.VecWindow
public import Idealize.ShloMosaic.Lib.Pipeline.Value
public import Idealize.ShloMosaic.Lib.Pipeline.TableIdle
public import proofs.«01_k».proof.Proof.Gen.KernelIdeal.Skeleton
public import proofs.«01_k».proof.Proof.Gen.KernelIdeal.Loops
public import proofs.«01_k».proof.Proof.Model
public import Idealize.ShloMosaic.Lib.Tactic.Stretches

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Model

variable {F : FTy → Type} [FloatOps F] [Named F]

local notation "𝕄G" => MT nD τ sig Unit (Elt F) ℕ (UR sig nD τ) ℕ

/-- The buffer behind `m`, held whole, holding the vector `X`. -/
abbrev holds (c : Dev nD) {sp : Space} {s : Shape} {e : EltTy} (m : Memref sig .tc sp s e) (X : s.Idx → Elt F e) : sProp 𝕄G :=
  iprop(m.view.loc (c : Thread nD τ) ↦[m.view.set]{fullShare} m.view.rep X)

/-- A buffer held at some contents is held at the vector these contents read as. -/
theorem holds_intro (c : Dev nD) {sp : Space} {s : Shape} {e : EltTy} (m : Memref sig .tc sp s e) (X : s.Idx → Elt F e) :
    iprop(∃ g, ⌜m.view.read (Elt F) g = X⌝ ∗ m.view.loc (c : Thread nD τ) ↦[m.view.set]{fullShare} g) ⊢ (holds c m X : sProp 𝕄G) :=
  rep_of_owns (c : Thread nD τ) m fullShare X

/-- A load of the whole of a held buffer reads the vector it holds. -/
theorem rd {sp : Space} {s : Shape} {e : EltTy} (m : Memref sig .tc sp s e) (X : s.Idx → Elt F e) (off : Fin s.rank → ℕ)
    (inb : ∀ a, off a + s.size a ≤ s.size a) : m.view.readAt (Elt F) (Rect.unit off s.size inb).toLoadRect (m.view.rep X) = X :=
  View.readAt_rep_full m.view X inb

/-- A load of the whole buffer after a store of the whole buffer reads what was stored. -/
theorem rc {sp : Space} {s : Shape} {e : EltTy} (m : Memref sig .tc sp s e) (w : s.Idx → Elt F e) (off off' : Fin s.rank → ℕ)
    (inb : ∀ a, off a + s.size a ≤ s.size a) (inb' : ∀ a, off' a + s.size a ≤ s.size a) (L : List (View.Piece (Elt F) s e)) :
    m.view.readCov (⟨Rect.unit off' s.size inb', w⟩ :: L) (Rect.unit off s.size inb).toLoadRect = w :=
  View.readCov_full m.view inb inb' w L

theorem off1_zero (i : grid0.Coords) : k0_off1 i 0#32 = ![2 * (i 1).val] := by
  unfold k0_off1
  have hi : (i 1).val < 4 := (i 1).isLt
  generalize (i 1).val = n at hi
  interval_cases n <;> rfl

theorem off1_one (i : grid0.Coords) : k0_off1 i 1#32 = ![2 * (i 1).val + 1] := by
  unfold k0_off1
  have hi : (i 1).val < 4 := (i 1).isLt
  generalize (i 1).val = n at hi
  interval_cases n <;> rfl

theorem off2_eq (i : grid0.Coords) : k0_off2 i = ![2 * (i 1).val] := by
  unfold k0_off2
  have hi : (i 1).val < 4 := (i 1).isLt
  generalize (i 1).val = n at hi
  interval_cases n <;> rfl

theorem off3_eq (i : grid0.Coords) : k0_off3 i = ![2 * (i 1).val + 1] := by
  unfold k0_off3
  have hi : (i 1).val < 4 := (i 1).isLt
  generalize (i 1).val = n at hi
  interval_cases n <;> rfl

theorem off10_eq (i : grid0.Coords) : k0_off10 i = ![(i 2).val * 256, 0] := by
  unfold k0_off10
  have hi : (i 2).val < 8 := (i 2).isLt
  generalize (i 2).val = n at hi
  interval_cases n <;> rfl

theorem off11_eq (i : grid0.Coords) (h : (i 2).val % 2 = 1) : k0_off11 i = ![(i 2).val - 1, 0, 0] := by
  unfold k0_off11
  have hi : (i 2).val < 8 := (i 2).isLt
  generalize (i 2).val = n at hi h
  interval_cases n <;> first | rfl | omega

theorem off12_eq (i : grid0.Coords) : k0_off12 i = ![(i 2).val, 0, 0] := by
  unfold k0_off12
  have hi : (i 2).val < 8 := (i 2).isLt
  generalize (i 2).val = n at hi
  interval_cases n <;> rfl

theorem off13_eq (i : grid0.Coords) : k0_off13 i = ![(i 2).val, 0, 0] := by
  unfold k0_off13
  have hi : (i 2).val < 8 := (i 2).isLt
  generalize (i 2).val = n at hi
  interval_cases n <;> rfl

theorem trips1 (i : grid0.Coords) : (k0_t1_loop i).trips = (i 2).val / 2 := by
  unfold k0_t1_loop
  have hi : (i 2).val < 8 := (i 2).isLt
  generalize (i 2).val = n at hi
  interval_cases n <;> rfl

theorem trips2 (i : grid0.Coords) : (k0_t2_loop i).trips = 0 := by
  unfold k0_t2_loop
  have hi : (i 2).val < 8 := (i 2).isLt
  generalize (i 2).val = n at hi
  interval_cases n <;> rfl

theorem cond1_iff (i : grid0.Coords) : k0_cond1 i = 1#1 ↔ (i 2).val = 0 := by
  unfold k0_cond1
  have hi : (i 2).val < 8 := (i 2).isLt
  generalize (i 2).val = n at hi
  interval_cases n <;> decide

theorem cond2_iff (i : grid0.Coords) : k0_cond2 i = 1#1 ↔ (i 2).val % 2 = 1 := by
  unfold k0_cond2
  have hi : (i 2).val < 8 := (i 2).isLt
  generalize (i 2).val = n at hi
  interval_cases n <;> decide

theorem cond3_iff (i : grid0.Coords) : k0_cond3 i = 1#1 ↔ (i 2).val % 2 = 0 := by
  unfold k0_cond3
  have hi : (i 2).val < 8 := (i 2).isLt
  generalize (i 2).val = n at hi
  interval_cases n <;> decide

theorem off4_one (i : grid0.Coords) (k : Fin (k0_t1_loop i).trips) : k0_off4 i k 1#32 = ![(2 * k.val + 1) * 256, 0] := by
  have hk : k.val < 3 := Nat.lt_of_lt_of_le k.isLt (k0_t1_abs i).2.1
  obtain ⟨k, h⟩ := k
  simp only at hk
  interval_cases k <;> rfl

theorem off4_two (i : grid0.Coords) (k : Fin (k0_t1_loop i).trips) : k0_off4 i k 2#32 = ![(2 * k.val + 2) * 256, 0] := by
  have hk : k.val < 3 := Nat.lt_of_lt_of_le k.isLt (k0_t1_abs i).2.1
  obtain ⟨k, h⟩ := k
  simp only at hk
  interval_cases k <;> rfl

/-- The word the loop computes for chunk `2k` is its distance from the query block. -/
theorem word_even (i : ℕ) (k : ℕ) (hk : k < 3) :
    Scalar.subi (Scalar.muli 2#32 (Scf.iv 0#32 1#32 k)) (BitVec.ofNat 32 i) = Model.dist (2 * k) i := by
  interval_cases k <;> rfl

/-- The word the loop computes for chunk `2k+1` is its distance from the query block. -/
theorem word_odd (i : ℕ) (k : ℕ) (hk : k < 3) :
    Scalar.subi (Scalar.addi (Scalar.muli 2#32 (Scf.iv 0#32 1#32 k)) 1#32) (BitVec.ofNat 32 i) = Model.dist (2 * k + 1) i := by
  interval_cases k <;> rfl

theorem off5_eq (i : grid0.Coords) (k : Fin (k0_t1_loop i).trips) : k0_off5 i k = ![2 * k.val, 0, 0] := by
  have hk : k.val < 3 := Nat.lt_of_lt_of_le k.isLt (k0_t1_abs i).2.1
  obtain ⟨k, h⟩ := k
  simp only at hk
  interval_cases k <;> rfl

theorem off6_eq (i : grid0.Coords) (k : Fin (k0_t1_loop i).trips) : k0_off6 i k = ![2 * k.val + 1, 0, 0] := by
  have hk : k.val < 3 := Nat.lt_of_lt_of_le k.isLt (k0_t1_abs i).2.1
  obtain ⟨k, h⟩ := k
  simp only at hk
  interval_cases k <;> rfl

/-- A load of 256 rows of the keys at row `256 n` reads chunk `n`. -/
theorem read_kblk (m : Memref sig .tc .vmem S2048x128 .bf16) (K : Vec F S2048x128 .bf16) (off : Fin 2 → ℕ)
    (inb : ∀ a, off a + S256x128.size a ≤ S2048x128.size a) {n : ℕ} (h : off = ![n * 256, 0]) (hn : n < 8) :
    m.view.readAt (Elt F) (Rect.unit (s := S2048x128) off S256x128.size inb).toLoadRect (m.view.rep K) = kblk K n := by
  subst h
  rw [View.readAt_rep_unit m.view K inb rfl inb]
  funext y
  refine congrArg K (funext fun a => ?_)
  have h0 : (y 0).val < 256 := (y 0).isLt
  fin_cases a
  · refine Fin.ext ?_
    show n * 256 + 1 * (y 0).val = (n * 256 + (y 0).val) % 2048
    omega
  · refine Fin.ext ?_
    show 0 + 1 * (y 1).val = (y 1).val
    omega

/-- A load of one block of the values at block `n` reads chunk `n`. -/
theorem read_vblk (m : Memref sig .tc .vmem S8x128x256 .bf16) (V : Vec F S8x128x256 .bf16) (off : Fin 3 → ℕ)
    (inb : ∀ a, off a + S1x128x256.size a ≤ S8x128x256.size a) {n : ℕ} (h : off = ![n, 0, 0]) (hn : n < 8) :
    m.view.readAt (Elt F) (Rect.unit (s := S8x128x256) off S1x128x256.size inb).toLoadRect (m.view.rep V) = vblk V n := by
  subst h
  rw [View.readAt_rep_unit m.view V inb rfl inb]
  funext y
  refine congrArg V (funext fun a => ?_)
  have h0 : (y 0).val < 1 := (y 0).isLt
  fin_cases a
  · refine Fin.ext ?_
    show n + 1 * (y 0).val = n % 8
    omega
  · refine Fin.ext ?_
    show 0 + 1 * (y 1).val = (y 1).val
    omega
  · refine Fin.ext ?_
    show 0 + 1 * (y 2).val = (y 2).val
    omega

/-- A scalar load of the slopes at place `n` reads entry `n`. -/
theorem read_slot (m : Memref sig .tc .smem S8 .f32) (S : Vec F S8 .f32) (off : Fin 1 → ℕ)
    (inb : ∀ a, off a + S1.size a ≤ S8.size a) {n : ℕ} (h : off = ![n]) (hn : n < 8) (y : S1.Idx) :
    m.view.readAt (Elt F) (Rect.unit (s := S8) off S1.size inb).toLoadRect (m.view.rep S) y = slot S n := by
  subst h
  rw [View.readAt_rep_unit m.view S inb rfl inb]
  refine congrArg S (funext fun a => ?_)
  have h0 : (y 0).val < 1 := (y 0).isLt
  fin_cases a
  refine Fin.ext ?_
  show n + 1 * (y 0).val = n % 8
  omega

/-- Four column blocks cover a 128×1024 matrix: what was under them does not matter. -/
theorem quads_eq (x : Vec F S128x1024 .bf16) (a b c d : Vec F S128x256 .bf16) :
    VecWindow.put (VecWindow.put (VecWindow.put (VecWindow.put x ![0, 0] S128x256.size a) ![0, 512] S128x256.size b)
      ![0, 256] S128x256.size c) ![0, 768] S128x256.size d = quads a b c d := by
  unfold quads
  funext y
  have h0 : (y 0).val < 128 := (y 0).isLt
  have h1 : (y 1).val < 1024 := (y 1).isLt
  unfold VecWindow.put
  by_cases g1 : ∀ a, (![0, 768] : Fin 2 → ℕ) a ≤ (y a).val ∧ (y a).val < (![0, 768] : Fin 2 → ℕ) a + S128x256.size a
  · rw [dif_pos g1, dif_pos g1]
  rw [dif_neg g1, dif_neg g1]
  by_cases g2 : ∀ a, (![0, 256] : Fin 2 → ℕ) a ≤ (y a).val ∧ (y a).val < (![0, 256] : Fin 2 → ℕ) a + S128x256.size a
  · rw [dif_pos g2, dif_pos g2]
  rw [dif_neg g2, dif_neg g2]
  by_cases g3 : ∀ a, (![0, 512] : Fin 2 → ℕ) a ≤ (y a).val ∧ (y a).val < (![0, 512] : Fin 2 → ℕ) a + S128x256.size a
  · rw [dif_pos g3, dif_pos g3]
  rw [dif_neg g3, dif_neg g3]
  by_cases g4 : ∀ a, (![0, 0] : Fin 2 → ℕ) a ≤ (y a).val ∧ (y a).val < (![0, 0] : Fin 2 → ℕ) a + S128x256.size a
  · rw [dif_pos g4, dif_pos g4]
  exfalso
  have e : ∀ o : ℕ, (∀ a, (![0, o] : Fin 2 → ℕ) a ≤ (y a).val ∧ (y a).val < (![0, o] : Fin 2 → ℕ) a + S128x256.size a)
      ↔ (0 ≤ (y 0).val ∧ (y 0).val < 0 + 128) ∧ (o ≤ (y 1).val ∧ (y 1).val < o + 256) := fun o => Fin.forall_fin_two
  rw [e] at g1 g2 g3 g4
  omega

/-- Four column blocks cover a 256×1024 matrix: what was under them does not matter. -/
theorem quads'_eq (x : Vec F S256x1024 .f32) (a b c d : Vec F S256x256 .f32) :
    VecWindow.put (VecWindow.put (VecWindow.put (VecWindow.put x ![0, 0] S256x256.size a) ![0, 512] S256x256.size b)
      ![0, 256] S256x256.size c) ![0, 768] S256x256.size d = quads' a b c d := by
  unfold quads'
  funext y
  have h0 : (y 0).val < 256 := (y 0).isLt
  have h1 : (y 1).val < 1024 := (y 1).isLt
  unfold VecWindow.put
  by_cases g1 : ∀ a, (![0, 768] : Fin 2 → ℕ) a ≤ (y a).val ∧ (y a).val < (![0, 768] : Fin 2 → ℕ) a + S256x256.size a
  · rw [dif_pos g1, dif_pos g1]
  rw [dif_neg g1, dif_neg g1]
  by_cases g2 : ∀ a, (![0, 256] : Fin 2 → ℕ) a ≤ (y a).val ∧ (y a).val < (![0, 256] : Fin 2 → ℕ) a + S256x256.size a
  · rw [dif_pos g2, dif_pos g2]
  rw [dif_neg g2, dif_neg g2]
  by_cases g3 : ∀ a, (![0, 512] : Fin 2 → ℕ) a ≤ (y a).val ∧ (y a).val < (![0, 512] : Fin 2 → ℕ) a + S256x256.size a
  · rw [dif_pos g3, dif_pos g3]
  rw [dif_neg g3, dif_neg g3]
  by_cases g4 : ∀ a, (![0, 0] : Fin 2 → ℕ) a ≤ (y a).val ∧ (y a).val < (![0, 0] : Fin 2 → ℕ) a + S256x256.size a
  · rw [dif_pos g4, dif_pos g4]
  exfalso
  have e : ∀ o : ℕ, (∀ a, (![0, o] : Fin 2 → ℕ) a ≤ (y a).val ∧ (y a).val < (![0, o] : Fin 2 → ℕ) a + S256x256.size a)
      ↔ (0 ≤ (y 0).val ∧ (y 0).val < 0 + 256) ∧ (o ≤ (y 1).val ∧ (y 1).val < o + 256) := fun o => Fin.forall_fin_two
  rw [e] at g1 g2 g3 g4
  omega

/-- Two column blocks cover a 256×256 block: what was under them does not matter. -/
theorem halves_eq (x x' : Vec F S256x256 .bf16) (a b : Vec F S256x128 .bf16) :
    VecWindow.put (VecWindow.put x ![0, 0] S256x128.size a) ![0, 128] S256x128.size b
      = VecWindow.put (VecWindow.put x' ![0, 0] S256x128.size a) ![0, 128] S256x128.size b := by
  funext y
  have h0 : (y 0).val < 256 := (y 0).isLt
  have h1 : (y 1).val < 256 := (y 1).isLt
  unfold VecWindow.put
  by_cases g1 : ∀ a, (![0, 128] : Fin 2 → ℕ) a ≤ (y a).val ∧ (y a).val < (![0, 128] : Fin 2 → ℕ) a + S256x128.size a
  · rw [dif_pos g1, dif_pos g1]
  rw [dif_neg g1, dif_neg g1]
  by_cases g4 : ∀ a, (![0, 0] : Fin 2 → ℕ) a ≤ (y a).val ∧ (y a).val < (![0, 0] : Fin 2 → ℕ) a + S256x128.size a
  · rw [dif_pos g4, dif_pos g4]
  exfalso
  have e : ∀ o : ℕ, (∀ a, (![0, o] : Fin 2 → ℕ) a ≤ (y a).val ∧ (y a).val < (![0, o] : Fin 2 → ℕ) a + S256x128.size a)
      ↔ (0 ≤ (y 0).val ∧ (y 0).val < 0 + 256) ∧ (o ≤ (y 1).val ∧ (y 1).val < o + 128) := fun o => Fin.forall_fin_two
  rw [e] at g1 g4
  omega

end Cert.KernelIdeal.Run
-- ==== Proof.Run.Setup.lean ====
/-
  The parts of the kernel's body before its loop: the queries laid out, the bias made at the first
  query block of each head pair, the running state started, the first scores.
-/
module

public import proofs.«01_k».proof.Proof.Run.Base

@[expose] public section

set_option maxRecDepth 16384
set_option maxHeartbeats 4000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Model

variable {F : FTy → Type} [FloatOps F] [Named F]

local notation "𝕄G" => MT nD τ sig Unit (Elt F) ℕ (UR sig nD τ) ℕ

variable (c : Dev nD) (E : Set ℕ) (i : grid0.Coords) (arg3 : Memref sig .tc .smem S8 .f32) (harg3 : arg3.IsWhole) (arg4 : Memref sig .tc .vmem S1x256x256 .f32) (harg4 : arg4.IsWhole) (arg5 : Memref sig .tc .vmem S2048x128 .bf16) (harg5 : arg5.IsWhole) (arg6 : Memref sig .tc .vmem S8x128x256 .bf16) (harg6 : arg6.IsWhole) (arg7 : Memref sig .tc .vmem S4x64 .f32) (harg7 : arg7.IsWhole) (arg8 : Memref sig .tc .vmem S128x1 .f32) (harg8 : arg8.IsWhole) (arg9 : Memref sig .tc .vmem S256x256 .bf16) (harg9 : arg9.IsWhole) (arg10 : Memref sig .tc .vmem S128x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole)

/-- The first part lays the queries out in four column blocks. -/
theorem part11 (X4 : Vec F S1x256x256 .f32) (Q0 : Vec F S128x1024 .bf16) :
    iprop(holds c arg4 X4 ∗ holds c arg10 Q0)
    ⊢ wp frame (wpE (defs₀ (F := F)) Variants.none (c : Thread nD τ) none) E
        (k0_part11 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun r => iprop(⌜r = ⟨BitVec.ofNat 32 (i 1).val, BitVec.ofNat 32 (i 2).val⟩⌝ ∗ holds c arg4 X4 ∗ holds c arg10 (qmat X4))) := by
  have ra : ∀ inb, arg4.view.readAt (Elt F) (Rect.unit (s := S1x256x256) ![0, 0, 0] S1x128x256.size inb).toLoadRect (arg4.view.rep X4)
      = VecWindow.window X4 ![0, 0, 0] S1x128x256.size inb := fun inb => View.readAt_rep_unit arg4.view X4 inb rfl inb
  have rb : ∀ inb, arg4.view.readAt (Elt F) (Rect.unit (s := S1x256x256) ![0, 128, 0] S1x128x256.size inb).toLoadRect (arg4.view.rep X4)
      = VecWindow.window X4 ![0, 128, 0] S1x128x256.size inb := fun inb => View.readAt_rep_unit arg4.view X4 inb rfl inb
  simp only [k0_part11_eq_skeleton]; unfold k0_part11_skel
  iintro ⟨H4, H10⟩
  sl_exec
  sl_step
  isplitr; · ipureintro; rfl
  isplitl [H4]; · iexact H4
  iapply holds_intro; iexists _; isplitr; swap; · iexact H10
  ipureintro
  sl_open_run
  simp only [View.read_writes_cons_put _ _ _ _ _ rfl, View.writes_nil, View.read_rep]
  exact quads_eq ..

/-- The second part, at the first query block: the two biases are made and the state started. -/
theorem part12_first (S : Vec F S8 .f32) (B0 D0 : Vec F S256x1024 .f32) (m0 l0 : Vec F S1x1024 .f32) (a0 : Vec F S128x1024 .f32)
    (h : k0_cond1 i = 1#1) :
    iprop(holds c arg3 S ∗ holds c arg11 B0 ∗ holds c arg12 D0 ∗ holds c arg15 m0 ∗ holds c arg16 l0 ∗ holds c arg17 a0)
    ⊢ wp frame (wpE (defs₀ (F := F)) Variants.none (c : Thread nD τ) none) E
        (k0_part12 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val))
        (fun r => iprop(⌜r = ⟨k0_pay88, 2#32, Scalar.cmpi .eq 2#32 0#32⟩⌝ ∗ holds c arg3 S ∗ holds c arg11 (biasV S (i 1).val)
          ∗ holds c arg12 (dbiasV S (i 1).val) ∗ holds c arg15 (init (F := F)).1 ∗ holds c arg16 (init (F := F)).2.1 ∗ holds c arg17 (init (F := F)).2.2)) := by
  have hi : (i 1).val < 4 := (i 1).isLt
  have ra : ∀ inb, arg3.view.readAt (Elt F) (Rect.unit (s := S8) (k0_off1 i 0#32) S1.size inb).toLoadRect (arg3.view.rep S)
      = fun _ => slot S (2 * (i 1).val) := fun inb => funext fun y => read_slot arg3 S _ inb (off1_zero i) (by omega) y
  have rb : ∀ inb, arg3.view.readAt (Elt F) (Rect.unit (s := S8) (k0_off1 i 1#32) S1.size inb).toLoadRect (arg3.view.rep S)
      = fun _ => slot S (2 * (i 1).val + 1) := fun inb => funext fun y => read_slot arg3 S _ inb (off1_one i) (by omega) y
  simp only [k0_part12_eq_skeleton]; unfold k0_part12_skel
  simp only [k0_part1_eq_skeleton]
  iintro ⟨H3, H11, H12, H15, H16, H17⟩
  sl_exec (disch := first | sl_exact h)
  sl_step
  isplitr; · ipureintro; rfl
  isplitl [H3]; · iexact H3
  isplitl [H11]
  · iapply holds_intro; iexists _; isplitr; swap; · iexact H11
    ipureintro
    sl_open_run
    simp only [View.read_writes_cons_put _ _ _ _ _ rfl, View.writes_nil, View.read_rep]
    refine (quads'_eq ..).trans ?_
    rfl
  isplitl [H12]
  · iapply holds_intro; iexists _; isplitr; swap; · iexact H12
    ipureintro
    sl_open_run
    simp only [View.read_writes_cons_put _ _ _ _ _ rfl, View.writes_nil, View.read_rep]
    refine (quads'_eq ..).trans ?_
    rfl
  isplitl [H15]
  · iapply holds_intro; iexists _; isplitr; swap; · iexact H15
    ipureintro
    exact View.read_writes_full ..
  isplitl [H16]
  · iapply holds_intro; iexists _; isplitr; swap; · iexact H16
    ipureintro
    exact View.read_writes_full ..
  iapply holds_intro; iexists _; isplitr; swap; · iexact H17
  ipureintro
  exact View.read_writes_full ..

/-- The second part, at a later query block: the biases stay, the state is started. -/
theorem part12_later (S : Vec F S8 .f32) (B0 D0 : Vec F S256x1024 .f32) (m0 l0 : Vec F S1x1024 .f32) (a0 : Vec F S128x1024 .f32)
    (h : ¬ k0_cond1 i = 1#1) :
    iprop(holds c arg3 S ∗ holds c arg11 B0 ∗ holds c arg12 D0 ∗ holds c arg15 m0 ∗ holds c arg16 l0 ∗ holds c arg17 a0)
    ⊢ wp frame (wpE (defs₀ (F := F)) Variants.none (c : Thread nD τ) none) E
        (k0_part12 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val))
        (fun r => iprop(⌜r = ⟨k0_pay88, 2#32, Scalar.cmpi .eq 2#32 0#32⟩⌝ ∗ holds c arg3 S ∗ holds c arg11 B0
          ∗ holds c arg12 D0 ∗ holds c arg15 (init (F := F)).1 ∗ holds c arg16 (init (F := F)).2.1 ∗ holds c arg17 (init (F := F)).2.2)) := by
  simp only [k0_part12_eq_skeleton]; unfold k0_part12_skel
  iintro ⟨H3, H11, H12, H15, H16, H17⟩
  sl_exec (disch := first | sl_exact h)
  sl_step
  isplitr; · ipureintro; rfl
  isplitl [H3]; · iexact H3
  isplitl [H11]; · iexact H11
  isplitl [H12]; · iexact H12
  isplitl [H15]
  · iapply holds_intro; iexists _; isplitr; swap; · iexact H15
    ipureintro
    exact View.read_writes_full ..
  isplitl [H16]
  · iapply holds_intro; iexists _; isplitr; swap; · iexact H16
    ipureintro
    exact View.read_writes_full ..
  iapply holds_intro; iexists _; isplitr; swap; · iexact H17
  ipureintro
  exact View.read_writes_full ..

/-- The third part: the slope of each column, and the scores of chunk 0. -/
theorem part13 (S : Vec F S8 .f32) (K : Vec F S2048x128 .bf16) (Q : Vec F S128x1024 .bf16) (sa : Vec F S256x1024 .f32) :
    iprop(holds c arg3 S ∗ holds c arg5 K ∗ holds c arg10 Q ∗ holds c arg13 sa)
    ⊢ wp frame (wpE (defs₀ (F := F)) Variants.none (c : Thread nD τ) none) E
        (k0_part13 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) (BitVec.ofNat 32 (i 2).val) k0_pay88 2#32 (Scalar.cmpi .eq 2#32 0#32))
        (fun r => iprop(⌜r = ⟨slopeV S (i 1).val, 2#32, Scalar.divsi (BitVec.ofNat 32 (i 2).val) 2#32,
            Scalar.extui (Scalar.cmpi .sgt (BitVec.ofNat 32 (i 2).val) 0#32)⟩⌝
          ∗ holds c arg3 S ∗ holds c arg5 K ∗ holds c arg10 Q ∗ holds c arg13 (scores K Q 0))) := by
  have hi : (i 1).val < 4 := (i 1).isLt
  have ra : ∀ inb, arg3.view.readAt (Elt F) (Rect.unit (s := S8) (k0_off2 i) S1.size inb).toLoadRect (arg3.view.rep S)
      = fun _ => slot S (2 * (i 1).val) := fun inb => funext fun y => read_slot arg3 S _ inb (off2_eq i) (by omega) y
  have rb : ∀ inb, arg3.view.readAt (Elt F) (Rect.unit (s := S8) (k0_off3 i) S1.size inb).toLoadRect (arg3.view.rep S)
      = fun _ => slot S (2 * (i 1).val + 1) := fun inb => funext fun y => read_slot arg3 S _ inb (off3_eq i) (by omega) y
  have r5 : ∀ inb, arg5.view.readAt (Elt F) (Rect.unit (s := S2048x128) ![0, 0] S256x128.size inb).toLoadRect (arg5.view.rep K) = kblk K 0 :=
    fun inb => read_kblk arg5 K _ inb (by rfl) (by omega)
  have r10 := rd (F := F) arg10
  have r13 := rd (F := F) arg13
  simp only [k0_part13_eq_skeleton]; unfold k0_part13_skel
  iintro ⟨H3, H5, H10, H13⟩
  sl_exec
  sl_step
  isplitr
  · ipureintro
    rfl
  isplitl [H3]; · iexact H3
  isplitl [H5]; · iexact H5
  isplitl [H10]; · iexact H10
  iapply holds_intro; iexists _; isplitr; swap; · iexact H13
  ipureintro
  refine (View.read_writes_full ..).trans ?_
  sl_open_run
  rfl

end Cert.KernelIdeal.Run
-- ==== Proof.Run.Trip.lean ====
/-
  One trip of the kernel's loop over pairs of key chunks: the two updates of the running state it
  makes, and the scores it leaves for the next trip.
-/
module

public import proofs.«01_k».proof.Proof.Run.Base

@[expose] public section

set_option maxRecDepth 16384
set_option maxHeartbeats 4000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Model

variable {F : FTy → Type} [FloatOps F] [Named F]

local notation "𝕄G" => MT nD τ sig Unit (Elt F) ℕ (UR sig nD τ) ℕ

/-- What the loop reads — keys, values, queries, bias — and what it updates: the two score buffers and the running state. -/
abbrev LoopMem (c : Dev nD) (arg5 : Memref sig .tc .vmem S2048x128 .bf16) (arg6 : Memref sig .tc .vmem S8x128x256 .bf16)
    (arg10 : Memref sig .tc .vmem S128x1024 .bf16) (arg11 arg13 arg14 : Memref sig .tc .vmem S256x1024 .f32)
    (arg15 arg16 : Memref sig .tc .vmem S1x1024 .f32) (arg17 : Memref sig .tc .vmem S128x1024 .f32)
    (K : Vec F S2048x128 .bf16) (V : Vec F S8x128x256 .bf16) (Q : Vec F S128x1024 .bf16) (bias sa sb : Vec F S256x1024 .f32)
    (st : State F) : sProp 𝕄G :=
  iprop(holds c arg5 K ∗ holds c arg6 V ∗ holds c arg10 Q ∗ holds c arg11 bias ∗ holds c arg13 sa ∗ holds c arg14 sb
    ∗ holds c arg15 st.1 ∗ holds c arg16 st.2.1 ∗ holds c arg17 st.2.2)

variable (c : Dev nD) (E : Set ℕ) (i : grid0.Coords) (arg3 : Memref sig .tc .smem S8 .f32) (harg3 : arg3.IsWhole) (arg4 : Memref sig .tc .vmem S1x256x256 .f32) (harg4 : arg4.IsWhole) (arg5 : Memref sig .tc .vmem S2048x128 .bf16) (harg5 : arg5.IsWhole) (arg6 : Memref sig .tc .vmem S8x128x256 .bf16) (harg6 : arg6.IsWhole) (arg7 : Memref sig .tc .vmem S4x64 .f32) (harg7 : arg7.IsWhole) (arg8 : Memref sig .tc .vmem S128x1 .f32) (harg8 : arg8.IsWhole) (arg9 : Memref sig .tc .vmem S256x256 .bf16) (harg9 : arg9.IsWhole) (arg10 : Memref sig .tc .vmem S128x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole)
  (arg2 : BitVec 32) (slope : FVec F S1x1024 .f32) (c2_i32_43 v109 v111 : BitVec 32)
  (K : Vec F S2048x128 .bf16) (V : Vec F S8x128x256 .bf16) (Q : Vec F S128x1024 .bf16) (bias sa sb : Vec F S256x1024 .f32) (st : State F)

/-- A trip updates the state by chunk `2k` (whose scores it finds) and by chunk `2k+1`, and leaves the scores of chunk `2k+2`. -/
theorem trip (k : Fin (k0_t1_loop i).trips) (harg2 : arg2 = BitVec.ofNat 32 (i 2).val) :
    LoopMem c arg5 arg6 arg10 arg11 arg13 arg14 arg15 arg16 arg17 K V Q bias sa sb st
    ⊢ wp frame (wpE (defs₀ (F := F)) Variants.none (c : Thread nD τ) none) E
        (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 slope c2_i32_43 v109 v111 k ())
        (fun _ => LoopMem c arg5 arg6 arg10 arg11 arg13 arg14 arg15 arg16 arg17 K V Q bias (scores K Q (2 * k.val + 2)) (scores K Q (2 * k.val + 1))
          (upd slope (k0_pay23 (scores K Q (2 * k.val + 1)) bias) (dist (2 * k.val + 1) (i 2).val) (vblk V (2 * k.val + 1))
            (upd slope (k0_pay23 sa bias) (dist (2 * k.val) (i 2).val) (vblk V (2 * k.val)) st))) := by
  subst harg2
  have hk : k.val < 3 := Nat.lt_of_lt_of_le k.isLt (k0_t1_abs i).2.1
  have w0 := word_even (i 2).val k.val hk
  have w1 := word_odd (i 2).val k.val hk
  have e4a : k0_off4 i k 1#32 = ![(2 * k.val + 1) * 256, 0] := off4_one i k
  have e4b : k0_off4 i k 2#32 = ![(2 * k.val + 2) * 256, 0] := off4_two i k
  have e5 : k0_off5 i k = ![2 * k.val, 0, 0] := off5_eq i k
  have e6 : k0_off6 i k = ![2 * k.val + 1, 0, 0] := off6_eq i k
  have h4a : ∀ inb, arg5.view.readAt (Elt F) (Rect.unit (s := S2048x128) (k0_off4 i k 1#32) S256x128.size inb).toLoadRect (arg5.view.rep K) = kblk K (2 * k.val + 1) :=
    fun inb => read_kblk arg5 K _ inb e4a (by omega)
  have h4b : ∀ inb, arg5.view.readAt (Elt F) (Rect.unit (s := S2048x128) (k0_off4 i k 2#32) S256x128.size inb).toLoadRect (arg5.view.rep K) = kblk K (2 * k.val + 2) :=
    fun inb => read_kblk arg5 K _ inb e4b (by omega)
  have h5 : ∀ inb, arg6.view.readAt (Elt F) (Rect.unit (s := S8x128x256) (k0_off5 i k) S1x128x256.size inb).toLoadRect (arg6.view.rep V) = vblk V (2 * k.val) :=
    fun inb => read_vblk arg6 V _ inb e5 (by omega)
  have h6 : ∀ inb, arg6.view.readAt (Elt F) (Rect.unit (s := S8x128x256) (k0_off6 i k) S1x128x256.size inb).toLoadRect (arg6.view.rep V) = vblk V (2 * k.val + 1) :=
    fun inb => read_vblk arg6 V _ inb e6 (by omega)
  have r10 := rd (F := F) arg10
  have r11 := rd (F := F) arg11
  have r13 := rd (F := F) arg13
  have r14 := rd (F := F) arg14
  have r15 := rd (F := F) arg15
  have r16 := rd (F := F) arg16
  have r17 := rd (F := F) arg17
  have c14 := rc (F := F) arg14
  have c15 := rc (F := F) arg15
  have c16 := rc (F := F) arg16
  have c17 := rc (F := F) arg17
  unfold k0_t1_body
  iintro ⟨H5, H6, H10, H11, H13, H14, H15, H16, H17⟩
  sl_exec
  sl_step
  isplitl [H5]; · iexact H5
  isplitl [H6]; · iexact H6
  isplitl [H10]; · iexact H10
  isplitl [H11]; · iexact H11
  isplitl [H13]
  · iapply holds_intro; iexists _; isplitr; swap; · iexact H13
    ipureintro
    refine (View.read_writes_full ..).trans ?_
    sl_open_run
    rfl
  isplitl [H14]
  · iapply holds_intro; iexists _; isplitr; swap; · iexact H14
    ipureintro
    unfold trip.sl.H14_1
    refine (View.read_writes_full ..).trans ?_
    sl_open_run
    rfl
  isplitl [H15]
  · iapply holds_intro; iexists _; isplitr; swap; · iexact H15
    ipureintro
    refine (View.read_writes_full ..).trans ?_
    sl_open_run
    simp only [upd, scores, k0_pay22, k0_pay23, k0_pay24, k0_pay25, k0_pay26, k0_pay27, k0_pay28, k0_pay29, shapeCast_self, w0, w1]
  isplitl [H16]
  · iapply holds_intro; iexists _; isplitr; swap; · iexact H16
    ipureintro
    refine (View.read_writes_full ..).trans ?_
    sl_open_run
    simp only [upd, scores, k0_pay22, k0_pay23, k0_pay24, k0_pay25, k0_pay26, k0_pay27, k0_pay28, k0_pay29, shapeCast_self, w0, w1]
  · iapply holds_intro; iexists _; isplitr; swap; · iexact H17
    ipureintro
    refine (View.read_writes_full ..).trans ?_
    sl_open_run
    simp only [upd, scores, k0_pay22, k0_pay23, k0_pay24, k0_pay25, k0_pay26, k0_pay27, k0_pay28, k0_pay29, shapeCast_self, w0, w1]

end Cert.KernelIdeal.Run
-- ==== Proof.Run.Tail.lean ====
/-
  The parts of the kernel's body from its loop on: the loop over pairs of chunks, the chunks left
  after it (two at an odd query block, one at an even one), and the values the output is made of.
-/
module

public import proofs.«01_k».proof.Proof.Run.Trip

@[expose] public section

set_option maxRecDepth 16384
set_option maxHeartbeats 4000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Model

variable {F : FTy → Type} [FloatOps F] [Named F]

local notation "𝕄G" => MT nD τ sig Unit (Elt F) ℕ (UR sig nD τ) ℕ

variable (c : Dev nD) (E : Set ℕ) (i : grid0.Coords) (arg3 : Memref sig .tc .smem S8 .f32) (harg3 : arg3.IsWhole) (arg4 : Memref sig .tc .vmem S1x256x256 .f32) (harg4 : arg4.IsWhole) (arg5 : Memref sig .tc .vmem S2048x128 .bf16) (harg5 : arg5.IsWhole) (arg6 : Memref sig .tc .vmem S8x128x256 .bf16) (harg6 : arg6.IsWhole) (arg7 : Memref sig .tc .vmem S4x64 .f32) (harg7 : arg7.IsWhole) (arg8 : Memref sig .tc .vmem S128x1 .f32) (harg8 : arg8.IsWhole) (arg9 : Memref sig .tc .vmem S256x256 .bf16) (harg9 : arg9.IsWhole) (arg10 : Memref sig .tc .vmem S128x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole)

/-- The loop's invariant: before trip `k` the state has taken the chunks before `2k`, and the scores of chunk `2k` are ready. -/
@[instance_reducible] def loopInv (arg2 : BitVec 32) (harg2 : arg2 = BitVec.ofNat 32 (i 2).val) (slope : FVec F S1x1024 .f32) (c2_i32_43 v109 v111 : BitVec 32)
    (K : Vec F S2048x128 .bf16) (V : Vec F S8x128x256 .bf16) (Q : Vec F S128x1024 .bf16) (bias : Vec F S256x1024 .f32) :
    LoopInvTy_k0_t1 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 slope c2_i32_43 v109 v111 where
  inv k _ := iprop(∃ sb : Vec F S256x1024 .f32, LoopMem c arg5 arg6 arg10 arg11 arg13 arg14 arg15 arg16 arg17 K V Q bias (scores K Q (2 * k)) sb
    (states K V Q slope bias (i 2).val (2 * k)))
  step k acc := by
    iintro ⟨%sb, H⟩
    iapply (wp_wand_r Idealize.ShloMosaic.frame (wpE (defs₀ (F := F)) Variants.none (c : Thread nD τ) none) E)
    isplitl [H]
    · iapply (trip c E i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 slope c2_i32_43 v109 v111 K V Q bias (scores K Q (2 * k.val)) sb (states K V Q slope bias (i 2).val (2 * k.val)) k harg2)
      iexact H
    · iintro %_ H
      iexists (scores K Q (2 * k.val + 1))
      iexact H

theorem dist_eq (n m : ℕ) : Model.dist n m = Scalar.subi (BitVec.ofNat 32 n) (BitVec.ofNat 32 m) := rfl

/-- The second loop has no trip, so it leaves everything as it was. -/
@[instance_reducible] def loopInv2 (arg2 : BitVec 32) (slope : FVec F S1x1024 .f32) (c2_i32_43 v109 v111 v130 : BitVec 32) (P : sProp 𝕄G) :
    LoopInvTy_k0_t2 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 slope c2_i32_43 v109 v111 v130 where
  inv _ _ := P
  step k _ := absurd k.isLt (by have h : Scf.trips (k0_t2_loop i).lb (k0_t2_loop i).ub (k0_t2_loop i).st = 0 := trips2 i
                                omega)

/-- The fourth part at an odd query block: after the loop the last two chunks are taken, so the state is final. -/
theorem part14_odd (slope : FVec F S1x1024 .f32) (v109 v111 : BitVec 32) (K : Vec F S2048x128 .bf16) (V : Vec F S8x128x256 .bf16)
    (Q : Vec F S128x1024 .bf16) (bias dbias sb : Vec F S256x1024 .f32) (hodd : (i 2).val % 2 = 1) :
    iprop(LoopMem c arg5 arg6 arg10 arg11 arg13 arg14 arg15 arg16 arg17 K V Q bias (scores K Q 0) sb init ∗ holds c arg12 dbias)
    ⊢ wp frame (wpE (defs₀ (F := F)) Variants.none (c : Thread nD τ) none) E
        (k0_part14 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) slope 2#32 v109 v111)
        (fun r => iprop(∃ sa' sb', LoopMem c arg5 arg6 arg10 arg11 arg13 arg14 arg15 arg16 arg17 K V Q bias sa' sb'
          (final K V Q slope bias dbias (i 2).val) ∗ holds c arg12 dbias)) := by
  have hi : (i 2).val < 8 := (i 2).isLt
  have htr : Scf.trips (k0_t1_loop i).lb (k0_t1_loop i).ub (k0_t1_loop i).st = (i 2).val / 2 := trips1 i
  have htr2 : (k0_t2_loop i).trips = 0 := trips2 i
  have hc : k0_cond2 i = 1#1 := (cond2_iff i).mpr hodd
  have h10 : ∀ inb, arg5.view.readAt (Elt F) (Rect.unit (s := S2048x128) (k0_off10 i) S256x128.size inb).toLoadRect (arg5.view.rep K) = kblk K (i 2).val :=
    fun inb => read_kblk arg5 K _ inb (off10_eq i) hi
  have h11 : ∀ inb, arg6.view.readAt (Elt F) (Rect.unit (s := S8x128x256) (k0_off11 i) S1x128x256.size inb).toLoadRect (arg6.view.rep V) = vblk V ((i 2).val - 1) :=
    fun inb => read_vblk arg6 V _ inb (off11_eq i hodd) (by omega)
  have h12 : ∀ inb, arg6.view.readAt (Elt F) (Rect.unit (s := S8x128x256) (k0_off12 i) S1x128x256.size inb).toLoadRect (arg6.view.rep V) = vblk V (i 2).val :=
    fun inb => read_vblk arg6 V _ inb (off12_eq i) hi
  have r10 := rd (F := F) arg10
  have r11 := rd (F := F) arg11
  have r12 := rd (F := F) arg12
  have r13 := rd (F := F) arg13
  have r14 := rd (F := F) arg14
  have r15 := rd (F := F) arg15
  have r16 := rd (F := F) arg16
  have r17 := rd (F := F) arg17
  have c14 := rc (F := F) arg14
  have c15 := rc (F := F) arg15
  have c16 := rc (F := F) arg16
  have c17 := rc (F := F) arg17
  let L := loopInv c E i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) rfl slope 2#32 v109 v111 K V Q bias
  let L2 := loopInv2 c E i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) slope 2#32 v109 v111 (Scalar.addi 0#32 (Scalar.muli (Scalar.divsi (Scalar.subi (Scalar.select (Scalar.andi
      (Scalar.cmpi .ne (Scalar.subi v111 (Scalar.extui (Scalar.cmpi .slt (BitVec.ofNat 32 (i 2).val) 0#32))) (Scalar.subi (Scalar.extui (Scalar.cmpi .sgt 2#32 0#32)) (Scalar.extui (Scalar.cmpi .slt 2#32 0#32))))
      (Scalar.cmpi .ne (Scalar.remsi (BitVec.ofNat 32 (i 2).val) 2#32) 0#32)) (Scalar.subi v109 1#32) v109) 0#32) 1#32) 1#32))
    iprop(∃ sb : Vec F S256x1024 .f32, LoopMem c arg5 arg6 arg10 arg11 arg13 arg14 arg15 arg16 arg17 K V Q bias
      (scores K Q (2 * Scf.trips (k0_t1_loop i).lb (k0_t1_loop i).ub (k0_t1_loop i).st)) sb
      (states K V Q slope bias (i 2).val (2 * Scf.trips (k0_t1_loop i).lb (k0_t1_loop i).ub (k0_t1_loop i).st)))
  have e : 2 * Scf.trips (k0_t1_loop i).lb (k0_t1_loop i).ub (k0_t1_loop i).st = (i 2).val - 1 := by omega
  have hst : states K V Q slope bias (i 2).val (i 2).val = upd slope (k0_pay23 (scores K Q ((i 2).val - 1)) bias) (dist ((i 2).val - 1) (i 2).val) (vblk V ((i 2).val - 1))
      (states K V Q slope bias (i 2).val ((i 2).val - 1)) := by
    obtain ⟨n, hn⟩ : ∃ n, (i 2).val = n + 1 := ⟨(i 2).val - 1, by omega⟩
    rw [hn]; rfl
  have hw : Scalar.subi (BitVec.ofNat 32 (i 2).val) 1#32 = BitVec.ofNat 32 ((i 2).val - 1) := by
    have hi' : (i 2).val % 2 = 1 := hodd
    generalize (i 2).val = n at hi hi'
    interval_cases n <;> first | rfl | omega
  simp only [k0_part14_eq_skeleton]; unfold k0_part14_skel
  simp only [k0_part8_eq_skeleton, k0_part9_eq_skeleton]
  iintro ⟨⟨H5, H6, H10, H11, H13, H14, H15, H16, H17⟩, H12⟩
  sl_exec (disch := first | sl_exact hc)
  sl_step
  clear L L2 r10 r11 r13 r14 r15 r16 r17 c14 c15 c16 c17
  iexists _; iexists _
  isplitr [H12]; swap; · iexact H12
  isplitl [H5]; · iexact H5
  isplitl [H6]; · iexact H6
  isplitl [H10]; · iexact H10
  isplitl [H11]; · iexact H11
  isplitl [H13]; · iexact H13
  isplitl [H14]
  · iapply holds_intro; iexists _; isplitr; swap; · iexact H14
    ipureintro
    rfl
  isplitl [H15]
  · iapply holds_intro; iexists _; isplitr; swap; · iexact H15
    ipureintro
    refine (View.read_writes_full ..).trans ?_
    sl_open_run
    simp only [e, hst, final, upd, scores, k0_pay22, k0_pay23, k0_pay24, k0_pay25, k0_pay26, k0_pay27, k0_pay28, k0_pay29, shapeCast_self, dist_eq,
      k0_pay50, k0_pay51, k0_pay52, k0_pay53, k0_pay54, k0_pay55, k0_pay56, k0_pay57, k0_pay58, k0_pay59, k0_pay60, k0_pay61, k0_pay62, k0_pay63, k0_pay64, k0_pay65, k0_pay91, k0_pay92, k0_pay93, hw]
  isplitl [H16]
  · iapply holds_intro; iexists _; isplitr; swap; · iexact H16
    ipureintro
    refine (View.read_writes_full ..).trans ?_
    sl_open_run
    simp only [e, hst, final, upd, scores, k0_pay22, k0_pay23, k0_pay24, k0_pay25, k0_pay26, k0_pay27, k0_pay28, k0_pay29, shapeCast_self, dist_eq,
      k0_pay50, k0_pay51, k0_pay52, k0_pay53, k0_pay54, k0_pay55, k0_pay56, k0_pay57, k0_pay58, k0_pay59, k0_pay60, k0_pay61, k0_pay62, k0_pay63, k0_pay64, k0_pay65, k0_pay91, k0_pay92, k0_pay93, hw]
  · iapply holds_intro; iexists _; isplitr; swap; · iexact H17
    ipureintro
    refine (View.read_writes_full ..).trans ?_
    sl_open_run
    simp only [e, hst, final, upd, scores, k0_pay22, k0_pay23, k0_pay24, k0_pay25, k0_pay26, k0_pay27, k0_pay28, k0_pay29, shapeCast_self, dist_eq,
      k0_pay50, k0_pay51, k0_pay52, k0_pay53, k0_pay54, k0_pay55, k0_pay56, k0_pay57, k0_pay58, k0_pay59, k0_pay60, k0_pay61, k0_pay62, k0_pay63, k0_pay64, k0_pay65, k0_pay91, k0_pay92, k0_pay93, hw]

/-- The fourth part at an even query block: after the loop the state has taken the chunks before the last, whose scores are ready. -/
theorem part14_even (slope : FVec F S1x1024 .f32) (v109 v111 : BitVec 32) (K : Vec F S2048x128 .bf16) (V : Vec F S8x128x256 .bf16)
    (Q : Vec F S128x1024 .bf16) (bias dbias sb : Vec F S256x1024 .f32) (heven : (i 2).val % 2 = 0) :
    iprop(LoopMem c arg5 arg6 arg10 arg11 arg13 arg14 arg15 arg16 arg17 K V Q bias (scores K Q 0) sb init ∗ holds c arg12 dbias)
    ⊢ wp frame (wpE (defs₀ (F := F)) Variants.none (c : Thread nD τ) none) E
        (k0_part14 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) slope 2#32 v109 v111)
        (fun r => iprop(∃ sb', LoopMem c arg5 arg6 arg10 arg11 arg13 arg14 arg15 arg16 arg17 K V Q bias (scores K Q (i 2).val) sb'
          (states K V Q slope bias (i 2).val (i 2).val) ∗ holds c arg12 dbias)) := by
  have hi : (i 2).val < 8 := (i 2).isLt
  have htr : Scf.trips (k0_t1_loop i).lb (k0_t1_loop i).ub (k0_t1_loop i).st = (i 2).val / 2 := trips1 i
  have htr2 : (k0_t2_loop i).trips = 0 := trips2 i
  have hc : ¬ k0_cond2 i = 1#1 := fun h => by have := (cond2_iff i).mp h; omega
  have r10 := rd (F := F) arg10
  have r11 := rd (F := F) arg11
  have r12 := rd (F := F) arg12
  have r13 := rd (F := F) arg13
  have r14 := rd (F := F) arg14
  have r15 := rd (F := F) arg15
  have r16 := rd (F := F) arg16
  have r17 := rd (F := F) arg17
  have c14 := rc (F := F) arg14
  have c15 := rc (F := F) arg15
  have c16 := rc (F := F) arg16
  have c17 := rc (F := F) arg17
  let L := loopInv c E i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) rfl slope 2#32 v109 v111 K V Q bias
  let L2 := loopInv2 c E i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) slope 2#32 v109 v111 (Scalar.addi 0#32 (Scalar.muli (Scalar.divsi (Scalar.subi (Scalar.select (Scalar.andi
      (Scalar.cmpi .ne (Scalar.subi v111 (Scalar.extui (Scalar.cmpi .slt (BitVec.ofNat 32 (i 2).val) 0#32))) (Scalar.subi (Scalar.extui (Scalar.cmpi .sgt 2#32 0#32)) (Scalar.extui (Scalar.cmpi .slt 2#32 0#32))))
      (Scalar.cmpi .ne (Scalar.remsi (BitVec.ofNat 32 (i 2).val) 2#32) 0#32)) (Scalar.subi v109 1#32) v109) 0#32) 1#32) 1#32))
    iprop(∃ sb : Vec F S256x1024 .f32, LoopMem c arg5 arg6 arg10 arg11 arg13 arg14 arg15 arg16 arg17 K V Q bias
      (scores K Q (2 * Scf.trips (k0_t1_loop i).lb (k0_t1_loop i).ub (k0_t1_loop i).st)) sb
      (states K V Q slope bias (i 2).val (2 * Scf.trips (k0_t1_loop i).lb (k0_t1_loop i).ub (k0_t1_loop i).st)))
  have e : 2 * Scf.trips (k0_t1_loop i).lb (k0_t1_loop i).ub (k0_t1_loop i).st = (i 2).val := by omega
  simp only [k0_part14_eq_skeleton]; unfold k0_part14_skel
  iintro ⟨⟨H5, H6, H10, H11, H13, H14, H15, H16, H17⟩, H12⟩
  sl_exec (disch := first | sl_exact hc)
  sl_step
  iexists _
  rw [e]
  isplitr [H12]; swap; · iexact H12
  isplitl [H5]; · iexact H5
  isplitl [H6]; · iexact H6
  isplitl [H10]; · iexact H10
  isplitl [H11]; · iexact H11
  isplitl [H13]; · iexact H13
  isplitl [H14]; · iexact H14
  isplitl [H15]; · iexact H15
  isplitl [H16]; · iexact H16
  iexact H17

/-- The values the fifth part hands on: the weight of the second map and the three quotients. -/
abbrev Out15 (F : FTy → Type) : Type := Σ' (v173 : FVec F S1x1 .f32) (v177 : FVec F S128x1024 .f32) (v182 : FVec F S128x256 .f32), FVec F S1x256 .f32

/-- What the output is made of, from the weights' rows and the final state. -/
def out15 (lam : Vec F S4x64 .f32) (st : State F) : Out15 F :=
  ⟨k0_pay95 lam, k0_pay96 st.2.2 st.2.1, k0_pay97 lam st.2.2 st.2.1, k0_pay98 lam st.2.2 st.2.1⟩

/-- The fifth part at an odd query block: the state is final already. -/
theorem part15_odd (slope : FVec F S1x1024 .f32) (v145 v146 c0 : BitVec 32) (K : Vec F S2048x128 .bf16) (V : Vec F S8x128x256 .bf16)
    (Q : Vec F S128x1024 .bf16) (bias dbias sa sb : Vec F S256x1024 .f32) (st : State F) (lam : Vec F S4x64 .f32) (hodd : (i 2).val % 2 = 1) :
    iprop(LoopMem c arg5 arg6 arg10 arg11 arg13 arg14 arg15 arg16 arg17 K V Q bias sa sb st ∗ holds c arg12 dbias ∗ holds c arg7 lam)
    ⊢ wp frame (wpE (defs₀ (F := F)) Variants.none (c : Thread nD τ) none) E
        (k0_part15 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) slope v145 v146 c0)
        (fun r => iprop(LoopMem c arg5 arg6 arg10 arg11 arg13 arg14 arg15 arg16 arg17 K V Q bias sa sb st
          ∗ holds c arg12 dbias ∗ holds c arg7 lam ∗ ⌜r = out15 lam st⌝)) := by
  have hc : ¬ k0_cond3 i = 1#1 := fun h => by have := (cond3_iff i).mp h; omega
  have r7 := rd (F := F) arg7
  have r10 := rd (F := F) arg10
  have r11 := rd (F := F) arg11
  have r12 := rd (F := F) arg12
  have r13 := rd (F := F) arg13
  have r14 := rd (F := F) arg14
  have r15 := rd (F := F) arg15
  have r16 := rd (F := F) arg16
  have r17 := rd (F := F) arg17
  simp only [k0_part15_eq_skeleton]; unfold k0_part15_skel
  iintro ⟨⟨H5, H6, H10, H11, H13, H14, H15, H16, H17⟩, H12, H7⟩
  sl_exec (disch := first | sl_exact hc)
  sl_step
  clear r7 r10 r11 r12 r13 r14 r15 r16 r17
  isplitl [H5 H6 H10 H11 H13 H14 H15 H16 H17]
  · isplitl [H5]; · iexact H5
    isplitl [H6]; · iexact H6
    isplitl [H10]; · iexact H10
    isplitl [H11]; · iexact H11
    isplitl [H13]; · iexact H13
    isplitl [H14]; · iexact H14
    isplitl [H15]; · iexact H15
    isplitl [H16]; · iexact H16
    iexact H17
  isplitl [H12]; · iexact H12
  isplitl [H7]; · iexact H7
  ipureintro
  rfl

/-- The fifth part at an even query block: the last chunk is taken, and the state is final. -/
theorem part15_even (slope : FVec F S1x1024 .f32) (v145 v146 c0 : BitVec 32) (K : Vec F S2048x128 .bf16) (V : Vec F S8x128x256 .bf16)
    (Q : Vec F S128x1024 .bf16) (bias dbias sb : Vec F S256x1024 .f32) (lam : Vec F S4x64 .f32) (heven : (i 2).val % 2 = 0) :
    iprop(LoopMem c arg5 arg6 arg10 arg11 arg13 arg14 arg15 arg16 arg17 K V Q bias (scores K Q (i 2).val) sb (states K V Q slope bias (i 2).val (i 2).val)
      ∗ holds c arg12 dbias ∗ holds c arg7 lam)
    ⊢ wp frame (wpE (defs₀ (F := F)) Variants.none (c : Thread nD τ) none) E
        (k0_part15 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) slope v145 v146 c0)
        (fun r => iprop(LoopMem c arg5 arg6 arg10 arg11 arg13 arg14 arg15 arg16 arg17 K V Q bias (scores K Q (i 2).val) sb
            (final K V Q slope bias dbias (i 2).val)
          ∗ holds c arg12 dbias ∗ holds c arg7 lam ∗ ⌜r = out15 lam (final K V Q slope bias dbias (i 2).val)⌝)) := by
  have hi : (i 2).val < 8 := (i 2).isLt
  have hc : k0_cond3 i = 1#1 := (cond3_iff i).mpr heven
  have h13 : ∀ inb, arg6.view.readAt (Elt F) (Rect.unit (s := S8x128x256) (k0_off13 i) S1x128x256.size inb).toLoadRect (arg6.view.rep V) = vblk V (i 2).val :=
    fun inb => read_vblk arg6 V _ inb (off13_eq i) hi
  have r7 := rd (F := F) arg7
  have r10 := rd (F := F) arg10
  have r11 := rd (F := F) arg11
  have r12 := rd (F := F) arg12
  have r13 := rd (F := F) arg13
  have r14 := rd (F := F) arg14
  have r15 := rd (F := F) arg15
  have r16 := rd (F := F) arg16
  have r17 := rd (F := F) arg17
  have c15 := rc (F := F) arg15
  have c16 := rc (F := F) arg16
  have c17 := rc (F := F) arg17
  simp only [k0_part15_eq_skeleton]; unfold k0_part15_skel
  simp only [k0_part10_eq_skeleton]
  iintro ⟨⟨H5, H6, H10, H11, H13, H14, H15, H16, H17⟩, H12, H7⟩
  sl_exec (disch := first | sl_exact hc)
  sl_step
  clear r7 r10 r11 r12 r13 r14 r15 r16 r17 c15 c16 c17
  isplitl [H5 H6 H10 H11 H13 H14 H15 H16 H17]
  · isplitl [H5]; · iexact H5
    isplitl [H6]; · iexact H6
    isplitl [H10]; · iexact H10
    isplitl [H11]; · iexact H11
    isplitl [H13]; · iexact H13
    isplitl [H14]; · iexact H14
    isplitl [H15]
    · iapply holds_intro; iexists _; isplitr; swap; · iexact H15
      ipureintro
      refine (View.read_writes_full ..).trans ?_
      sl_open_run
      simp only [final, upd, scores, k0_pay22, k0_pay23, k0_pay24, k0_pay25, k0_pay26, k0_pay27, k0_pay28, k0_pay29, shapeCast_self, dist_eq,
        k0_pay66, k0_pay67, k0_pay68, k0_pay69, k0_pay70, k0_pay71, k0_pay72, k0_pay94]
    isplitl [H16]
    · iapply holds_intro; iexists _; isplitr; swap; · iexact H16
      ipureintro
      refine (View.read_writes_full ..).trans ?_
      sl_open_run
      simp only [final, upd, scores, k0_pay22, k0_pay23, k0_pay24, k0_pay25, k0_pay26, k0_pay27, k0_pay28, k0_pay29, shapeCast_self, dist_eq,
        k0_pay66, k0_pay67, k0_pay68, k0_pay69, k0_pay70, k0_pay71, k0_pay72, k0_pay94]
    · iapply holds_intro; iexists _; isplitr; swap; · iexact H17
      ipureintro
      refine (View.read_writes_full ..).trans ?_
      sl_open_run
      simp only [final, upd, scores, k0_pay22, k0_pay23, k0_pay24, k0_pay25, k0_pay26, k0_pay27, k0_pay28, k0_pay29, shapeCast_self, dist_eq,
        k0_pay66, k0_pay67, k0_pay68, k0_pay69, k0_pay70, k0_pay71, k0_pay72, k0_pay94]
  isplitl [H12]; · iexact H12
  isplitl [H7]; · iexact H7
  ipureintro
  sl_open_run
  simp only [out15, final, upd, scores, k0_pay22, k0_pay23, k0_pay24, k0_pay25, k0_pay26, k0_pay27, k0_pay28, k0_pay29, shapeCast_self, dist_eq,
    k0_pay66, k0_pay67, k0_pay68, k0_pay69, k0_pay70, k0_pay71, k0_pay72, k0_pay94]

end Cert.KernelIdeal.Run
-- ==== Proof.Run.Body.lean ====
/-
  The kernel's whole body at one grid point: what it writes to the output block and to the two bias scratches.
-/
module

public import proofs.«01_k».proof.Proof.Run.Setup
public import proofs.«01_k».proof.Proof.Run.Tail

@[expose] public section

set_option maxRecDepth 16384
set_option maxHeartbeats 4000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Model

variable {F : FTy → Type} [FloatOps F] [Named F]

local notation "𝕄G" => MT nD τ sig Unit (Elt F) ℕ (UR sig nD τ) ℕ

variable (c : Dev nD) (E : Set ℕ) (i : grid0.Coords) (arg3 : Memref sig .tc .smem S8 .f32) (harg3 : arg3.IsWhole) (arg4 : Memref sig .tc .vmem S1x256x256 .f32) (harg4 : arg4.IsWhole) (arg5 : Memref sig .tc .vmem S2048x128 .bf16) (harg5 : arg5.IsWhole) (arg6 : Memref sig .tc .vmem S8x128x256 .bf16) (harg6 : arg6.IsWhole) (arg7 : Memref sig .tc .vmem S4x64 .f32) (harg7 : arg7.IsWhole) (arg8 : Memref sig .tc .vmem S128x1 .f32) (harg8 : arg8.IsWhole) (arg9 : Memref sig .tc .vmem S256x256 .bf16) (harg9 : arg9.IsWhole) (arg10 : Memref sig .tc .vmem S128x1024 .bf16) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S128x1024 .f32) (harg17 : arg17.IsWhole)

/-- The second part, wherever the point lies: afterwards the biases are those of the pair of heads. -/
theorem part12 (S : Vec F S8 .f32) (B0 D0 : Vec F S256x1024 .f32) (m0 l0 : Vec F S1x1024 .f32) (a0 : Vec F S128x1024 .f32)
    (h : (i 2).val ≠ 0 → B0 = biasV S (i 1).val ∧ D0 = dbiasV S (i 1).val) :
    iprop(holds c arg3 S ∗ holds c arg11 B0 ∗ holds c arg12 D0 ∗ holds c arg15 m0 ∗ holds c arg16 l0 ∗ holds c arg17 a0)
    ⊢ wp frame (wpE (defs₀ (F := F)) Variants.none (c : Thread nD τ) none) E
        (k0_part12 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val))
        (fun r => iprop(⌜r = ⟨k0_pay88, 2#32, Scalar.cmpi .eq 2#32 0#32⟩⌝ ∗ holds c arg3 S ∗ holds c arg11 (biasV S (i 1).val)
          ∗ holds c arg12 (dbiasV S (i 1).val) ∗ holds c arg15 (init (F := F)).1 ∗ holds c arg16 (init (F := F)).2.1 ∗ holds c arg17 (init (F := F)).2.2)) := by
  by_cases hc : k0_cond1 i = 1#1
  · exact part12_first c E i arg3 harg3 arg4 harg4 arg5 harg5 arg6 harg6 arg7 harg7 arg8 harg8 arg9 harg9 arg10 harg10 arg11 harg11 arg12 harg12 arg13 harg13 arg14 harg14 arg15 harg15 arg16 harg16 arg17 harg17 S B0 D0 m0 l0 a0 hc
  · obtain ⟨rfl, rfl⟩ := h (fun h0 => hc ((cond1_iff i).mpr h0))
    exact part12_later c E i arg3 harg3 arg4 harg4 arg5 harg5 arg6 harg6 arg7 harg7 arg8 harg8 arg9 harg9 arg10 harg10 arg11 harg11 arg12 harg12 arg13 harg13 arg14 harg14 arg15 harg15 arg16 harg16 arg17 harg17 S _ _ m0 l0 a0 hc

/-- The fourth part: an odd query block's state is final after it, an even one's has the chunks before the last, whose scores are ready. -/
theorem part14 (slope : FVec F S1x1024 .f32) (v109 v111 : BitVec 32) (K : Vec F S2048x128 .bf16) (V : Vec F S8x128x256 .bf16)
    (Q : Vec F S128x1024 .bf16) (bias dbias sb : Vec F S256x1024 .f32) :
    iprop(LoopMem c arg5 arg6 arg10 arg11 arg13 arg14 arg15 arg16 arg17 K V Q bias (scores K Q 0) sb init ∗ holds c arg12 dbias)
    ⊢ wp frame (wpE (defs₀ (F := F)) Variants.none (c : Thread nD τ) none) E
        (k0_part14 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) slope 2#32 v109 v111)
        (fun _ => iprop(∃ sa' sb' st, ⌜((i 2).val % 2 = 1 → st = final K V Q slope bias dbias (i 2).val) ∧
            ((i 2).val % 2 = 0 → sa' = scores K Q (i 2).val ∧ st = states K V Q slope bias (i 2).val (i 2).val)⌝
          ∗ LoopMem c arg5 arg6 arg10 arg11 arg13 arg14 arg15 arg16 arg17 K V Q bias sa' sb' st ∗ holds c arg12 dbias)) := by
  iintro ⟨H, H12⟩
  by_cases hp : (i 2).val % 2 = 1
  · iapply (wp_wand_r Idealize.ShloMosaic.frame (wpE (defs₀ (F := F)) Variants.none (c : Thread nD τ) none) E)
    isplitl [H H12]
    · iapply (part14_odd c E i arg3 harg3 arg4 harg4 arg5 harg5 arg6 harg6 arg7 harg7 arg8 harg8 arg9 harg9 arg10 harg10 arg11 harg11 arg12 harg12 arg13 harg13 arg14 harg14 arg15 harg15 arg16 harg16 arg17 harg17 slope v109 v111 K V Q bias dbias sb hp)
      isplitl [H]; · iexact H
      iexact H12
    · iintro %r ⟨%sa', %sb', H, H12⟩
      iexists sa'; iexists sb'; iexists (final K V Q slope bias dbias (i 2).val)
      isplitr; · ipureintro; exact ⟨fun _ => rfl, fun h => by omega⟩
      isplitl [H]; · iexact H
      iexact H12
  · have hp' : (i 2).val % 2 = 0 := by omega
    iapply (wp_wand_r Idealize.ShloMosaic.frame (wpE (defs₀ (F := F)) Variants.none (c : Thread nD τ) none) E)
    isplitl [H H12]
    · iapply (part14_even c E i arg3 harg3 arg4 harg4 arg5 harg5 arg6 harg6 arg7 harg7 arg8 harg8 arg9 harg9 arg10 harg10 arg11 harg11 arg12 harg12 arg13 harg13 arg14 harg14 arg15 harg15 arg16 harg16 arg17 harg17 slope v109 v111 K V Q bias dbias sb hp')
      isplitl [H]; · iexact H
      iexact H12
    · iintro %r ⟨%sb', H, H12⟩
      iexists (scores K Q (i 2).val); iexists sb'; iexists (states K V Q slope bias (i 2).val (i 2).val)
      isplitr; · ipureintro; exact ⟨fun h => by omega, fun _ => ⟨rfl, rfl⟩⟩
      isplitl [H]; · iexact H
      iexact H12

/-- The fifth part, from what the fourth leaves: the state is final, and the values of the output come from it. -/
theorem part15 (slope : FVec F S1x1024 .f32) (v145 v146 c0 : BitVec 32) (K : Vec F S2048x128 .bf16) (V : Vec F S8x128x256 .bf16)
    (Q : Vec F S128x1024 .bf16) (bias dbias sa sb : Vec F S256x1024 .f32) (st : State F) (lam : Vec F S4x64 .f32)
    (ho : (i 2).val % 2 = 1 → st = final K V Q slope bias dbias (i 2).val)
    (he : (i 2).val % 2 = 0 → sa = scores K Q (i 2).val ∧ st = states K V Q slope bias (i 2).val (i 2).val) :
    iprop(LoopMem c arg5 arg6 arg10 arg11 arg13 arg14 arg15 arg16 arg17 K V Q bias sa sb st ∗ holds c arg12 dbias ∗ holds c arg7 lam)
    ⊢ wp frame (wpE (defs₀ (F := F)) Variants.none (c : Thread nD τ) none) E
        (k0_part15 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) slope v145 v146 c0)
        (fun r => iprop(LoopMem c arg5 arg6 arg10 arg11 arg13 arg14 arg15 arg16 arg17 K V Q bias sa sb (final K V Q slope bias dbias (i 2).val)
          ∗ holds c arg12 dbias ∗ holds c arg7 lam ∗ ⌜r = out15 lam (final K V Q slope bias dbias (i 2).val)⌝)) := by
  by_cases hp : (i 2).val % 2 = 1
  · obtain rfl := ho hp
    exact part15_odd c E i arg3 harg3 arg4 harg4 arg5 harg5 arg6 harg6 arg7 harg7 arg8 harg8 arg9 harg9 arg10 harg10 arg11 harg11 arg12 harg12 arg13 harg13 arg14 harg14 arg15 harg15 arg16 harg16 arg17 harg17 slope v145 v146 c0 K V Q bias dbias sa sb _ lam hp
  · have hp' : (i 2).val % 2 = 0 := by omega
    obtain ⟨rfl, rfl⟩ := he hp'
    exact part15_even c E i arg3 harg3 arg4 harg4 arg5 harg5 arg6 harg6 arg7 harg7 arg8 harg8 arg9 harg9 arg10 harg10 arg11 harg11 arg12 harg12 arg13 harg13 arg14 harg14 arg15 harg15 arg16 harg16 arg17 harg17 slope v145 v146 c0 K V Q bias dbias sb lam hp'

/-- What one point leaves, from the blocks it reads, the two biases being those of its pair of heads at all points but the first of a row. -/
theorem body (S : Vec F S8 .f32) (X : Vec F S1x256x256 .f32) (K : Vec F S2048x128 .bf16) (V : Vec F S8x128x256 .bf16) (lam : Vec F S4x64 .f32)
    (sub : Vec F S128x1 .f32) (O : Vec F S256x256 .bf16) (Q0 : Vec F S128x1024 .bf16) (B0 D0 sa sb : Vec F S256x1024 .f32)
    (m0 l0 : Vec F S1x1024 .f32) (a0 : Vec F S128x1024 .f32) (h : (i 2).val ≠ 0 → B0 = biasV S (i 1).val ∧ D0 = dbiasV S (i 1).val) :
    iprop((holds c arg3 S ∗ holds c arg4 X ∗ holds c arg5 K ∗ holds c arg6 V ∗ holds c arg7 lam ∗ holds c arg8 sub ∗ holds c arg9 O)
      ∗ holds c arg10 Q0 ∗ holds c arg11 B0 ∗ holds c arg12 D0 ∗ holds c arg13 sa ∗ holds c arg14 sb ∗ holds c arg15 m0 ∗ holds c arg16 l0 ∗ holds c arg17 a0)
    ⊢ wp frame (wpE (defs₀ (F := F)) Variants.none (c : Thread nD τ) none) E
        (cc0_diff_prompt (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => iprop((holds c arg3 S ∗ holds c arg4 X ∗ holds c arg5 K ∗ holds c arg6 V ∗ holds c arg7 lam ∗ holds c arg8 sub
            ∗ holds c arg9 (outV S X K V lam sub (i 1).val (i 2).val))
          ∗ (∃ d, holds c arg10 d) ∗ holds c arg11 (biasV S (i 1).val) ∗ holds c arg12 (dbiasV S (i 1).val)
          ∗ (∃ d, holds c arg13 d) ∗ (∃ d, holds c arg14 d) ∗ (∃ d, holds c arg15 d) ∗ (∃ d, holds c arg16 d) ∗ (∃ d, holds c arg17 d))) := by
  rw [cc0_diff_prompt_eq_skeleton]; unfold cc0_diff_prompt_skel
  iintro ⟨⟨H3, H4, H5, H6, H7, H8, H9⟩, H10, H11, H12, H13, H14, H15, H16, H17⟩
  rw [wp_bind]
  iapply (wp_wand_r Idealize.ShloMosaic.frame (wpE (defs₀ (F := F)) Variants.none (c : Thread nD τ) none) E)
  isplitl [H4 H10]
  · iapply (part11 c E i arg3 harg3 arg4 harg4 arg5 harg5 arg6 harg6 arg7 harg7 arg8 harg8 arg9 harg9 arg10 harg10 arg11 harg11 arg12 harg12 arg13 harg13 arg14 harg14 arg15 harg15 arg16 harg16 arg17 harg17 X Q0)
    isplitl [H4]; · iexact H4
    iexact H10
  iintro %r ⟨%hr, H4, H10⟩
  subst hr
  dsimp only
  rw [wp_bind]
  iapply (wp_wand_r Idealize.ShloMosaic.frame (wpE (defs₀ (F := F)) Variants.none (c : Thread nD τ) none) E)
  isplitl [H3 H11 H12 H15 H16 H17]
  · iapply (part12 c E i arg3 harg3 arg4 harg4 arg5 harg5 arg6 harg6 arg7 harg7 arg8 harg8 arg9 harg9 arg10 harg10 arg11 harg11 arg12 harg12 arg13 harg13 arg14 harg14 arg15 harg15 arg16 harg16 arg17 harg17 S B0 D0 m0 l0 a0 h)
    isplitl [H3]; · iexact H3
    isplitl [H11]; · iexact H11
    isplitl [H12]; · iexact H12
    isplitl [H15]; · iexact H15
    isplitl [H16]; · iexact H16
    iexact H17
  iintro %r ⟨%hr, H3, H11, H12, H15, H16, H17⟩
  subst hr
  dsimp only
  rw [wp_bind]
  iapply (wp_wand_r Idealize.ShloMosaic.frame (wpE (defs₀ (F := F)) Variants.none (c : Thread nD τ) none) E)
  isplitl [H3 H5 H10 H13]
  · iapply (part13 c E i arg3 harg3 arg4 harg4 arg5 harg5 arg6 harg6 arg7 harg7 arg8 harg8 arg9 harg9 arg10 harg10 arg11 harg11 arg12 harg12 arg13 harg13 arg14 harg14 arg15 harg15 arg16 harg16 arg17 harg17 S K (qmat X) sa)
    isplitl [H3]; · iexact H3
    isplitl [H5]; · iexact H5
    isplitl [H10]; · iexact H10
    iexact H13
  iintro %r ⟨%hr, H3, H5, H10, H13⟩
  subst hr
  dsimp only
  rw [wp_bind]
  iapply (wp_wand_r Idealize.ShloMosaic.frame (wpE (defs₀ (F := F)) Variants.none (c : Thread nD τ) none) E)
  isplitl [H5 H6 H10 H11 H13 H14 H15 H16 H17 H12]
  · iapply (part14 c E i arg3 harg3 arg4 harg4 arg5 harg5 arg6 harg6 arg7 harg7 arg8 harg8 arg9 harg9 arg10 harg10 arg11 harg11 arg12 harg12 arg13 harg13 arg14 harg14 arg15 harg15 arg16 harg16 arg17 harg17 (slopeV S (i 1).val) _ _ K V (qmat X) (biasV S (i 1).val) (dbiasV S (i 1).val) sb)
    isplitr [H12]; swap; · iexact H12
    isplitl [H5]; · iexact H5
    isplitl [H6]; · iexact H6
    isplitl [H10]; · iexact H10
    isplitl [H11]; · iexact H11
    isplitl [H13]; · iexact H13
    isplitl [H14]; · iexact H14
    isplitl [H15]; · iexact H15
    isplitl [H16]; · iexact H16
    iexact H17
  iintro %r ⟨%sa', %sb', %st, %hst, H, H12⟩
  obtain ⟨v145, v146, c0⟩ := r
  dsimp only
  rw [wp_bind]
  iapply (wp_wand_r Idealize.ShloMosaic.frame (wpE (defs₀ (F := F)) Variants.none (c : Thread nD τ) none) E)
  isplitl [H H12 H7]
  · iapply (part15 c E i arg3 harg3 arg4 harg4 arg5 harg5 arg6 harg6 arg7 harg7 arg8 harg8 arg9 harg9 arg10 harg10 arg11 harg11 arg12 harg12 arg13 harg13 arg14 harg14 arg15 harg15 arg16 harg16 arg17 harg17 (slopeV S (i 1).val) v145 v146 c0 K V (qmat X) (biasV S (i 1).val) (dbiasV S (i 1).val) sa' sb' st lam hst.1 hst.2)
    isplitl [H]; · iexact H
    isplitl [H12]; · iexact H12
    iexact H7
  iintro %r ⟨⟨H5, H6, H10, H11, H13, H14, H15, H16, H17⟩, H12, H7, %hr⟩
  subst hr
  dsimp only [out15]
  have r8 := rd (F := F) arg8
  sl_exec
  sl_step
  clear r8
  isplitl [H3 H4 H5 H6 H7 H8 H9]
  · isplitl [H3]; · iexact H3
    isplitl [H4]; · iexact H4
    isplitl [H5]; · iexact H5
    isplitl [H6]; · iexact H6
    isplitl [H7]; · iexact H7
    isplitl [H8]; · iexact H8
    iapply holds_intro; iexists _; isplitr; swap; · iexact H9
    ipureintro
    sl_open_run
    simp only [View.read_writes_cons_put _ _ _ _ _ rfl, View.writes_nil, View.read_rep]
    exact halves_eq ..
  isplitl [H10]; · iexists _; iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  iexists _; iexact H17

end Cert.KernelIdeal.Run
-- ==== Proof.Run.Value.lean ====
/-
  The kernel's run with its values: at every grid point the output's block holds what the body computes from the
  point's blocks, the two bias scratches hold the biases of the point's pair of heads; so the run ends with the
  result array at the blocks written back.
-/
module

public import proofs.«01_k».proof.Proof.Run.Body
public import proofs.«01_k».proof.Proof.Gen.KernelIdeal.Frame.Runs
public import Idealize.ShloMosaic.Lib.Claim

@[expose] public section

set_option maxRecDepth 16384
set_option maxHeartbeats 4000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Model

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The coordinates of a position: the batch, the pair of heads, the query block. -/
theorem coord0 : ∀ t : Fin cfg0.N, (grid0.coords t 0).val = t.val / 32 :=
  (by decide +kernel : ∀ t : Fin grid0.N, (grid0.coords t 0).val = t.val / 32)
theorem coord1 : ∀ t : Fin cfg0.N, (grid0.coords t 1).val = t.val / 8 % 4 :=
  (by decide +kernel : ∀ t : Fin grid0.N, (grid0.coords t 1).val = t.val / 8 % 4)
theorem coord2 : ∀ t : Fin cfg0.N, (grid0.coords t 2).val = t.val % 8 :=
  (by decide +kernel : ∀ t : Fin grid0.N, (grid0.coords t 2).val = t.val % 8)

/-- The table of slopes is read whole at every point. -/
theorem iblk0 (c : Dev nD) (t t' : Fin cfg0.N) : iblk m c 0 t = iblk m c 0 t' := rfl

/-- The pair of heads of position `n`. -/
def pair (n : ℕ) : ℕ := n / 8 % 4

/-- The table of slopes. -/
def slopes (c : Dev nD) : Vec F S8 .f32 := iblk m c 0 ⟨0, by rw [show cfg0.N = 256 from N_0]; decide⟩

theorem iblk_slopes (c : Dev nD) (t : Fin cfg0.N) : iblk m c 0 t = slopes m c := iblk0 m c t _

/-- What the output's block holds after the point. -/
def outAt (c : Dev nD) (t : Fin cfg0.N) : Vec F S256x256 .bf16 :=
  outV (slopes m c) (iblk m c 1 t) (iblk m c 2 t) (iblk m c 3 t) (iblk m c 4 t) (iblk m c 5 t) (pair t.val) (t.val % 8)

/-- The scratch between points, the two biases at `B` and `D`. -/
def scratch (c : Dev nD) (B D : Vec F S256x1024 .f32) : sProp 𝕄 :=
  iprop(iprop((∃ d, owns (c : Thread nD τ) scM0_0 fullShare d) ∗ owns (c : Thread nD τ) scM0_1 fullShare B ∗ owns (c : Thread nD τ) scM0_2 fullShare D
    ∗ (∃ d, owns (c : Thread nD τ) scM0_3 fullShare d) ∗ (∃ d, owns (c : Thread nD τ) scM0_4 fullShare d) ∗ (∃ d, owns (c : Thread nD τ) scM0_5 fullShare d)
    ∗ (∃ d, owns (c : Thread nD τ) scM0_6 fullShare d) ∗ (∃ d, owns (c : Thread nD τ) scM0_7 fullShare d)) ∗ (∃ r, prngReg c r))

/-- The invariant between points: after a point the biases are those of its pair of heads. -/
def Inv (c : Dev nD) : (n : ℕ) → n ≤ cfg0.N → sProp 𝕄
  | 0, _ => Pipeline.ΦA spec0 c
  | n + 1, _ => scratch c (biasV (slopes m c) (pair n)) (dbiasV (slopes m c) (pair n))

/-- The proof data: arrays as the launch finds them, inputs' blocks as read, the output's block at the body's value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Before a point the biases are at something, which is the point's own pair's unless the point starts a row. -/
theorem Inv_open (c : Dev nD) (t : Fin cfg0.N) :
    (dats m 0 c).Φ t.castSucc ⊢ iprop(∃ B D, ⌜t.val % 8 ≠ 0 → B = biasV (slopes m c) (pair t.val) ∧ D = dbiasV (slopes m c) (pair t.val)⌝ ∗ scratch c B D) := by
  rw [show (dats m 0 c).Φ t.castSucc = Inv m c t.val (Nat.le_of_lt t.isLt) from by
    dsimp only [dats]; exact Pipeline.Dat.Φ_castSucc (Inv m c) t]
  obtain ⟨n, hn⟩ := t
  cases n with
  | zero =>
    rw [show Inv m c 0 (Nat.zero_le _) = (Pipeline.ΦA spec0 c : sProp 𝕄) from rfl, PhiA0_eq]
    iintro ⟨⟨HS0, ⟨%B, HS1⟩, ⟨%D, HS2⟩, HS3⟩, Hg⟩
    iexists B; iexists D
    isplitr; · ipureintro; intro h; exact absurd rfl h
    unfold scratch
    isplitr [Hg]; swap; · iexact Hg
    isplitl [HS0]; · iexact HS0
    isplitl [HS1]; · iexact HS1
    isplitl [HS2]; · iexact HS2
    iexact HS3
  | succ n =>
    rw [show Inv m c (n + 1) (Nat.le_of_lt hn) = scratch c (biasV (slopes m c) (pair n)) (dbiasV (slopes m c) (pair n)) from rfl]
    iintro H
    iexists _; iexists _
    isplitr; swap; · iexact H
    ipureintro
    intro h
    have e : pair (n + 1) = pair n := by unfold pair; dsimp only at h; omega
    dsimp only
    rw [e]
    exact ⟨rfl, rfl⟩

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6]
  rw [show (dats m 0 c).Φ t.succ = scratch c (biasV (slopes m c) (pair t.val)) (dbiasV (slopes m c) (pair t.val)) from rfl]
  refine BIBase.Entails.trans (BIClass.sep_mono (Inv_open m c t) Entails.rfl) ?_
  unfold scratch outAt
  simp only [iblk_slopes]
  rw [← coord2 t, show pair t.val = (grid0.coords t 1).val from (coord1 t).symm]
  iintro ⟨⟨%B, %D, %hBD, ⟨⟨%d10, S0⟩, S1, S2, ⟨%d13, S3⟩, ⟨%d14, S4⟩, ⟨%d15, S5⟩, ⟨%d16, S6⟩, ⟨%d17, S7⟩⟩, Hg⟩, Ho, ⟨%d0, H0⟩, ⟨%d1, H1⟩, ⟨%d2, H2⟩, ⟨%d3, H3⟩, ⟨%d4, H4⟩, ⟨%d5, H5⟩, ⟨%d6, H6⟩⟩
  simp only [owns_eq_rep]
  iapply (wp_wand_r Idealize.ShloMosaic.frame (wpE (defs₀ (F := F)) Variants.none (c : Thread nD τ) none) Set.univ)
  isplitl [H0 H1 H2 H3 H4 H5 H6 S0 S1 S2 S3 S4 S5 S6 S7]
  · iapply (body c Set.univ (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 _ scM0_1 _ scM0_2 _ scM0_3 _ scM0_4 _ scM0_5 _ scM0_6 _ scM0_7 _
      (slopes m c) (iblk m c 1 t) (iblk m c 2 t) (iblk m c 3 t) (iblk m c 4 t) (iblk m c 5 t) _ d10 B D d13 d14 d15 d16 d17 hBD)
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  · iintro %_ ⟨⟨H0, H1, H2, H3, H4, H5, H6⟩, S0, S1, S2, S3, S4, S5, S6, S7⟩
    isplitl [S0 S1 S2 S3 S4 S5 S6 S7 Hg]
    · isplitr [Hg]; swap; · iexact Hg
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = (Pipeline.ΦA spec0 c : sProp 𝕄) from rfl]

theorem hout (c : Dev nD) : (dats m 0 c).Φ (Fin.last cfg0.N) ⊢ Pipeline.ΦA spec0 c := by
  have hN : cfg0.N = 255 + 1 := N_0
  have key : ∀ n (h : n ≤ cfg0.N), n ≠ 0 → (Inv m c n h : sProp 𝕄) ⊢ Pipeline.ΦA spec0 c := by
    intro n h hn
    cases n with
    | zero => exact absurd rfl hn
    | succ n =>
      rw [show Inv m c (n + 1) h = scratch c (biasV (slopes m c) (pair n)) (dbiasV (slopes m c) (pair n)) from rfl, PhiA0_eq]
      unfold scratch
      iintro ⟨⟨HS0, HS1, HS2, HS3⟩, Hg⟩
      isplitr [Hg]; swap; · iexact Hg
      isplitl [HS0]; · iexact HS0
      isplitl [HS1]; · iexists _; iexact HS1
      isplitl [HS2]; · iexists _; iexact HS2
      iexact HS3
  exact key cfg0.N (Nat.le_refl _) (by omega)

set_option backward.isDefEq.respectTransparency.types false in
/-- The launch: every array of the pipeline ends at what the proof data says, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Run
-- ==== Proof.Run.Frame.lean ====
/-
  The frame, over any float values: the arguments unchanged, every semaphore at zero.
-/
module

public import proofs.«01_k».proof.Proof.Run.Value
public import Idealize.ShloMosaic.Lib.Claim

@[expose] public section

set_option maxRecDepth 16384
set_option maxHeartbeats 1000000

noncomputable section

namespace Cert.KernelIdeal.Run

open Idealize.ShloMosaic Idealize.ShloMosaic.TcCoe Idealize.SL.Sem Idealize.ShloMosaic.Tactic
open Cert.KernelIdeal Cert.KernelIdeal.Gen Cert.KernelIdeal.Model

variable {F : FTy → Type} [FloatOps F] [Named F] (m : (ℓ : Loc nD τ sig) → Buf (Elt F) ℓ) (ρ : Dev nD → PrngReg)

theorem unchanged : θ_run (defs (F := F)) (onTc (τ := τ) (main (F := F))) ⟨m, fun _ => 0, ρ⟩ fun r => ∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have h := θ_run_mono (run_main_quiescent m ρ) fun _ h => h.1
  run_from h

theorem frame : θ_run (defs (F := F)) (onTc (τ := τ) (main (F := F))) ⟨m, fun _ => 0, ρ⟩ fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  θ_run_mono (θ_run_and (unchanged m ρ) (run_main_quiescent m ρ)) fun _ h => ⟨h.1, h.2.2⟩

end Cert.KernelIdeal.Run
-- ==== Proof.Run.Printed.lean ====
/-
  The kernel as printed: a named constant read as the word it stands for makes the two texts one, so the frame over any
  float values is the kernel's too.
-/
module

public import proofs.«01_k».proof.Defs
public import proofs.«01_k».proof.Proof.Run.Frame
public import proofs.«01_k».proof.Proof.Gen.Kernel
public import Idealize.ShloMosaic.PureOps.BitExact

@[expose] public section

set_option maxRecDepth 16384
set_option maxHeartbeats 2000000

noncomputable section

namespace Cert.Printed

open Idealize.ShloMosaic Idealize.SL.Sem

/-- A named constant is its word. -/
instance word : Named Bits := ⟨fun _ _ {φ} b => FloatOps.ofBits (F := Bits) φ b⟩

theorem main_eq : Cert.Kernel.main (F := Bits) = Cert.KernelIdeal.main (F := Bits) := rfl

theorem body_eq : @Cert.Kernel.cc0_diff_prompt Bits _ _ = @Cert.KernelIdeal.cc0_diff_prompt Bits _ _ _ := rfl

theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs (Cert.KernelIdeal.pcfgs (F := Bits))) defs₀_eq

theorem frame : Cert.quiescent_Kernel := fun m ρ _ =>
  (congrArg₂ (fun d p => θ_run d (onTc (τ := Cert.KernelIdeal.τ) p) ⟨m, fun _ => 0, ρ⟩ _) defs_eq main_eq).mpr (Cert.KernelIdeal.Run.frame (F := Bits) m ρ)

end Cert.Printed
-- ==== Proof.Math.Softmax.lean ====
/-
  The mathematics of a softmax computed chunk by chunk over the extended reals: the running maximum, the running sum
  of weights and the running weighted sum after some keys, how one more chunk changes them, and the two forms of the
  weights (powers of two of scaled scores, exponentials of the scores).
-/
module

public import Idealize.ShloMosaic.PureOps.Ideal

@[expose] public section

noncomputable section

namespace Cert.Softmax

open Idealize.ShloMosaic

/-- The weight of a score `s` against the maximum `m`. -/
def wt (s m : EReal) : EReal := Ideal.exp2 (s - m)

/-- The largest of the first `N` scores. -/
def top (S : ℕ → EReal) (N : ℕ) : EReal := (Finset.range N).sup S
/-- The sum of the first `N` weights. -/
def tot (S : ℕ → EReal) (N : ℕ) : EReal := ∑ i ∈ Finset.range N, wt (S i) (top S N)
/-- The weighted sum of the first `N` values. -/
def acc (S v : ℕ → EReal) (N : ℕ) : EReal := ∑ i ∈ Finset.range N, v i * wt (S i) (top S N)

theorem wt_real {s m : EReal} (h : s ≤ m) : ∃ r : ℝ, 0 ≤ r ∧ wt s m = r := by
  unfold wt
  induction s with
  | bot => exact ⟨0, le_refl _, by simp [sub_eq_add_neg]⟩
  | top => obtain rfl : m = ⊤ := top_le_iff.mp h; exact ⟨0, le_refl _, by simp [sub_eq_add_neg]⟩
  | coe s =>
    induction m with
    | bot => simp at h
    | top => exact ⟨0, le_refl _, by simp [sub_eq_add_neg]⟩
    | coe m => exact ⟨Real.rpow 2 (s - m), Real.rpow_nonneg (by norm_num) _, by rw [← EReal.coe_sub, Ideal.exp2_coe]⟩

theorem wt_bot (m : EReal) : wt ⊥ m = 0 := by simp [wt, sub_eq_add_neg]

/-- Weights against a smaller maximum are rescaled to a larger one. -/
theorem wt_mul {s a b : EReal} (h : s ≤ a) (h' : a ≤ b) : wt a b * wt s a = wt s b := by
  unfold wt
  induction b with
  | bot =>
    obtain rfl := le_bot_iff.mp h'
    obtain rfl := le_bot_iff.mp h
    simp [sub_eq_add_neg]
  | top => simp [sub_eq_add_neg]
  | coe b =>
    induction a with
    | bot => obtain rfl := le_bot_iff.mp h; simp [sub_eq_add_neg]
    | top => simp at h'
    | coe a =>
      induction s with
      | bot => simp [sub_eq_add_neg]
      | top => simp at h
      | coe s =>
        rw [← EReal.coe_sub, ← EReal.coe_sub, ← EReal.coe_sub, Ideal.exp2_coe, Ideal.exp2_coe, Ideal.exp2_coe, ← EReal.coe_mul]
        congr 1
        show (2 : ℝ) ^ (a - b) * (2 : ℝ) ^ (s - a) = (2 : ℝ) ^ (s - b)
        rw [← Real.rpow_add (by norm_num)]; congr 1; ring

theorem sub_sub_real (s m : EReal) (c : ℝ) : s - (m - c) = (s + c) - m := by
  induction s <;> induction m <;> simp [sub_eq_add_neg] <;> norm_cast <;> ring

/-- A nonnegative real constant goes into a sum of any extended reals. -/
theorem mul_sum_real {ι : Type*} {c : EReal} (h : 0 ≤ c) (h' : c ≠ ⊤) (A : Finset ι) (f : ι → EReal) :
    c * ∑ i ∈ A, f i = ∑ i ∈ A, c * f i := by
  classical
  induction A using Finset.induction_on with
  | empty => simp
  | insert a A ha ih => rw [Finset.sum_insert ha, Finset.sum_insert ha, EReal.left_distrib_of_nonneg_of_ne_top h h', ih]

theorem le_top {S : ℕ → EReal} {N i : ℕ} (h : i < N) : S i ≤ top S N := Finset.le_sup (f := S) (Finset.mem_range.mpr h)

theorem top_mono (S : ℕ → EReal) (N M : ℕ) : top S N ≤ top S (N + M) :=
  Finset.sup_mono (fun i hi => Finset.mem_range.mpr (by have := Finset.mem_range.mp hi; omega))

theorem wt_top_real (S : ℕ → EReal) (N M : ℕ) : 0 ≤ wt (top S N) (top S (N + M)) ∧ wt (top S N) (top S (N + M)) ≠ ⊤ := by
  obtain ⟨r, h0, h⟩ := wt_real (top_mono S N M)
  rw [h]
  exact ⟨by exact_mod_cast h0, EReal.coe_ne_top r⟩

/-- The maximum over a chunk, as a fold from below. -/
theorem fold_max {M : ℕ} (s : Fin M → EReal) : Finset.univ.fold max ⊥ s = Finset.univ.sup s := rfl

/-- The maximum after one more chunk, given as scores off by a real number. -/
theorem top_add (S : ℕ → EReal) (N M : ℕ) (s : Fin M → EReal) (off : ℝ) (hs : ∀ r : Fin M, s r + off = S (N + r)) :
    max (top S N) (Finset.univ.sup s + off) = top S (N + M) := by
  apply le_antisymm
  · refine max_le (top_mono S N M) ?_
    have h : ∀ r : Fin M, s r ≤ top S (N + M) - off := fun r => by
      rw [EReal.le_sub_iff_add_le (.inl (EReal.coe_ne_bot _)) (.inl (EReal.coe_ne_top _)), hs r]
      exact le_top (by have := r.isLt; omega)
    rw [← EReal.le_sub_iff_add_le (.inl (EReal.coe_ne_bot _)) (.inl (EReal.coe_ne_top _))]
    exact Finset.sup_le fun r _ => h r
  · refine Finset.sup_le fun i hi => ?_
    have hi := Finset.mem_range.mp hi
    by_cases h : i < N
    · exact le_max_of_le_left (le_top h)
    · refine le_max_of_le_right ?_
      have e : S i = s ⟨i - N, by omega⟩ + off := by rw [hs]; congr 1; show i = N + (i - N); omega
      rw [e]
      exact add_le_add (Finset.le_sup (f := s) (Finset.mem_univ _)) (le_refl _)

/-- The weighted sum after one more chunk. -/
theorem acc_add (S v : ℕ → EReal) (N M : ℕ) (s : Fin M → EReal) (off : ℝ) (hs : ∀ r : Fin M, s r + off = S (N + r)) :
    Ideal.exp2 (top S N - top S (N + M)) * acc S v N + ∑ r : Fin M, v (N + r) * Ideal.exp2 (s r - (top S (N + M) - off)) = acc S v (N + M) := by
  unfold acc
  rw [Finset.sum_range_add, show Ideal.exp2 (top S N - top S (N + M)) = wt (top S N) (top S (N + M)) from rfl,
    mul_sum_real (wt_top_real S N M).1 (wt_top_real S N M).2]
  congr 1
  · refine Finset.sum_congr rfl fun i hi => ?_
    rw [mul_left_comm, wt_mul (le_top (Finset.mem_range.mp hi)) (top_mono S N M)]
  · rw [Finset.sum_range (fun i => v (N + i) * wt (S (N + i)) (top S (N + M)))]
    refine Finset.sum_congr rfl fun r _ => ?_
    rw [sub_sub_real, hs]; rfl

theorem tot_eq_acc (S : ℕ → EReal) (N : ℕ) : tot S N = acc S (fun _ => 1) N := by
  unfold tot acc; simp

/-- The sum of weights after one more chunk. -/
theorem tot_add (S : ℕ → EReal) (N M : ℕ) (s : Fin M → EReal) (off : ℝ) (hs : ∀ r : Fin M, s r + off = S (N + r)) :
    Ideal.exp2 (top S N - top S (N + M)) * tot S N + ∑ r : Fin M, Ideal.exp2 (s r - (top S (N + M) - off)) = tot S (N + M) := by
  rw [tot_eq_acc, tot_eq_acc, ← acc_add S _ N M s off hs]; simp

/-! Keys whose score is −∞ count for nothing. -/
theorem top_ext {S : ℕ → EReal} {N M : ℕ} (hNM : N ≤ M) (h : ∀ i, N ≤ i → i < M → S i = ⊥) : top S N = top S M := by
  refine le_antisymm (by obtain ⟨k, rfl⟩ := Nat.exists_eq_add_of_le hNM; exact top_mono S N k) (Finset.sup_le fun i hi => ?_)
  by_cases hi' : i < N
  · exact le_top hi'
  · rw [h i (by omega) (Finset.mem_range.mp hi)]; exact bot_le

theorem acc_ext {S : ℕ → EReal} (v : ℕ → EReal) {N M : ℕ} (hNM : N ≤ M) (h : ∀ i, N ≤ i → i < M → S i = ⊥) : acc S v N = acc S v M := by
  unfold acc
  rw [top_ext hNM h]
  refine Finset.sum_subset (fun i hi => Finset.mem_range.mpr (by have := Finset.mem_range.mp hi; omega)) fun i hi hi' => ?_
  rw [h i (by simpa using hi') (Finset.mem_range.mp hi), wt_bot, mul_zero]

theorem tot_ext {S : ℕ → EReal} {N M : ℕ} (hNM : N ≤ M) (h : ∀ i, N ≤ i → i < M → S i = ⊥) : tot S N = tot S M := by
  rw [tot_eq_acc, tot_eq_acc, acc_ext _ hNM h]

/-! Exponentials of the scores are powers of two of the scores times `1 / log 2`. -/

theorem exp_eq_exp2 (x : EReal) : Ideal.exp x = Ideal.exp2 (((Real.log 2)⁻¹ : ℝ) * x) := by
  have hl : 0 < (Real.log 2)⁻¹ := inv_pos.mpr (Real.log_pos (by norm_num))
  induction x with
  | bot => rw [EReal.coe_mul_bot_of_pos hl]; simp
  | top => rw [EReal.coe_mul_top_of_pos hl]; simp
  | coe x =>
    rw [← EReal.coe_mul, Ideal.exp2_coe, Ideal.exp_coe]
    congr 1
    show Real.exp x = (2 : ℝ) ^ ((Real.log 2)⁻¹ * x)
    rw [Real.rpow_def_of_pos (by norm_num), ← mul_assoc, mul_inv_cancel₀ (Real.log_pos (by norm_num)).ne', one_mul]

theorem exp_sub_eq_wt (s m : EReal) : Ideal.exp (s - m) = wt (((Real.log 2)⁻¹ : ℝ) * s) (((Real.log 2)⁻¹ : ℝ) * m) := by
  have hl : 0 < (Real.log 2)⁻¹ := inv_pos.mpr (Real.log_pos (by norm_num))
  rw [exp_eq_exp2, wt, sub_eq_add_neg, EReal.left_distrib_of_nonneg_of_ne_top (by exact_mod_cast hl.le) (EReal.coe_ne_top _), mul_neg, ← sub_eq_add_neg]

theorem top_scale (S T : ℕ → EReal) (N : ℕ) (h : ∀ i, i < N → S i = ((Real.log 2)⁻¹ : ℝ) * T i) :
    top S N = ((Real.log 2)⁻¹ : ℝ) * top T N := by
  have hl : 0 < (Real.log 2)⁻¹ := inv_pos.mpr (Real.log_pos (by norm_num))
  have hm : Monotone fun x : EReal => (((Real.log 2)⁻¹ : ℝ) : EReal) * x := fun x y hxy => mul_le_mul_of_nonneg_left hxy (by exact_mod_cast hl.le)
  unfold top
  rw [show (Finset.range N).sup S = (Finset.range N).sup (fun i => (((Real.log 2)⁻¹ : ℝ) : EReal) * T i) from
    Finset.sup_congr rfl fun i hi => h i (Finset.mem_range.mp hi)]
  exact (Finset.comp_sup_eq_sup_comp_of_is_total (fun x : EReal => (((Real.log 2)⁻¹ : ℝ) : EReal) * x) hm
    (EReal.coe_mul_bot_of_pos hl)).symm

end Cert.Softmax
-- ==== Proof.Math.Norm.lean ====
/-
  The end of the attention, over the extended reals: the difference of two softmax maps against the values, and its
  root-mean-square normalisation. Weighting by quotients of weights, or dividing the weighted sums at the end, gives
  the same normalised vector, also where a map's largest score is infinite: there every component of the difference
  is zero or infinite on both sides and is normalised to zero.
-/
module

public import proofs.«01_k».proof.Proof.Math.Softmax

@[expose] public section

noncomputable section

namespace Cert.Softmax

open Idealize.ShloMosaic

/-- A finite sum of reals, as an extended real. -/
theorem coe_sum {ι : Type*} (A : Finset ι) (f : ι → ℝ) : ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

/-- Either no key has a weight, or the weights are real and not all zero. -/
theorem weights (S : ℕ → EReal) {N : ℕ} (hN : 0 < N) :
    (∀ i, i < N → wt (S i) (top S N) = 0) ∨
      ∃ w : ℕ → ℝ, (∀ i, i < N → wt (S i) (top S N) = w i) ∧ tot S N = ((∑ i ∈ Finset.range N, w i : ℝ) : EReal) ∧ (∑ i ∈ Finset.range N, w i) ≠ 0 := by
  obtain ⟨k, hk, hkt⟩ := Finset.exists_mem_eq_sup (Finset.range N) ⟨0, Finset.mem_range.mpr hN⟩ S
  have hkt : top S N = S k := hkt
  have hk := Finset.mem_range.mp hk
  by_cases hr : top S N = ⊤ ∨ top S N = ⊥
  · refine .inl fun i hi => ?_
    have hle := le_top (S := S) hi
    rcases hr with hr | hr
    · rw [hr]; simp [wt, sub_eq_add_neg]
    · rw [hr] at hle ⊢; rw [le_bot_iff.mp hle, wt_bot]
  · push Not at hr
    refine .inr ?_
    have hx : ∀ i, ∃ r : ℝ, i < N → 0 ≤ r ∧ wt (S i) (top S N) = r := fun i => by
      by_cases hi : i < N
      · obtain ⟨r, h⟩ := wt_real (le_top (S := S) hi); exact ⟨r, fun _ => h⟩
      · exact ⟨0, fun h => absurd h hi⟩
    choose w hw using hx
    have hk1 : w k = 1 := by
      have h := (hw k hk).2
      obtain ⟨t, ht⟩ : ∃ t : ℝ, top S N = t := by
        induction h : top S N with
        | bot => exact absurd h hr.2
        | top => exact absurd h hr.1
        | coe t => exact ⟨t, rfl⟩
      rw [← hkt, ht, wt, ← EReal.coe_sub, sub_self, Ideal.exp2_coe] at h
      have h' : Real.rpow 2 0 = w k := by exact_mod_cast h
      rw [← h']; exact Real.rpow_zero 2
    refine ⟨w, fun i hi => (hw i hi).2, ?_, ?_⟩
    · unfold tot
      rw [coe_sum]
      exact Finset.sum_congr rfl fun i hi => (hw i (Finset.mem_range.mp hi)).2
    · refine ne_of_gt (lt_of_lt_of_le (show (0 : ℝ) < w k by rw [hk1]; norm_num) ?_)
      exact Finset.single_le_sum (f := w) (fun i hi => (hw i (Finset.mem_range.mp hi)).1) (Finset.mem_range.mpr hk)

/-- The normalised component `d` of a vector `o`. -/
def rms (c e : EReal) (o : Fin 128 → EReal) (d : Fin 128) : EReal := o d * Ideal.rsqrt (Ideal.div (∑ k, o k * o k) c + e)

/-- Zero or infinite. -/
def Degenerate (x : EReal) : Prop := x = 0 ∨ x = ⊤ ∨ x = ⊥

theorem Degenerate.mul_self {x : EReal} (h : Degenerate x) : 0 ≤ x * x ∧ (x ≠ 0 → x * x = ⊤) := by
  rcases h with rfl | rfl | rfl <;> simp

/-- A vector of zeros and infinities is normalised to zero. -/
theorem rms_degenerate {c e : ℝ} (hc : 0 < c) (o : Fin 128 → EReal) (h : ∀ d, Degenerate (o d)) (d : Fin 128) : rms c e o d = 0 := by
  unfold rms
  by_cases hd : o d = 0
  · rw [hd, zero_mul]
  · have ht : ∑ k, o k * o k = ⊤ := top_le_iff.mp (by
      rw [← (h d).mul_self.2 hd]
      exact Finset.single_le_sum (f := fun k => o k * o k) (fun i _ => (h i).mul_self.1) (Finset.mem_univ d))
    rw [ht, Ideal.div_coe hc.ne', EReal.top_mul_coe_of_pos (by positivity), EReal.top_add_coe, Ideal.rsqrt_top, mul_zero]

theorem Degenerate.add {x y : EReal} (hx : Degenerate x) (hy : Degenerate y) : Degenerate (x + y) := by
  rcases hx with rfl | rfl | rfl <;> rcases hy with rfl | rfl | rfl <;> simp [Degenerate]

theorem Degenerate.sum {ι : Type*} (A : Finset ι) (f : ι → EReal) (h : ∀ i ∈ A, Degenerate (f i)) : Degenerate (∑ i ∈ A, f i) := by
  classical
  induction A using Finset.induction_on with
  | empty => exact .inl rfl
  | insert a A ha ih =>
    rw [Finset.sum_insert ha]
    exact (h a (Finset.mem_insert_self _ _)).add (ih fun i hi => h i (Finset.mem_insert_of_mem hi))

/-- A real times an infinity. -/
theorem Degenerate.real_mul {x : EReal} (hx : Degenerate x) (v : ℝ) : Degenerate (v * x) := by
  rcases lt_trichotomy v 0 with h | rfl | h <;> rcases hx with rfl | rfl | rfl <;>
    simp [Degenerate, EReal.coe_mul_top_of_neg, EReal.coe_mul_top_of_pos, EReal.coe_mul_bot_of_neg, EReal.coe_mul_bot_of_pos, *]

theorem div_zero_zero : Ideal.div 0 0 = ⊥ := by simp [Ideal.div]

/-- A quotient by a real sum of weights. -/
theorem div_real (x : EReal) {y : ℝ} (h : y ≠ 0) : Ideal.div x y = x * ((y⁻¹ : ℝ) : EReal) := by
  rw [Ideal.div_coe h, one_div]

variable (S T : ℕ → EReal) (N : ℕ) (lam : ℝ) (v : ℕ → Fin 128 → ℝ)

/-- Component `d` of the difference of the maps, each key weighted by its quotients. -/
def diffW (d : Fin 128) : EReal :=
  ∑ i ∈ Finset.range N, (v i d : EReal) * (Ideal.div (wt (S i) (top S N)) (tot S N) - lam * Ideal.div (wt (T i) (top T N)) (tot T N))

/-- The same, the weighted sums divided at the end. -/
def diffE (d : Fin 128) : EReal :=
  Ideal.div (acc S (fun i => v i d) N) (tot S N) - lam * Ideal.div (acc T (fun i => v i d) N) (tot T N)

theorem tot_zero {S : ℕ → EReal} {N : ℕ} (h : ∀ i, i < N → wt (S i) (top S N) = 0) : tot S N = 0 :=
  Finset.sum_eq_zero fun i hi => h i (Finset.mem_range.mp hi)

theorem acc_zero {S : ℕ → EReal} {N : ℕ} (u : ℕ → EReal) (h : ∀ i, i < N → wt (S i) (top S N) = 0) : acc S u N = 0 :=
  Finset.sum_eq_zero fun i hi => by rw [h i (Finset.mem_range.mp hi), mul_zero]

/-- A weighted sum with real weights is real. -/
theorem acc_real {S : ℕ → EReal} {N : ℕ} {w : ℕ → ℝ} (h : ∀ i, i < N → wt (S i) (top S N) = w i) (u : ℕ → ℝ) :
    acc S (fun i => u i) N = ((∑ i ∈ Finset.range N, u i * w i : ℝ) : EReal) := by
  unfold acc
  rw [coe_sum]
  exact Finset.sum_congr rfl fun i hi => by rw [h i (Finset.mem_range.mp hi), EReal.coe_mul]

/-- The two forms are normalised to the same vector. -/
theorem rms_diff {c e : ℝ} (hc : 0 < c) (hN : 0 < N) (d : Fin 128) : rms c e (diffW S T N lam v) d = rms c e (diffE S T N lam v) d := by
  rcases weights S hN with hS | ⟨w, hw, hwt, hw0⟩
  · -- the first map has no weights
    rw [rms_degenerate hc, rms_degenerate hc]
    · intro d
      unfold diffE
      rw [tot_zero hS, acc_zero _ hS, div_zero_zero, sub_eq_add_neg, EReal.bot_add]
      exact .inr (.inr rfl)
    · intro d
      refine Degenerate.sum _ _ fun i hi => Degenerate.real_mul ?_ _
      rw [tot_zero hS, hS i (Finset.mem_range.mp hi), div_zero_zero, sub_eq_add_neg, EReal.bot_add]
      exact .inr (.inr rfl)
  · rcases weights T hN with hT | ⟨u, hu, hut, hu0⟩
    · rcases eq_or_ne lam 0 with rfl | hl
      · -- the second map has no weights and does not count
        have h : diffW S T N 0 v = diffE S T N 0 v := by
          funext d
          unfold diffW diffE
          rw [hwt, acc_real hw, div_real _ hw0, ← EReal.coe_mul]
          simp only [EReal.coe_zero, zero_mul, sub_zero]
          rw [Finset.sum_mul]
          refine Eq.trans ?_ (coe_sum _ _).symm
          refine Finset.sum_congr rfl fun i hi => ?_
          rw [hw i (Finset.mem_range.mp hi), div_real _ hw0]
          push_cast; rw [mul_assoc]
        rw [h]
      · have hb : Degenerate ((lam : EReal) * ⊥) := Degenerate.real_mul (.inr (.inr rfl)) _
        have hb' : (lam : EReal) * ⊥ = ⊤ ∨ (lam : EReal) * ⊥ = ⊥ := by
          rcases lt_or_gt_of_ne hl with h | h
          · exact .inl (EReal.coe_mul_bot_of_neg h)
          · exact .inr (EReal.coe_mul_bot_of_pos h)
        have key : ∀ r : ℝ, Degenerate ((r : EReal) - lam * ⊥) := fun r => by
          rcases hb' with h | h <;> rw [h] <;> simp [Degenerate, sub_eq_add_neg]
        rw [rms_degenerate hc, rms_degenerate hc]
        · intro d
          unfold diffE
          rw [tot_zero hT, acc_zero _ hT, div_zero_zero, hwt, acc_real hw, div_real _ hw0, ← EReal.coe_mul]
          exact key _
        · intro d
          refine Degenerate.sum _ _ fun i hi => Degenerate.real_mul ?_ _
          rw [tot_zero hT, hT i (Finset.mem_range.mp hi), div_zero_zero, hwt, hw i (Finset.mem_range.mp hi), div_real _ hw0, ← EReal.coe_mul]
          exact key _
    · -- all weights are real
      have h : diffW S T N lam v = diffE S T N lam v := by
        funext d
        unfold diffW diffE
        rw [hwt, hut, acc_real hw, acc_real hu, div_real _ hw0, div_real _ hu0, ← EReal.coe_mul, ← EReal.coe_mul, ← EReal.coe_mul, ← EReal.coe_sub,
          Finset.sum_mul, Finset.sum_mul, Finset.mul_sum, ← Finset.sum_sub_distrib]
        refine Eq.trans ?_ (coe_sum _ _).symm
        refine Finset.sum_congr rfl fun i hi => ?_
        rw [hw i (Finset.mem_range.mp hi), hu i (Finset.mem_range.mp hi), div_real _ hw0, div_real _ hu0, ← EReal.coe_mul, ← EReal.coe_mul, ← EReal.coe_mul,
          ← EReal.coe_sub, ← EReal.coe_mul]
        congr 1; ring
      rw [h]

end Cert.Softmax
-- ==== Proof.Value.Pay.lean ====
/-
  The kernel's operations read at an index, over the extended reals.
-/
module

public import proofs.«01_k».proof.Proof.Model
public import proofs.«01_k».proof.Proof.Math.Norm
public import Idealize.ShloMosaic.Lib.Pointwise

@[expose] public section

set_option maxRecDepth 16384

noncomputable section

namespace Cert.KernelIdeal.Value

open Idealize.ShloMosaic Idealize.SL.Sem
open Cert.KernelIdeal Cert.KernelIdeal.Gen Cert.KernelIdeal.Model

/-- The offset of a chunk: the column's slope times its distance in positions. -/
def offOf (slope : FVec Ideal S1x1024 .f32) (w : BitVec 32) (j : Fin 1024) : EReal := slope (ix2 0 j) * (((w * 256#32).toInt : ℝ) : EReal)

/-- The largest score of a chunk. -/
def maxOf (s : FVec Ideal S256x1024 .f32) (j : Fin 1024) : EReal := Finset.univ.fold max ⊥ fun r : Fin 256 => s (ix2 r j)

theorem ofBits_ninf : Ideal.ofBits .f32 0xFF800000#32 = ⊥ := by simp [Ideal.ofBits, Ideal.ieee]

theorem upd_m (slope : FVec Ideal S1x1024 .f32) (s : FVec Ideal S256x1024 .f32) (w : BitVec 32) (V : Vec Ideal S1x128x256 .bf16) (st : State Ideal)
    (j : Fin 1024) : (upd slope s w V st).1 (ix2 0 j) = max (st.1 (ix2 0 j)) (maxOf s j + offOf slope w j) := by
  unfold upd maxOf offOf
  dsimp only
  pointwise [k0_pay25, k0_pay24]
  try rw [ofBits_ninf]
  rfl

theorem upd_l (slope : FVec Ideal S1x1024 .f32) (s : FVec Ideal S256x1024 .f32) (w : BitVec 32) (V : Vec Ideal S1x128x256 .bf16) (st : State Ideal)
    (j : Fin 1024) : (upd slope s w V st).2.1 (ix2 0 j) = Ideal.exp2 (st.1 (ix2 0 j) - (upd slope s w V st).1 (ix2 0 j)) * st.2.1 (ix2 0 j)
      + ∑ r : Fin 256, Ideal.exp2 (s (ix2 r j) - ((upd slope s w V st).1 (ix2 0 j) - offOf slope w j)) := by
  unfold upd offOf
  dsimp only
  pointwise [k0_pay28, k0_pay27, k0_pay26, k0_pay24]
  rfl

theorem upd_a (slope : FVec Ideal S1x1024 .f32) (s : FVec Ideal S256x1024 .f32) (w : BitVec 32) (V : Vec Ideal S1x128x256 .bf16) (st : State Ideal)
    (d : Fin 128) (j : Fin 1024) : (upd slope s w V st).2.2 (ix2 d j) = Ideal.exp2 (st.1 (ix2 0 j) - (upd slope s w V st).1 (ix2 0 j)) * st.2.2 (ix2 d j)
      + ∑ r : Fin 256, V (ix3 0 d r) * Ideal.exp2 (s (ix2 r j) - ((upd slope s w V st).1 (ix2 0 j) - offOf slope w j)) := by
  unfold upd offOf
  dsimp only
  pointwise [k0_pay29, k0_pay27, k0_pay26, k0_pay24]
  rfl

theorem scores_apply (K : Vec Ideal S2048x128 .bf16) (Q : Vec Ideal S128x1024 .bf16) (n : ℕ) (r : Fin 256) (j : Fin 1024) :
    scores K Q n (ix2 r j) = ∑ d : Fin 128, kblk K n (ix2 r d) * Q (ix2 d j) := by
  unfold scores
  pointwise [k0_pay22]

theorem named_log2e : (Named.named (F := Ideal) (φ := .f32) κ "log2e" 0x3FB8AA3B#32 : EReal) = (((Real.log 2)⁻¹ : ℝ) : EReal) :=
  IdealRules.named_const.ideal_named_scalar _ _ _ _ rfl
theorem named_mask : (Named.named (F := Ideal) (φ := .f32) κ "mask" 0xF149F2CA#32 : EReal) = ⊥ :=
  IdealRules.named_const.ideal_named_scalar _ _ _ _ rfl
theorem named_qscale : (Named.named (F := Ideal) (φ := .f32) κ "qscale" 0x3E38AA3B#32 : EReal) = ((8⁻¹ * (Real.log 2)⁻¹ : ℝ) : EReal) :=
  IdealRules.named_const.ideal_named_scalar _ _ _ _ rfl

theorem init_m (j : Fin 1024) : (init (F := Ideal)).1 (ix2 0 j) = ⊥ := by
  unfold init; dsimp only; pointwise [k0_pay85]; exact named_mask
theorem init_l (j : Fin 1024) : (init (F := Ideal)).2.1 (ix2 0 j) = 0 := by
  unfold init; dsimp only; pointwise [k0_pay86]
theorem init_a (d : Fin 128) (j : Fin 1024) : (init (F := Ideal)).2.2 (ix2 d j) = 0 := by
  unfold init; dsimp only; pointwise [k0_pay87]

theorem pay23_apply (a b : Vec Ideal S256x1024 .f32) (r : Fin 256) (j : Fin 1024) : k0_pay23 a b (ix2 r j) = a (ix2 r j) + b (ix2 r j) := by
  pointwise [k0_pay23]

end Cert.KernelIdeal.Value
-- ==== Proof.Value.Layout.lean ====
/-
  The kernel's columns: column `512 c + 256 g + q` holds query `q` of the block for head `g` of the pair under
  attention map `c`. What the queries, the biases, the slopes and the output block hold there.
-/
module

public import proofs.«01_k».proof.Proof.Value.Pay

@[expose] public section

set_option maxRecDepth 16384

noncomputable section

namespace Cert.KernelIdeal.Value

open Idealize.ShloMosaic Idealize.SL.Sem
open Cert.KernelIdeal Cert.KernelIdeal.Gen Cert.KernelIdeal.Model

/-- The column of query `q` for head `g` under map `c`. -/
def col (c g : Fin 2) (q : Fin 256) : Fin 1024 := ⟨c.val * 512 + g.val * 256 + q.val, by omega⟩

theorem put_at {s : Shape} {α : Type} (x : s.Idx → α) (off size : Fin s.rank → ℕ) (w : ((a : Fin s.rank) → Fin (size a)) → α) (y : s.Idx)
    (z : (a : Fin s.rank) → Fin (size a)) (h : ∀ a, (y a).val = off a + (z a).val) : VecWindow.put x off size w y = w z := by
  unfold VecWindow.put
  have hh : ∀ a, off a ≤ (y a).val ∧ (y a).val < off a + size a := fun a => by
    have := h a; have := (z a).isLt; omega
  rw [dif_pos hh]
  congr 1
  funext a
  apply Fin.ext
  show (y a).val - off a = (z a).val
  have := h a
  omega

theorem put_out {s : Shape} {α : Type} (x : s.Idx → α) (off size : Fin s.rank → ℕ) (w : ((a : Fin s.rank) → Fin (size a)) → α) (y : s.Idx)
    (a : Fin s.rank) (h : (y a).val < off a ∨ off a + size a ≤ (y a).val) : VecWindow.put x off size w y = x y := by
  unfold VecWindow.put
  rw [dif_neg]
  intro hh
  have := hh a
  omega

/-- One of four by map and head. -/
def pick {α : Type} (a b c d : α) (cc g : Fin 2) : α := if g = 0 then (if cc = 0 then a else b) else (if cc = 0 then c else d)

/-- Four blocks put side by side, read in a column. -/
theorem four_apply {R : ℕ} {α : Type} (z : (⟨2, ![R, 1024]⟩ : Shape).Idx → α) (a b c d : (⟨2, ![R, 256]⟩ : Shape).Idx → α) (r : Fin R) (cc g : Fin 2)
    (q : Fin 256) : VecWindow.put (s := ⟨2, ![R, 1024]⟩) (VecWindow.put (s := ⟨2, ![R, 1024]⟩) (VecWindow.put (s := ⟨2, ![R, 1024]⟩)
      (VecWindow.put (s := ⟨2, ![R, 1024]⟩) z ![0, 0] ![R, 256] a) ![0, 512] ![R, 256] b) ![0, 256] ![R, 256] c) ![0, 768] ![R, 256] d (ix2 r (col cc g q))
      = pick a b c d cc g (ix2 r q) := by
  have hq := q.isLt
  match cc, g with
  | 0, 0 =>
    refine (put_out _ _ _ _ _ (1 : Fin 2) (.inl ?_)).trans ((put_out _ _ _ _ _ (1 : Fin 2) (.inl ?_)).trans ((put_out _ _ _ _ _ (1 : Fin 2) (.inl ?_)).trans
      ((put_at (s := ⟨2, ![R, 1024]⟩) _ ![0, 0] ![R, 256] _ _ (ix2 r q) ?_).trans rfl)))
    · show 0 * 512 + 0 * 256 + q.val < 768; omega
    · show 0 * 512 + 0 * 256 + q.val < 256; omega
    · show 0 * 512 + 0 * 256 + q.val < 512; omega
    · intro x; match x with
      | 0 => show r.val = 0 + r.val; omega
      | 1 => show 0 * 512 + 0 * 256 + q.val = 0 + q.val; omega
  | 0, 1 =>
    refine (put_out _ _ _ _ _ (1 : Fin 2) (.inl ?_)).trans ((put_at (s := ⟨2, ![R, 1024]⟩) _ ![0, 256] ![R, 256] _ _ (ix2 r q) ?_).trans rfl)
    · show 0 * 512 + 1 * 256 + q.val < 768; omega
    · intro x; match x with
      | 0 => show r.val = 0 + r.val; omega
      | 1 => show 0 * 512 + 1 * 256 + q.val = 256 + q.val; omega
  | 1, 0 =>
    refine (put_out _ _ _ _ _ (1 : Fin 2) (.inl ?_)).trans ((put_out _ _ _ _ _ (1 : Fin 2) (.inr ?_)).trans ((put_at (s := ⟨2, ![R, 1024]⟩) _ ![0, 512] ![R, 256] _ _ (ix2 r q) ?_).trans rfl))
    · show 1 * 512 + 0 * 256 + q.val < 768; omega
    · show 256 + 256 ≤ 1 * 512 + 0 * 256 + q.val; omega
    · intro x; match x with
      | 0 => show r.val = 0 + r.val; omega
      | 1 => show 1 * 512 + 0 * 256 + q.val = 512 + q.val; omega
  | 1, 1 =>
    refine (put_at (s := ⟨2, ![R, 1024]⟩) _ ![0, 768] ![R, 256] _ _ (ix2 r q) ?_).trans rfl
    intro x; match x with
      | 0 => show r.val = 0 + r.val; omega
      | 1 => show 1 * 512 + 1 * 256 + q.val = 768 + q.val; omega

theorem quads_apply (a b c d : Vec Ideal S128x256 .bf16) (r : Fin 128) (cc g : Fin 2) (q : Fin 256) :
    quads a b c d (ix2 r (col cc g q)) = pick a b c d cc g (ix2 r q) := four_apply _ a b c d r cc g q

theorem quads'_apply (a b c d : Vec Ideal S256x256 .f32) (r : Fin 256) (cc g : Fin 2) (q : Fin 256) :
    quads' a b c d (ix2 r (col cc g q)) = pick a b c d cc g (ix2 r q) := four_apply _ a b c d r cc g q

/-- The factor on the queries: one eighth, in base-2 units. -/
def qs : EReal := ((8⁻¹ * (Real.log 2)⁻¹ : ℝ) : EReal)
/-- The factor from natural to base-2 units. -/
def l2e : EReal := (((Real.log 2)⁻¹ : ℝ) : EReal)

theorem row_lt (r : Fin 128) : IntOp.cmpi .slt (BitVec.ofNat 32 r.val) 64#32 = if r.val < 64 then 1#1 else 0#1 := by
  revert r; decide +kernel

theorem pay76_apply (X : Vec Ideal S1x128x256 .f32) (r : Fin 128) (q : Fin 256) : k0_pay76 X (ix2 r q) = if r.val < 64 then X (ix3 0 r q) * qs else 0 := by
  pointwise [k0_pay76, k0_pay73, k0_pay74, k0_pay75]
  rw [row_lt, named_qscale]
  split_ifs <;> rfl
theorem pay77_apply (X : Vec Ideal S1x128x256 .f32) (r : Fin 128) (q : Fin 256) : k0_pay77 X (ix2 r q) = if 64 ≤ r.val then X (ix3 0 r q) * qs else 0 := by
  pointwise [k0_pay77, k0_pay73, k0_pay74, k0_pay75]
  rw [row_lt, named_qscale]
  by_cases h : r.val < 64
  · rw [if_pos h, if_neg (not_le.mpr h)]; rfl
  · rw [if_neg h, if_pos (not_lt.mp h)]; rfl

theorem sub_toInt (r q : Fin 256) : (IntOp.subi (BitVec.ofNat 32 r.val) (BitVec.ofNat 32 q.val)).toInt = (r.val : ℤ) - q.val := by
  show (BitVec.ofNat 32 r.val - BitVec.ofNat 32 q.val).toInt = _
  have := r.isLt; have := q.isLt
  rw [BitVec.toInt_sub, BitVec.toInt_ofNat', BitVec.toInt_ofNat']
  simp only [Int.bmod_def]; omega

theorem row_le (r q : Fin 256) : IntOp.cmpi .sle (BitVec.ofNat 32 r.val) (BitVec.ofNat 32 q.val) = if r.val ≤ q.val then 1#1 else 0#1 := by
  have h : ((BitVec.ofNat 32 r.val).sle (BitVec.ofNat 32 q.val)) = decide (r.val ≤ q.val) := by
    rw [BitVec.sle_eq_decide, BitVec.toInt_ofNat', BitVec.toInt_ofNat']
    have := r.isLt; have := q.isLt
    congr 1
    simp only [Int.bmod_def, eq_iff_iff]; omega
  show BitVec.ofBool ((BitVec.ofNat 32 r.val).sle (BitVec.ofNat 32 q.val)) = _
  rw [h]
  by_cases hh : r.val ≤ q.val <;> simp [hh]

theorem pay4_apply (x : Ideal .f32) (r q : Fin 256) : k0_pay4 x (ix2 r q) = x * l2e * (((r.val : ℝ) - (q.val : ℝ) : ℝ) : EReal) := by
  pointwise [k0_pay4, k0_pay3]
  rw [named_log2e]
  show _ * (((IntOp.subi (BitVec.ofNat 32 r.val) (BitVec.ofNat 32 q.val)).toInt : ℝ) : EReal) = _
  rw [sub_toInt]
  push_cast
  rfl
theorem pay5_apply (x : Ideal .f32) (r q : Fin 256) :
    k0_pay5 x (ix2 r q) = if r.val ≤ q.val then x * l2e * (((r.val : ℝ) - (q.val : ℝ) : ℝ) : EReal) else ⊥ := by
  pointwise [k0_pay5]
  rw [row_le, named_mask, pay4_apply]
  split_ifs <;> rfl

/-- The bias of a chunk below the diagonal. -/
theorem biasV_apply (S : Vec Ideal S8 .f32) (j : ℕ) (r : Fin 256) (c g : Fin 2) (q : Fin 256) :
    biasV S j (ix2 r (col c g q)) = slot S (2 * j + g.val) * l2e * (((r.val : ℝ) - (q.val : ℝ) : ℝ) : EReal) := by
  unfold biasV
  rw [quads'_apply]
  match c, g with
  | 0, 0 => exact (congrFun (shapeCast_id _ _) (ix2 r q)).trans (pay4_apply _ r q)
  | 1, 0 => exact (congrFun (shapeCast_id _ _) (ix2 r q)).trans (pay4_apply _ r q)
  | 0, 1 => exact (congrFun (shapeCast_id _ _) (ix2 r q)).trans (pay4_apply _ r q)
  | 1, 1 => exact (congrFun (shapeCast_id _ _) (ix2 r q)).trans (pay4_apply _ r q)

/-- The bias of the chunk on the diagonal. -/
theorem dbiasV_apply (S : Vec Ideal S8 .f32) (j : ℕ) (r : Fin 256) (c g : Fin 2) (q : Fin 256) :
    dbiasV S j (ix2 r (col c g q)) = if r.val ≤ q.val then slot S (2 * j + g.val) * l2e * (((r.val : ℝ) - (q.val : ℝ) : ℝ) : EReal) else ⊥ := by
  unfold dbiasV
  rw [quads'_apply]
  match c, g with
  | 0, 0 => exact (congrFun (shapeCast_id _ _) (ix2 r q)).trans (pay5_apply _ r q)
  | 1, 0 => exact (congrFun (shapeCast_id _ _) (ix2 r q)).trans (pay5_apply _ r q)
  | 0, 1 => exact (congrFun (shapeCast_id _ _) (ix2 r q)).trans (pay5_apply _ r q)
  | 1, 1 => exact (congrFun (shapeCast_id _ _) (ix2 r q)).trans (pay5_apply _ r q)

theorem slopeV_apply (S : Vec Ideal S8 .f32) (j : ℕ) (c g : Fin 2) (q : Fin 256) :
    slopeV S j (ix2 0 (col c g q)) = slot S (2 * j + g.val) * l2e := by
  unfold slopeV
  pointwise [k0_pay89, k0_pay88]
  rw [named_log2e]
  refine congrArg (· * l2e) (Eq.trans (congrArg (fun b => Scalar.select b _ _) (?_ : _ = if g.val = 0 then 1#1 else 0#1)) ?_)
  · revert c g q; decide +kernel
  · match g with
    | 0 => rfl
    | 1 => rfl

/-- The queries the kernel multiplies: zero outside the 64 rows of their map. -/
theorem qmat_apply (X : Vec Ideal S1x256x256 .f32) (r : Fin 128) (c g : Fin 2) (q : Fin 256) :
    qmat X (ix2 r (col c g q)) = if r.val / 64 = c.val then X (ix3 0 ⟨g.val * 128 + r.val, by omega⟩ q) * qs else 0 := by
  unfold qmat
  rw [quads_apply]
  have hr := r.isLt
  have w0 : ∀ h, VecWindow.window X ![0, 0, 0] S1x128x256.size h (ix3 0 r q) = X (ix3 0 ⟨0 * 128 + r.val, by omega⟩ q) := fun h => by
    unfold VecWindow.window
    congr 1; funext a; apply Fin.ext
    match a with
    | 0 => rfl
    | 1 => show 0 + 1 * r.val = 0 * 128 + r.val; omega
    | 2 => show 0 + 1 * q.val = q.val; omega
  have w1 : ∀ h, VecWindow.window X ![0, 128, 0] S1x128x256.size h (ix3 0 r q) = X (ix3 0 ⟨1 * 128 + r.val, by omega⟩ q) := fun h => by
    unfold VecWindow.window
    congr 1; funext a; apply Fin.ext
    match a with
    | 0 => rfl
    | 1 => show 128 + 1 * r.val = 1 * 128 + r.val; omega
    | 2 => show 0 + 1 * q.val = q.val; omega
  match c, g with
  | 0, 0 =>
    show k0_pay76 _ _ = _
    rw [pay76_apply, w0]
    exact if_congr (by show r.val < 64 ↔ r.val / 64 = 0; omega) rfl rfl
  | 0, 1 =>
    show k0_pay76 _ _ = _
    rw [pay76_apply, w1]
    exact if_congr (by show r.val < 64 ↔ r.val / 64 = 0; omega) rfl rfl
  | 1, 0 =>
    show k0_pay77 _ _ = _
    rw [pay77_apply, w0]
    exact if_congr (by show 64 ≤ r.val ↔ r.val / 64 = 1; omega) rfl rfl
  | 1, 1 =>
    show k0_pay77 _ _ = _
    rw [pay77_apply, w1]
    exact if_congr (by show 64 ≤ r.val ↔ r.val / 64 = 1; omega) rfl rfl

/-- The weight of the second map. -/
def lamOf (L : Vec Ideal S4x64 .f32) : EReal :=
  Ideal.exp (∑ k : Fin 64, L (ix2 0 k) * L (ix2 1 k)) - Ideal.exp (∑ k : Fin 64, L (ix2 2 k) * L (ix2 3 k)) + Ideal.ofBits .f32 0x3EB60549#32

theorem pay95_apply (L : Vec Ideal S4x64 .f32) : k0_pay95 L (ix2 0 0) = lamOf L := by
  unfold lamOf
  pointwise [k0_pay95]

/-- The difference of the two maps for one query of head `g`. -/
def diffOf (L : Vec Ideal S4x64 .f32) (st : State Ideal) (g : Fin 2) (q : Fin 256) (d : Fin 128) : EReal :=
  Ideal.div (st.2.2 (ix2 d (col 0 g q))) (st.2.1 (ix2 0 (col 0 g q))) - lamOf L * Ideal.div (st.2.2 (ix2 d (col 1 g q))) (st.2.1 (ix2 0 (col 1 g q)))

theorem col00 (q : Fin 256) (h : q.val < 1024) : (⟨q.val, h⟩ : Fin 1024) = col 0 0 q := Fin.ext (show q.val = 0 * 512 + 0 * 256 + q.val by omega)
theorem col10 (q : Fin 256) (h : 512 + q.val < 1024) : (⟨512 + q.val, h⟩ : Fin 1024) = col 1 0 q :=
  Fin.ext (show 512 + q.val = 1 * 512 + 0 * 256 + q.val by omega)
theorem col01 (q : Fin 256) (h : 256 + q.val < 1024) : (⟨256 + q.val, h⟩ : Fin 1024) = col 0 1 q :=
  Fin.ext (show 256 + q.val = 0 * 512 + 1 * 256 + q.val by omega)
theorem col11 (q : Fin 256) (h : 768 + q.val < 1024) : (⟨768 + q.val, h⟩ : Fin 1024) = col 1 1 q :=
  Fin.ext (show 768 + q.val = 1 * 512 + 1 * 256 + q.val by omega)

theorem pay97_apply (L : Vec Ideal S4x64 .f32) (st : State Ideal) (d : Fin 128) (q : Fin 256) :
    k0_pay97 L st.2.2 st.2.1 (ix2 d q) = diffOf L st 0 q d := by
  unfold diffOf
  rw [← pay95_apply]
  pointwise [k0_pay97, k0_pay96]
  rw [col00, col10]

/-- The factors the normalisation uses. -/
def c128 : EReal := Ideal.ofBits .f32 0x43000000#32
def eps : EReal := Ideal.ofBits .f32 0x358637BD#32
def keep : EReal := Ideal.ofBits .f32 0x3F24FD5C#32

theorem pay98_apply (L : Vec Ideal S4x64 .f32) (st : State Ideal) (q : Fin 256) :
    k0_pay98 L st.2.2 st.2.1 (ix2 0 q) = Ideal.div (∑ k : Fin 128, diffOf L st 0 q k * diffOf L st 0 q k) c128 + eps := by
  simp only [← pay97_apply]
  pointwise [k0_pay98]
  rfl

theorem pay1_apply (o : FVec Ideal S128x256 .f32) (n : FVec Ideal S1x256 .f32) (sub : Vec Ideal S128x1 .f32) (q : Fin 256) (d : Fin 128) :
    k0_pay1 o n sub (ix2 q d) = o (ix2 d q) * Ideal.rsqrt (n (ix2 0 q)) * sub (ix2 d 0) * keep := by
  pointwise [k0_pay1]
  rfl

theorem pay2_apply (L : Vec Ideal S4x64 .f32) (st : State Ideal) (sub : Vec Ideal S128x1 .f32) (q : Fin 256) (d : Fin 128) :
    k0_pay2 (k0_pay95 L) (k0_pay96 st.2.2 st.2.1) sub (ix2 q d) = Cert.Softmax.rms c128 eps (diffOf L st 1 q) d * sub (ix2 d 0) * keep := by
  unfold diffOf Cert.Softmax.rms
  rw [← pay95_apply]
  pointwise [k0_pay2, k0_pay96]
  simp only [col01, col11]
  rfl

/-- The output block: the normalised difference for query `q`, feature `d` of head `g`. -/
theorem outOf_apply (L : Vec Ideal S4x64 .f32) (sub : Vec Ideal S128x1 .f32) (st : State Ideal) (q : Fin 256) (g : Fin 2) (d : Fin 128) :
    outOf L sub st (ix2 q ⟨g.val * 128 + d.val, by omega⟩) = Cert.Softmax.rms c128 eps (diffOf L st g q) d * sub (ix2 d 0) * keep := by
  unfold outOf
  have hd := d.isLt
  match g with
  | 0 =>
    refine (put_out (s := S256x256) _ ![0, 128] _ _ _ (1 : Fin 2) (.inl ?_)).trans ((put_at (s := S256x256) _ ![0, 0] ![256, 128] _ _ (ix2 q d) ?_).trans ?_)
    · show 0 * 128 + d.val < 128; omega
    · intro x; match x with
      | 0 => show q.val = 0 + q.val; omega
      | 1 => show 0 * 128 + d.val = 0 + d.val; omega
    · rw [pay1_apply, pay97_apply, pay98_apply]; rfl
  | 1 =>
    refine (put_at (s := S256x256) _ ![0, 128] ![256, 128] _ _ (ix2 q d) ?_).trans (pay2_apply L st sub q d)
    intro x; match x with
      | 0 => show q.val = 0 + q.val; omega
      | 1 => show 1 * 128 + d.val = 128 + d.val; omega

end Cert.KernelIdeal.Value
-- ==== Proof.Value.State.lean ====
/-
  The running softmax of one column: after `n` chunks the state is the softmax of the first `256 n` keys; after the
  last chunk it is that of all the keys at or before the query.
-/
module

public import proofs.«01_k».proof.Proof.Value.Layout

@[expose] public section

set_option maxRecDepth 16384

noncomputable section

namespace Cert.KernelIdeal.Value

open Idealize.ShloMosaic Idealize.SL.Sem
open Cert.KernelIdeal Cert.KernelIdeal.Gen Cert.KernelIdeal.Model
open Cert.Softmax (top tot acc wt)

section column

variable (S : Vec Ideal S8 .f32) (X : Vec Ideal S1x256x256 .f32) (K : Vec Ideal S2048x128 .bf16) (V : Vec Ideal S8x128x256 .bf16)
variable (j i : ℕ) (σ : ℝ) (c g : Fin 2) (q : Fin 256)

/-- The product of key `s` with the query of a column. -/
def raw (s : ℕ) : EReal := ∑ a : Fin 128, K (ix2 ⟨s % 2048, Nat.mod_lt _ (by decide)⟩ a) * qmat X (ix2 a (col c g q))

/-- The score of key `s`, in base-2 units; no score past the query. -/
def score (s : ℕ) : EReal :=
  if s ≤ i * 256 + q.val then raw X K c g q s + ((σ * (Real.log 2)⁻¹ * ((s : ℝ) - ((i : ℝ) * 256 + (q.val : ℝ))) : ℝ) : EReal) else ⊥

/-- Feature `d` of the value of key `s`. -/
def val (d : Fin 128) (s : ℕ) : EReal := V (ix3 ⟨s / 256 % 8, Nat.mod_lt _ (by decide)⟩ d ⟨s % 256, Nat.mod_lt _ (by decide)⟩)

/-- The state of a column at `N` keys. -/
def At (N : ℕ) (st : State Ideal) : Prop :=
  st.1 (ix2 0 (col c g q)) = top (score X K i σ c g q) N ∧ st.2.1 (ix2 0 (col c g q)) = tot (score X K i σ c g q) N
    ∧ ∀ d, st.2.2 (ix2 d (col c g q)) = acc (score X K i σ c g q) (val V d) N

theorem dist_toInt (n i : ℕ) (hn : n ≤ i) (hi : i < 8) : (Model.dist n i * 256#32).toInt = ((n : ℤ) - i) * 256 := by
  have h : ∀ a b : Fin 8, a.val ≤ b.val → (Model.dist a.val b.val * 256#32).toInt = ((a.val : ℤ) - b.val) * 256 := by decide +kernel
  exact h ⟨n, by omega⟩ ⟨i, hi⟩ hn

theorem init_at : At X K V i σ c g q 0 init := by
  refine ⟨?_, ?_, fun d => ?_⟩
  · rw [init_m]; simp [top]
  · rw [init_l]; simp [tot]
  · rw [init_a]; simp [acc]

/-- One chunk, given that its scores and offset are the next 256 scores. -/
theorem upd_at (slope : FVec Ideal S1x1024 .f32) (s : FVec Ideal S256x1024 .f32) (w : BitVec 32) (n : ℕ) (hn : n < 8) (st : State Ideal) (off : ℝ)
    (ho : offOf slope w (col c g q) = off) (hs : ∀ r : Fin 256, s (ix2 r (col c g q)) + off = score X K i σ c g q (n * 256 + r.val))
    (h : At X K V i σ c g q (n * 256) st) : At X K V i σ c g q ((n + 1) * 256) (upd slope s w (vblk V n) st) := by
  obtain ⟨h0, h1, h2⟩ := h
  have e : (n + 1) * 256 = n * 256 + 256 := by ring
  have hm : (upd slope s w (vblk V n) st).1 (ix2 0 (col c g q)) = top (score X K i σ c g q) (n * 256 + 256) := by
    rw [upd_m, ho, h0]
    exact Cert.Softmax.top_add _ _ 256 (fun r => s (ix2 r (col c g q))) off hs
  rw [e]
  refine ⟨hm, ?_, fun d => ?_⟩
  · rw [upd_l, hm, ho, h0, h1]
    exact Cert.Softmax.tot_add _ _ 256 (fun r => s (ix2 r (col c g q))) off hs
  · rw [upd_a, hm, ho, h0, h2]
    refine Eq.trans ?_ (Cert.Softmax.acc_add _ (val V d) _ 256 (fun r => s (ix2 r (col c g q))) off hs)
    refine congrArg _ (Finset.sum_congr rfl fun r _ => congrArg (· * _) ?_)
    show V _ = V _
    congr 1
    funext a
    apply Fin.ext
    have hr := r.isLt
    match a with
    | 0 => show n % 8 = (n * 256 + r.val) / 256 % 8; omega
    | 1 => rfl
    | 2 => show r.val = (n * 256 + r.val) % 256; omega

variable {S j σ} (hσ : slot S (2 * j + g.val) = ((σ : ℝ) : EReal))
include hσ

theorem off_eq (n : ℕ) (hn : n ≤ i) (hi : i < 8) :
    offOf (slopeV S j) (Model.dist n i) (col c g q) = ((σ * (Real.log 2)⁻¹ * (((n : ℝ) - i) * 256) : ℝ) : EReal) := by
  unfold offOf
  rw [slopeV_apply, hσ, dist_toInt n i hn hi]
  unfold l2e
  push_cast
  rfl

theorem scores_eq (n : ℕ) (r : Fin 256) : scores K (qmat X) n (ix2 r (col c g q)) = raw X K c g q (n * 256 + r.val) := by
  rw [scores_apply]
  refine Finset.sum_congr rfl fun a _ => congrArg (· * _) ?_
  show K _ = K _
  congr 1
  funext x
  match x with
  | 0 => rfl
  | 1 => rfl

theorem states_at (n : ℕ) (hn : n ≤ i) (hi : i < 8) :
    At X K V i σ c g q (n * 256) (states K V (qmat X) (slopeV S j) (biasV S j) i n) := by
  induction n with
  | zero => rw [Nat.zero_mul]; exact init_at X K V i σ c g q
  | succ n ih =>
    refine upd_at X K V i σ c g q _ _ _ n (by omega) _ _ (off_eq i c g q hσ n (by omega) hi) (fun r => ?_) (ih (by omega))
    rw [pay23_apply, biasV_apply, scores_eq X K c g q hσ, hσ]
    unfold score l2e
    have hr := r.isLt
    rw [if_pos (show n * 256 + r.val ≤ i * 256 + q.val by omega), add_assoc, ← EReal.coe_mul, ← EReal.coe_mul, ← EReal.coe_add]
    congr 2
    push_cast
    ring

theorem final_at (hi : i < 8) : At X K V i σ c g q ((i + 1) * 256) (final K V (qmat X) (slopeV S j) (biasV S j) (dbiasV S j) i) := by
  refine upd_at X K V i σ c g q _ _ _ i hi _ _ (off_eq i c g q hσ i le_rfl hi) (fun r => ?_) (states_at X K V i c g q hσ i le_rfl hi)
  rw [pay23_apply, dbiasV_apply, scores_eq X K c g q hσ, hσ]
  unfold score l2e
  by_cases h : r.val ≤ q.val
  · rw [if_pos h, if_pos (show i * 256 + r.val ≤ i * 256 + q.val by omega), add_assoc, ← EReal.coe_mul, ← EReal.coe_mul, ← EReal.coe_add]
    congr 2
    push_cast
    ring
  · rw [if_neg h, if_neg (show ¬ i * 256 + r.val ≤ i * 256 + q.val by omega), EReal.add_bot, EReal.bot_add]

/-- The final state of a column is the softmax over all 2048 keys. -/
theorem final_all (hi : i < 8) : At X K V i σ c g q 2048 (final K V (qmat X) (slopeV S j) (biasV S j) (dbiasV S j) i) := by
  obtain ⟨h0, h1, h2⟩ := final_at X K V i c g q hσ hi
  have hN : (i + 1) * 256 ≤ 2048 := by omega
  have hb : ∀ s, (i + 1) * 256 ≤ s → s < 2048 → score X K i σ c g q s = ⊥ := fun s hs _ => if_neg (by have := q.isLt; omega)
  exact ⟨h0.trans (Cert.Softmax.top_ext hN hb), h1.trans (Cert.Softmax.tot_ext hN hb), fun d => (h2 d).trans (Cert.Softmax.acc_ext _ hN hb)⟩

end column

end Cert.KernelIdeal.Value
-- ==== Proof.Value.Blocks.lean ====
/-
  The blocks the kernel reads, in terms of its argument arrays.
-/
module

public import proofs.«01_k».proof.Proof.Run.Value
public import proofs.«01_k».proof.Proof.Value.State
public import Idealize.ShloMosaic.Lib.Pipeline.Value

@[expose] public section

set_option maxRecDepth 16384
set_option maxHeartbeats 1000000

noncomputable section

namespace Cert.KernelIdeal.Value

open Idealize.ShloMosaic Idealize.ShloMosaic.TcCoe Idealize.SL.Sem Idealize.ShloMosaic.Tactic
open Cert.KernelIdeal Cert.KernelIdeal.Gen Cert.KernelIdeal.Model Cert.KernelIdeal.Run

variable (m : (ℓ : Loc nD τ sig) → Buf (Elt Ideal) ℓ)

/-- The argument arrays of one device. -/
abbrev argQ (c : Dev nD) : FVec Ideal S8x2048x1024 .f32 := m ((c : Thread nD τ).loc main_arg0)
abbrev argK (c : Dev nD) : FVec Ideal S8x2048x4x128 .f32 := m ((c : Thread nD τ).loc main_arg1)
abbrev argV (c : Dev nD) : FVec Ideal S8x2048x4x128 .f32 := m ((c : Thread nD τ).loc main_arg2)
abbrev argL (c : Dev nD) : FVec Ideal S1x4x64 .f32 := m ((c : Thread nD τ).loc main_arg3)
abbrev argS (c : Dev nD) : FVec Ideal S1x128 .f32 := m ((c : Thread nD τ).loc main_arg4)

/-! What the host leaves in the arrays the kernel reads. -/
theorem V_cst (c : Dev nD) : V m c main_cst = (fun i => FloatOps.ofBits .f32 (lit0 (S8.rowMajor i)) : FVec Ideal S8 .f32) := by
  show StableHlo.after hostOps0 _ _ = _
  after_results
  rfl
theorem V_v0 (c : Dev nD) : V m c main_v0 = shapeCast S4x64 (argL m c) shapeCasts_S1x4x64_S4x64 := by
  show StableHlo.after hostOps0 _ _ = _
  after_results
  rfl
theorem V_v3 (c : Dev nD) : V m c main_v3 = transpose S64x1024x256 [0, 2, 1] (shapeCast S64x256x1024 (argQ m c) shapeCasts_S8x2048x1024_S64x256x1024) transposes_S64x256x1024_S64x1024x256_0_2_1 := by
  show StableHlo.after hostOps0 _ _ = _
  after_results
  rfl
theorem V_v5 (c : Dev nD) : V m c main_v5 = truncf .bf16 (shapeCast S16384x512 (argK m c) shapeCasts_S8x2048x4x128_S16384x512) bitsLt_bf16_f32 := by
  show StableHlo.after hostOps0 _ _ = _
  after_results
  rfl
theorem V_v8 (c : Dev nD) : V m c main_v8 = truncf .bf16 (transpose S64x512x256 [0, 2, 1] (shapeCast S64x256x512 (argV m c) shapeCasts_S8x2048x4x128_S64x256x512) transposes_S64x256x512_S64x512x256_0_2_1) bitsLt_bf16_f32 := by
  show StableHlo.after hostOps0 _ _ = _
  after_results
  rfl
theorem V_v9 (c : Dev nD) : V m c main_v9 = shapeCast S128x1 (shapeCast S128 (argS m c) shapeCasts_S1x128_S128) shapeCasts_S128_S128x1 := by
  show StableHlo.after hostOps0 _ _ = _
  after_results
  rfl

theorem v3_apply (q : FVec Ideal S8x2048x1024 .f32) (b i : Fin 8) (r : Fin 256) (a : Fin 1024) :
    transpose S64x1024x256 [0, 2, 1] (shapeCast S64x256x1024 q shapeCasts_S8x2048x1024_S64x256x1024) transposes_S64x256x1024_S64x1024x256_0_2_1
      (ix3 ⟨b.val * 8 + i.val, by omega⟩ a r) = q (ix3 b ⟨i.val * 256 + r.val, by omega⟩ a) := by
  pointwise
  congr 2; apply Fin.ext
  show (b.val * 8 + i.val) % 8 * 256 + r.val = _
  dsimp only; omega

theorem v5_apply (k : FVec Ideal S8x2048x4x128 .f32) (b : Fin 8) (s : Fin 2048) (j : Fin 4) (a : Fin 128) :
    (truncf .bf16 (shapeCast S16384x512 k shapeCasts_S8x2048x4x128_S16384x512) bitsLt_bf16_f32 : FVec Ideal S16384x512 .bf16)
      (ix2 ⟨b.val * 2048 + s.val, by omega⟩ ⟨j.val * 128 + a.val, by omega⟩) = k (ix4 b s j a) := by
  pointwise

theorem v8_apply (v : FVec Ideal S8x2048x4x128 .f32) (b i : Fin 8) (r : Fin 256) (j : Fin 4) (a : Fin 128) :
    (truncf .bf16 (transpose S64x512x256 [0, 2, 1] (shapeCast S64x256x512 v shapeCasts_S8x2048x4x128_S64x256x512) transposes_S64x256x512_S64x512x256_0_2_1) bitsLt_bf16_f32 : FVec Ideal S64x512x256 .bf16)
      (ix3 ⟨b.val * 8 + i.val, by omega⟩ ⟨j.val * 128 + a.val, by omega⟩ r) = v (ix4 b ⟨i.val * 256 + r.val, by omega⟩ j a) := by
  pointwise
  congr 2; apply Fin.ext
  show (b.val * 8 + i.val) % 8 * 256 + r.val = _
  dsimp only; omega

theorem v0_apply (l : FVec Ideal S1x4x64 .f32) (x : Fin 4) (e : Fin 64) : shapeCast S4x64 l shapeCasts_S1x4x64_S4x64 (ix2 x e) = l (ix3 0 x e) := by
  pointwise

theorem v9_apply (s : FVec Ideal S1x128 .f32) (d : Fin 128) :
    shapeCast S128x1 (shapeCast S128 s shapeCasts_S1x128_S128) shapeCasts_S128_S128x1 (ix2 d 0) = s (ix2 0 d) := by
  pointwise

/-! The position `(b, j, i)` of the grid. -/
def pos (b : Fin 8) (j : Fin 4) (i : Fin 8) : Fin cfg0.N := ⟨b.val * 32 + j.val * 8 + i.val, by rw [show cfg0.N = 256 from N_0]; omega⟩

theorem idx1 (b : Fin 8) (j : Fin 4) (i : Fin 8) : win0_1.index (pos b j i) 0 = b.val * 8 + i.val ∧ win0_1.index (pos b j i) 1 = j.val ∧ win0_1.index (pos b j i) 2 = 0 := by
  revert b j i; decide +kernel
theorem idx2 (b : Fin 8) (j : Fin 4) (i : Fin 8) : win0_2.index (pos b j i) 0 = b.val ∧ win0_2.index (pos b j i) 1 = j.val := by
  revert b j i; decide +kernel
theorem idx3 (b : Fin 8) (j : Fin 4) (i : Fin 8) : win0_3.index (pos b j i) 0 = b.val ∧ win0_3.index (pos b j i) 1 = j.val ∧ win0_3.index (pos b j i) 2 = 0 := by
  revert b j i; decide +kernel
theorem idx45 (b : Fin 8) (j : Fin 4) (i : Fin 8) : (win0_4.index (pos b j i) 0 = 0 ∧ win0_4.index (pos b j i) 1 = 0)
    ∧ win0_5.index (pos b j i) 0 = 0 ∧ win0_5.index (pos b j i) 1 = 0 := by
  revert b j i; decide +kernel
theorem idx6 (b : Fin 8) (j : Fin 4) (i : Fin 8) : win0_6.index (pos b j i) 0 = b.val * 8 + i.val ∧ win0_6.index (pos b j i) 1 = j.val := by
  revert b j i; decide +kernel

theorem iblk1_apply (c : Dev nD) (b : Fin 8) (j : Fin 4) (i : Fin 8) (a q : Fin 256) :
    (iblk m c 1 (pos b j i) : Vec Ideal S1x256x256 .f32) (ix3 0 a q) = argQ m c (ix3 b ⟨i.val * 256 + q.val, by omega⟩ ⟨j.val * 256 + a.val, by omega⟩) := by
  unfold iblk
  rw [View.read_apply]
  show V m c main_v3 _ = _
  rw [V_v3]
  refine Eq.trans ?_ (v3_apply (argQ m c) b i q ⟨j.val * 256 + a.val, by omega⟩)
  congr 1
  obtain ⟨h0, h1, h2⟩ := idx1 b j i
  funext x
  apply Fin.ext
  match x with
  | 0 => show win0_1.index (pos b j i) 0 * 1 + 1 * 0 = _; rw [h0]; show _ = b.val * 8 + i.val; omega
  | 1 => show win0_1.index (pos b j i) 1 * 256 + 1 * a.val = _; rw [h1]; show _ = j.val * 256 + a.val; omega
  | 2 => show win0_1.index (pos b j i) 2 * 256 + 1 * q.val = _; rw [h2]; show _ = q.val; omega

theorem iblk2_apply (c : Dev nD) (b : Fin 8) (j : Fin 4) (i : Fin 8) (s : Fin 2048) (a : Fin 128) :
    (iblk m c 2 (pos b j i) : Vec Ideal S2048x128 .bf16) (ix2 s a) = argK m c (ix4 b s j a) := by
  unfold iblk
  rw [View.read_apply]
  show V m c main_v5 _ = _
  rw [V_v5]
  refine Eq.trans ?_ (v5_apply (argK m c) b s j a)
  congr 1
  obtain ⟨h0, h1⟩ := idx2 b j i
  funext x
  apply Fin.ext
  match x with
  | 0 => show win0_2.index (pos b j i) 0 * 2048 + 1 * s.val = _; rw [h0]; show _ = b.val * 2048 + s.val; omega
  | 1 => show win0_2.index (pos b j i) 1 * 128 + 1 * a.val = _; rw [h1]; show _ = j.val * 128 + a.val; omega

theorem iblk3_apply (c : Dev nD) (b : Fin 8) (j : Fin 4) (i n : Fin 8) (d : Fin 128) (r : Fin 256) :
    (iblk m c 3 (pos b j i) : Vec Ideal S8x128x256 .bf16) (ix3 n d r) = argV m c (ix4 b ⟨n.val * 256 + r.val, by omega⟩ j d) := by
  unfold iblk
  rw [View.read_apply]
  show V m c main_v8 _ = _
  rw [V_v8]
  refine Eq.trans ?_ (v8_apply (argV m c) b n r j d)
  congr 1
  obtain ⟨h0, h1, h2⟩ := idx3 b j i
  funext x
  apply Fin.ext
  match x with
  | 0 => show win0_3.index (pos b j i) 0 * 8 + 1 * n.val = _; rw [h0]; show _ = b.val * 8 + n.val; omega
  | 1 => show win0_3.index (pos b j i) 1 * 128 + 1 * d.val = _; rw [h1]; show _ = j.val * 128 + d.val; omega
  | 2 => show win0_3.index (pos b j i) 2 * 256 + 1 * r.val = _; rw [h2]; show _ = r.val; omega

theorem iblk4_apply (c : Dev nD) (b : Fin 8) (j : Fin 4) (i : Fin 8) (x : Fin 4) (e : Fin 64) :
    (iblk m c 4 (pos b j i) : Vec Ideal S4x64 .f32) (ix2 x e) = argL m c (ix3 0 x e) := by
  unfold iblk
  rw [View.read_apply]
  show V m c main_v0 _ = _
  rw [V_v0]
  refine Eq.trans ?_ (v0_apply (argL m c) x e)
  congr 1
  obtain ⟨⟨h0, h1⟩, -⟩ := idx45 b j i
  funext y
  apply Fin.ext
  match y with
  | 0 => show win0_4.index (pos b j i) 0 * 4 + 1 * x.val = _; rw [h0]; show _ = x.val; omega
  | 1 => show win0_4.index (pos b j i) 1 * 64 + 1 * e.val = _; rw [h1]; show _ = e.val; omega

theorem iblk5_apply (c : Dev nD) (b : Fin 8) (j : Fin 4) (i : Fin 8) (d : Fin 128) :
    (iblk m c 5 (pos b j i) : Vec Ideal S128x1 .f32) (ix2 d 0) = argS m c (ix2 0 d) := by
  unfold iblk
  rw [View.read_apply]
  show V m c main_v9 _ = _
  rw [V_v9]
  refine Eq.trans ?_ (v9_apply (argS m c) d)
  congr 1
  obtain ⟨-, h0, h1⟩ := idx45 b j i
  funext y
  apply Fin.ext
  match y with
  | 0 => show win0_5.index (pos b j i) 0 * 128 + 1 * d.val = _; rw [h0]; show _ = d.val; omega
  | 1 => show win0_5.index (pos b j i) 1 * 1 + 1 * 0 = _; rw [h1]; rfl

/-- The table of slopes: one half to the power `n + 1`. -/
theorem slot_eq (c : Dev nD) (n : Fin 8) : slot (slopes m c) n.val = (((2 : ℝ)⁻¹ ^ (n.val + 1) : ℝ) : EReal) := by
  unfold slot slopes iblk
  rw [View.read_apply]
  show V m c main_cst _ = _
  rw [V_cst]
  show Ideal.ofBits .f32 (lit0 _) = _
  have e : ∀ x y : Fin 8, x = y → Ideal.ofBits .f32 (lit0 x) = Ideal.ofBits .f32 (lit0 y) := fun x y h => by rw [h]
  refine (e _ n (Fin.ext ?_)).trans ?_
  · revert n; decide +kernel
  · fin_cases n <;> simp [lit0, Ideal.ofBits, Ideal.ieee, -EReal.coe_mul, -EReal.coe_pow] <;> norm_num

end Cert.KernelIdeal.Value
-- ==== Proof.Value.Array.lean ====
/-
  The array the kernel's run ends with: its blocks, one written at each grid point, cover it.
-/
module

public import proofs.«01_k».proof.Proof.Value.Blocks

@[expose] public section

set_option maxRecDepth 16384
set_option maxHeartbeats 1000000

noncomputable section

namespace Cert.KernelIdeal.Value

open Idealize.ShloMosaic Idealize.ShloMosaic.TcCoe Idealize.SL.Sem Idealize.ShloMosaic.Tactic
open Cert.KernelIdeal Cert.KernelIdeal.Gen Cert.KernelIdeal.Model Cert.KernelIdeal.Run

variable (m : (ℓ : Loc nD τ sig) → Buf (Elt Ideal) ℓ)

/-- The grid position that writes row `x`, column `y`. -/
def posOf (x y : ℕ) (hx : x < 16384) (hy : y < 1024) : Fin cfg0.N :=
  ⟨x / 2048 * 32 + y / 256 * 8 + x % 2048 / 256, by rw [show cfg0.N = 256 from N_0]; omega⟩

/-- The result array. -/
def result (c : Dev nD) : FVec Ideal S16384x1024 .bf16 := fun y =>
  outAt m c (posOf (y 0).val (y 1).val (y 0).isLt (y 1).isLt)
    (ix2 ⟨(y 0).val % 256, Nat.mod_lt _ (by decide)⟩ ⟨(y 1).val % 256, Nat.mod_lt _ (by decide)⟩)

theorem idxOut : ∀ t : Fin cfg0.N, win0_6.index t 0 = t.val / 32 * 8 + t.val % 8 ∧ win0_6.index t 1 = t.val / 8 % 4 :=
  (by decide +kernel : ∀ t : Fin grid0.N, win0_6.index t 0 = t.val / 32 * 8 + t.val % 8 ∧ win0_6.index t 1 = t.val / 8 % 4)

theorem result_at (c : Dev nD) (t : Fin cfg0.N) (y : S256x256.Idx) (z : S16384x1024.Idx)
    (h0 : (z 0).val = (t.val / 32 * 8 + t.val % 8) * 256 + (y 0).val) (h1 : (z 1).val = t.val / 8 % 4 * 256 + (y 1).val) :
    result m c z = outAt m c t y := by
  have hN : cfg0.N = 256 := N_0
  have ht := t.isLt
  have y0 : (y 0).val < 256 := (y 0).isLt
  have y1 : (y 1).val < 256 := (y 1).isLt
  unfold result
  have e : posOf (z 0).val (z 1).val (z 0).isLt (z 1).isLt = t := Fin.ext (by
    show (z 0).val / 2048 * 32 + (z 1).val / 256 * 8 + (z 0).val % 2048 / 256 = t.val
    omega)
  rw [e]
  congr 1
  funext a
  apply Fin.ext
  match a with
  | 0 => show (z 0).val % 256 = (y 0).val; omega
  | 1 => show (z 1).val % 256 = (y 1).val; omega

theorem flushed_eq (c : Dev nD) (t : Fin cfg0.N) (hf : (cfg0.win 6).flush t = true) :
    (dats m 0 c).flushed 6 t = ((cfg0.win 6).blk t).view.read (Elt Ideal) (result m c) := by
  show (cfg0.win 6).cut (grid0.coords t) ((dats m 0 c).after 6 t) = _
  rw [after_6]
  obtain ⟨h0, h1⟩ := idxOut t
  funext y
  rw [View.read_apply]
  refine (result_at m c t y (((cfg0.win 6).blk t).view.emb y) ?_ ?_).symm
  · show win0_6.index t 0 * 256 + 1 * (y 0).val = _; rw [h0]; omega
  · show win0_6.index t 1 * 256 + 1 * (y 1).val = _; rw [h1]; omega

theorem final_o (c : Dev nD) : (dats m 0 c).arrAt 6 cfg0.N = result m c :=
  (dats m 0 c).arrAt_eq_of_cover 6 (result m c) (flushed_eq m c) fun i => by
    have i0 : (i 0 : ℕ) < 16384 := (i 0).isLt
    have i1 : (i 1 : ℕ) < 1024 := (i 1).isLt
    refine ⟨posOf (i 0).val (i 1).val i0 i1, flush0_6 _, ?_⟩
    show i ∈ ((View.whole main_v10).slice (win0_6.rect (posOf (i 0).val (i 1).val i0 i1))).set
    rw [View.set_slice_whole, Rect.mem_set_unit]
    obtain ⟨h0, h1⟩ := idxOut (posOf (i 0).val (i 1).val i0 i1)
    have hp : (posOf (i 0).val (i 1).val i0 i1).val = (i 0).val / 2048 * 32 + (i 1).val / 256 * 8 + (i 0).val % 2048 / 256 := rfl
    intro a
    match a with
    | ⟨0, _⟩ =>
      show win0_6.index (posOf (i 0).val (i 1).val i0 i1) 0 * 256 ≤ (i 0 : ℕ) ∧ (i 0 : ℕ) < win0_6.index (posOf (i 0).val (i 1).val i0 i1) 0 * 256 + 256
      rw [h0, hp]; omega
    | ⟨1, _⟩ =>
      show win0_6.index (posOf (i 0).val (i 1).val i0 i1) 1 * 256 ≤ (i 1 : ℕ) ∧ (i 1 : ℕ) < win0_6.index (posOf (i 0).val (i 1).val i0 i1) 1 * 256 + 256
      rw [h1, hp]; omega

/-- The kernel's run: the result array, the arguments unchanged. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have h := θ_run_mono (run_main_quiescent m ρ) fun _ h => h.1
  run_from h
  exact final_o m c

end Cert.KernelIdeal.Value
-- ==== Proof.Value.Entry.lean ====
/-
  An element of the result in terms of the arguments: the maps of the two query components, their difference applied to
  the values, and its normalisation.
-/
module

public import proofs.«01_k».proof.Proof.Math.Norm
public import Idealize.ShloMosaic.Lib.Pointwise

@[expose] public section

noncomputable section

namespace Cert.Entry

open Idealize.ShloMosaic
open Cert.Softmax

variable (Q : (⟨3, ![8, 2048, 1024]⟩ : Shape).Idx → EReal) (K V : (⟨4, ![8, 2048, 4, 128]⟩ : Shape).Idx → EReal)
variable (L : (⟨3, ![1, 4, 64]⟩ : Shape).Idx → EReal) (W : (⟨2, ![1, 128]⟩ : Shape).Idx → EReal)
variable (b : Fin 8) (j : Fin 4) (g : Fin 2) (n : Fin 2048)

/-- A position as a row of the keys. -/
def row (s : ℕ) : Fin 2048 := ⟨s % 2048, Nat.mod_lt _ (by decide)⟩

theorem row_val (s : Fin 2048) : row s.val = s := Fin.ext (Nat.mod_eq_of_lt s.isLt)

/-- The product of key `s` with query `n` over component `c`. -/
def prod (c : Fin 2) (s : ℕ) : EReal :=
  ∑ e : Fin 64, K (ix4 b (row s) j ⟨c.val * 64 + e.val, by omega⟩) * Q (ix3 b n ⟨j.val * 256 + g.val * 128 + c.val * 64 + e.val, by omega⟩)

/-- The slope of a head. -/
def slope : ℝ := (2 : ℝ)⁻¹ ^ (j.val * 2 + g.val + 1)

/-- The score of key `s` for query `n`; none past the query. -/
def score (c : Fin 2) (s : ℕ) : EReal :=
  if s ≤ n.val then prod Q K b j g n c s * ((8⁻¹ : ℝ) : EReal) - ((slope j g * ((n.val : ℝ) - s) : ℝ) : EReal) else ⊥

/-- The score in base-2 units. -/
def score2 (c : Fin 2) (s : ℕ) : EReal := (((Real.log 2)⁻¹ : ℝ) : EReal) * score Q K b j g n c s

/-- The factor of the second map. -/
def factor : EReal :=
  Ideal.exp (∑ k : Fin 64, L (ix3 0 0 k) * L (ix3 0 1 k)) - Ideal.exp (∑ k : Fin 64, L (ix3 0 2 k) * L (ix3 0 3 k)) + Ideal.ofBits .f32 0x3EB60549#32

/-- The size of a head, the constant under the root and the last factor. -/
def size : EReal := Ideal.ofBits .f32 0x43000000#32
def eps : EReal := Ideal.ofBits .f32 0x358637BD#32
def keep : EReal := Ideal.ofBits .f32 0x3F24FD5C#32

/-- A real value. -/
def real (V : (⟨4, ![8, 2048, 4, 128]⟩ : Shape).Idx → EReal) (b : Fin 8) (j : Fin 4) (s : ℕ) (d : Fin 128) : ℝ := (V (ix4 b (row s) j d)).toReal

theorem real_eq {V : (⟨4, ![8, 2048, 4, 128]⟩ : Shape).Idx → EReal} (h : ∀ i, V i ≠ ⊤ ∧ V i ≠ ⊥) (s : ℕ) (d : Fin 128) :
    V (ix4 b (row s) j d) = (real V b j s d : EReal) := (EReal.coe_toReal (h _).1 (h _).2).symm

end Cert.Entry
-- ==== Proof.Value.Element.lean ====
/-
  An element of the kernel's result in terms of the arguments.
-/
module

public import proofs.«01_k».proof.Proof.Value.Array
public import proofs.«01_k».proof.Proof.Value.Entry

@[expose] public section

set_option maxRecDepth 16384

noncomputable section

namespace Cert.KernelIdeal.Value

open Idealize.ShloMosaic Idealize.SL.Sem
open Cert.KernelIdeal Cert.KernelIdeal.Gen Cert.KernelIdeal.Model Cert.KernelIdeal.Run

/-- A sum over a head of which one component counts. -/
theorem sum_component (f : Fin 128 → EReal) (c : Fin 2) (h : ∀ a, a.val / 64 ≠ c.val → f a = 0) :
    ∑ a, f a = ∑ e : Fin 64, f ⟨c.val * 64 + e.val, by omega⟩ := by
  refine (Finset.sum_subset_zero_on_sdiff (s₁ := Finset.univ.map ⟨fun e : Fin 64 => (⟨c.val * 64 + e.val, by omega⟩ : Fin 128), fun e e' h => ?_⟩)
    (Finset.subset_univ _) (fun a ha => h a fun hc => ?_) (fun _ _ => rfl)).symm.trans (Finset.sum_map _ _ _)
  · have := congrArg Fin.val h
    exact Fin.ext (by simpa using this)
  · rw [Finset.mem_sdiff, Finset.mem_map] at ha
    exact ha.2 ⟨⟨a.val % 64, Nat.mod_lt _ (by decide)⟩, Finset.mem_univ _, Fin.ext (by show c.val * 64 + a.val % 64 = a.val; omega)⟩

variable (m : (ℓ : Loc nD τ sig) → Buf (Elt Ideal) ℓ)
variable (c : Dev nD) (b : Fin 8) (j : Fin 4) (i : Fin 8) (e g : Fin 2) (q : Fin 256) (d : Fin 128)

/-- The row of the queries. -/
def qrow : Fin 2048 := ⟨i.val * 256 + q.val, by omega⟩

theorem raw_eq (s : ℕ) : raw (iblk m c 1 (pos b j i)) (iblk m c 2 (pos b j i)) e g q s
    = qs * Cert.Entry.prod (argQ m c) (argK m c) b j g (qrow i q) e s := by
  unfold raw Cert.Entry.prod
  rw [Cert.Softmax.mul_sum_real (c := qs) (EReal.coe_nonneg.mpr (mul_nonneg (by norm_num) (inv_nonneg.mpr (Real.log_nonneg (by norm_num))))) (EReal.coe_ne_top _),
    sum_component _ e]
  · refine Finset.sum_congr rfl fun a _ => ?_
    have ha : (e.val * 64 + a.val) / 64 = e.val := by omega
    rw [qmat_apply, if_pos ha, iblk1_apply m c b j i, iblk2_apply m c b j i, ← mul_assoc, mul_comm _ qs]
    refine congrArg (qs * ·) (congrArg (_ * ·) (congrArg (argQ m c) ?_))
    congr 1
    exact Fin.ext (show j.val * 256 + (g.val * 128 + (e.val * 64 + a.val)) = j.val * 256 + g.val * 128 + e.val * 64 + a.val by omega)
  · intro a ha
    rw [qmat_apply, if_neg ha, mul_zero]

theorem scale_sub (P : EReal) (r : ℝ) : (((Real.log 2)⁻¹ : ℝ) : EReal) * (P * ((8⁻¹ : ℝ) : EReal) - (r : EReal)) = qs * P + ((-((Real.log 2)⁻¹ * r) : ℝ) : EReal) := by
  have hl : 0 < (Real.log 2)⁻¹ := inv_pos.mpr (Real.log_pos (by norm_num))
  rw [sub_eq_add_neg, ← EReal.coe_neg, EReal.left_distrib_of_nonneg_of_ne_top (EReal.coe_nonneg.mpr hl.le) (EReal.coe_ne_top _), ← EReal.coe_mul,
    mul_comm P, ← mul_assoc, ← EReal.coe_mul, mul_comm (Real.log 2)⁻¹ 8⁻¹, mul_neg]
  rfl

theorem score_eq : score (iblk m c 1 (pos b j i)) (iblk m c 2 (pos b j i)) i.val (Cert.Entry.slope j g) e g q
    = Cert.Entry.score2 (argQ m c) (argK m c) b j g (qrow i q) e := by
  funext s
  unfold score Cert.Entry.score2 Cert.Entry.score
  have hl : 0 < (Real.log 2)⁻¹ := inv_pos.mpr (Real.log_pos (by norm_num))
  by_cases h : s ≤ i.val * 256 + q.val
  · rw [if_pos h, if_pos (show s ≤ (qrow i q).val from h), raw_eq, scale_sub]
    refine congrArg (fun z : ℝ => qs * _ + (z : EReal)) ?_
    unfold qrow
    push_cast
    ring
  · rw [if_neg h, if_neg (show ¬ s ≤ (qrow i q).val from h), EReal.coe_mul_bot_of_pos hl]

theorem val_eq (hv : ∀ x, argV m c x ≠ ⊤ ∧ argV m c x ≠ ⊥) (s : ℕ) (hs : s < 2048) :
    val (iblk m c 3 (pos b j i)) d s = (Cert.Entry.real (argV m c) b j s d : EReal) := by
  unfold val
  rw [iblk3_apply m c b j i, ← Cert.Entry.real_eq b j hv]
  refine congrArg (argV m c) ?_
  congr 1
  exact Fin.ext (by show s / 256 % 8 * 256 + s % 256 = s % 2048; omega)

theorem lam_eq : lamOf (iblk m c 4 (pos b j i)) = Cert.Entry.factor (argL m c) := by
  unfold lamOf Cert.Entry.factor
  simp only [iblk4_apply m c b j i]

theorem final_eq (hv : ∀ x, argV m c x ≠ ⊤ ∧ argV m c x ≠ ⊥) {lam : ℝ} (hl : Cert.Entry.factor (argL m c) = lam) :
    diffOf (iblk m c 4 (pos b j i)) (final (iblk m c 2 (pos b j i)) (iblk m c 3 (pos b j i)) (qmat (iblk m c 1 (pos b j i)))
        (slopeV (slopes m c) j.val) (biasV (slopes m c) j.val) (dbiasV (slopes m c) j.val) i.val) g q
      = Cert.Softmax.diffE (Cert.Entry.score2 (argQ m c) (argK m c) b j g (qrow i q) 0) (Cert.Entry.score2 (argQ m c) (argK m c) b j g (qrow i q) 1) 2048 lam
          (Cert.Entry.real (argV m c) b j) := by
  funext d
  have hσ : slot (slopes m c) (2 * j.val + g.val) = ((Cert.Entry.slope j g : ℝ) : EReal) := by
    exact (slot_eq m c ⟨2 * j.val + g.val, by omega⟩).trans
      (congrArg (fun n : ℕ => (((2 : ℝ)⁻¹ ^ (n + 1) : ℝ) : EReal)) (show 2 * j.val + g.val = j.val * 2 + g.val by omega))
  have h := fun e => final_all (iblk m c 1 (pos b j i)) (iblk m c 2 (pos b j i)) (iblk m c 3 (pos b j i)) i.val e g q hσ i.isLt
  have hacc : ∀ S, Cert.Softmax.acc S (val (iblk m c 3 (pos b j i)) d) 2048 = Cert.Softmax.acc S (fun s => (Cert.Entry.real (argV m c) b j s d : EReal)) 2048 := fun S =>
    Finset.sum_congr rfl fun s hs => by rw [val_eq m c b j i d hv s (Finset.mem_range.mp hs)]
  unfold diffOf Cert.Softmax.diffE
  rw [lam_eq, hl, (h 0).2.1, (h 1).2.1, (h 0).2.2, (h 1).2.2, score_eq, score_eq, hacc, hacc]

/-- The kernel's result at row `n = 256 i + q` of batch `b`, feature `d` of head `2j + g`. -/
theorem result_eq (hv : ∀ x, argV m c x ≠ ⊤ ∧ argV m c x ≠ ⊥) {lam : ℝ} (hl : Cert.Entry.factor (argL m c) = lam) (x : Fin 16384) (y : Fin 1024)
    (hx : x.val = b.val * 2048 + (i.val * 256 + q.val)) (hy : y.val = (j.val * 2 + g.val) * 128 + d.val) :
    result m c (ix2 x y) = Cert.Softmax.rms Cert.Entry.size Cert.Entry.eps
        (Cert.Softmax.diffE (Cert.Entry.score2 (argQ m c) (argK m c) b j g (qrow i q) 0) (Cert.Entry.score2 (argQ m c) (argK m c) b j g (qrow i q) 1) 2048 lam
          (Cert.Entry.real (argV m c) b j)) d * argS m c (ix2 0 d) * Cert.Entry.keep := by
  rw [result_at m c (pos b j i) (ix2 q ⟨g.val * 128 + d.val, by omega⟩) (ix2 x y)
    (show x.val = ((b.val * 32 + j.val * 8 + i.val) / 32 * 8 + (b.val * 32 + j.val * 8 + i.val) % 8) * 256 + q.val by omega)
    (show y.val = (b.val * 32 + j.val * 8 + i.val) / 8 % 4 * 256 + (g.val * 128 + d.val) by omega)]
  have hp : pair (pos b j i).val = j.val := show (b.val * 32 + j.val * 8 + i.val) / 8 % 4 = j.val by omega
  have hi : (pos b j i).val % 8 = i.val := show (b.val * 32 + j.val * 8 + i.val) % 8 = i.val by omega
  unfold outAt outV
  rw [hp, hi, outOf_apply, final_eq m c b j i g q hv hl, iblk5_apply m c b j i]
  rfl

end Cert.KernelIdeal.Value
-- ==== Proof.Value.Reference.lean ====
/-
  The reference read at an element: its scores, its two maps, their difference applied to the values, the normalisation.
-/
module

public import proofs.«01_k».proof.Proof.Value.Entry
public import proofs.«01_k».proof.Proof.Gen.ReferenceIdeal.Read

@[expose] public section

set_option maxRecDepth 16384

noncomputable section

namespace Cert.ReferenceIdeal.Entry

open Idealize.ShloMosaic Cert.ReferenceIdeal Cert.ReferenceIdeal.Read Cert.ReferenceIdeal.Gen
open Cert.Softmax Cert.Entry

variable (q : FVec Ideal S8x2048x1024 .f32) (k v : FVec Ideal S8x2048x4x128 .f32) (l : FVec Ideal S1x4x64 .f32) (w : FVec Ideal S1x128 .f32)
variable (b : Fin 8) (c : Fin 2) (j : Fin 4) (g : Fin 2) (n s : Fin 2048) (d : Fin 128)

theorem ofBits_ninf : Ideal.ofBits .f32 0xFF800000#32 = ⊥ := by simp [Ideal.ofBits, Ideal.ieee]
theorem ofBits_one : Ideal.ofBits .f32 0x3F800000#32 = ((1 : ℝ) : EReal) := by simp [Ideal.ofBits, Ideal.ieee, -EReal.coe_mul, -EReal.coe_pow] <;> norm_num
theorem ofBits_two : Ideal.ofBits .f32 0x40000000#32 = ((2 : ℝ) : EReal) := by simp [Ideal.ofBits, Ideal.ieee, -EReal.coe_mul, -EReal.coe_pow] <;> norm_num
theorem ofBits_eight : Ideal.ofBits .f32 0x41000000#32 = ((8 : ℝ) : EReal) := by simp [Ideal.ofBits, Ideal.ieee, -EReal.coe_mul, -EReal.coe_pow] <;> norm_num
theorem ofBits_neg_eight : Ideal.ofBits .f32 0xC1000000#32 = ((-8 : ℝ) : EReal) := by simp [Ideal.ofBits, Ideal.ieee, -EReal.coe_mul, -EReal.coe_pow] <;> norm_num
theorem ofBits_eighth : Ideal.ofBits .f32 0x3E000000#32 = ((8⁻¹ : ℝ) : EReal) := by simp [Ideal.ofBits, Ideal.ieee, -EReal.coe_mul, -EReal.coe_pow] <;> norm_num

theorem slope_at : val_main_v9 (F := Ideal) (ix2 j g) = (slope j g : EReal) := by
  pointwise [val_main_v9, val_main_v8, val_main_v7, val_main_v6, val_main_v5, val_main_v4, val_main_v3, val_main_v2, val_main_v1, val_main_v0,
    val_main_cst, val_main_cst_0, val_main_cst_1, val_main_cst_2]
  rw [ofBits_two, ofBits_eight, ofBits_neg_eight]
  have h : ∀ (a : Fin 4) (e : Fin 2), (BitVec.ofNat 32 (a.val * 2 + e.val)).toInt = ((a.val * 2 + e.val : ℕ) : ℤ) := by decide +kernel
  rw [show FloatOps.sitofp (F := Ideal) FTy.f32 (BitVec.ofNat 32 (j.val * 2 + g.val)) = (((BitVec.ofNat 32 (j.val * 2 + g.val)).toInt : ℝ) : EReal) from rfl,
    h, div_real _ (by norm_num), ← EReal.coe_one, ← EReal.coe_add, ← EReal.coe_mul, ← EReal.coe_mul, Ideal.pow_coe_coe]
  congr 1
  show (2 : ℝ) ^ (_ : ℝ) = _
  unfold Entry.slope
  rw [← Real.rpow_natCast, Real.inv_rpow (by norm_num), ← Real.rpow_neg (by norm_num)]
  congr 1
  push_cast
  ring

theorem lam_at : val_main_v26 (F := Ideal) l ix0 = factor l := by
  pointwise [val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_cst_3, val_main_cst_4, val_main_cst_5]
  rfl

theorem dot_at : val_main_v38 (F := Ideal) q k (ix6 b c j g n s) = prod q k b j g n c s.val * ((8⁻¹ : ℝ) : EReal) := by
  pointwise [val_main_v38, val_main_v36, val_main_v35, val_main_v28, val_main_v27, val_main_v37, val_main_cst_6]
  rw [ofBits_eighth]
  unfold prod
  rw [row_val]

theorem gap_toInt : (IntOp.subi (BitVec.ofNat 32 n.val) (BitVec.ofNat 32 s.val)).toInt = (n.val : ℤ) - s.val := by
  have hn := n.isLt
  have hs := s.isLt
  show (BitVec.ofNat 32 n.val - BitVec.ofNat 32 s.val).toInt = _
  rw [BitVec.toInt_sub, BitVec.toInt_ofNat', BitVec.toInt_ofNat']
  simp only [Int.bmod_def]
  omega

theorem score_at : val_main_v50 (F := Ideal) q k (ix6 b c j g n s) = score q k b j g n c s.val := by
  have hd := dot_at q k b c j g n s
  have hσ := slope_at j g
  pointwise [val_main_v50, val_main_v49, val_main_v48, val_main_v47, val_main_v46, val_main_v45, val_main_v44, val_main_v43, val_main_v42, val_main_v41,
    val_main_v40, val_main_v39, val_main_v34, val_main_v33, val_main_v32, val_main_v31, val_main_v30, val_main_v29, val_main_call0_v2, val_main_call0_v1,
    val_main_call0_v0, val_main_c, val_main_cst_7]
  rw [hd, hσ, show ∀ x : BitVec 32, FloatOps.sitofp (F := Ideal) FTy.f32 x = ((x.toInt : ℝ) : EReal) from fun _ => rfl, gap_toInt]
  refine (congrArg (Scalar.select _ _) (ofBits_ninf : id (constant (F := Ideal) S_ FTy.f32 0xFF800000#32) ix0 = (⊥ : EReal))).trans ?_
  have h : IntOp.cmpi CmpIPredicate.sge (IntOp.subi (BitVec.ofNat 32 n.val) (BitVec.ofNat 32 s.val)) 0#32 = BitVec.ofBool (decide (s.val ≤ n.val)) := by
    show BitVec.ofBool (BitVec.sle 0#32 (IntOp.subi (BitVec.ofNat 32 n.val) (BitVec.ofNat 32 s.val))) = _
    congr 1
    rw [BitVec.sle, gap_toInt]
    simp
  rw [h]
  unfold score
  by_cases hle : s.val ≤ n.val
  · rw [if_pos hle]
    simp only [hle, decide_true]
    show _ = _ - _
    rw [EReal.coe_mul]
    push_cast
    rfl
  · rw [if_neg hle]
    simp only [hle, decide_false]
    rfl

theorem max_row : val_main_v51 (F := Ideal) q k (ix5 b c j g n) = top (score q k b j g n c) 2048 := by
  have h : ∀ s : Fin 2048, val_main_v50 (F := Ideal) q k (ix6 b c j g n s) = score q k b j g n c s.val := score_at q k b c j g n
  unfold val_main_v51
  generalize val_main_v50 (F := Ideal) q k = y at h ⊢
  rw [Host.reduce_eq_fold_single _ _ _ _ (by decide)]
  have e : ∀ s : Fin 2048, Function.comp y ((show S8x2x4x2x2048x2048.Reduces [5] S8x2x4x2x2048 by decide).lift (ix5 b c j g n)) s = score q k b j g n c s.val := fun s =>
    (congrArg y (funext fun a => by fin_cases a <;> rfl)).trans (h s)
  show Finset.fold (β := EReal) max (Ideal.ofBits .f32 0xFF800000#32) _ (Finset.univ : Finset (Fin 2048)) = _
  refine (Finset.fold_congr (g := fun s : Fin 2048 => score q k b j g n c s.val) fun s _ => e s).trans ?_
  rw [ofBits_ninf, fold_max]
  unfold top
  refine le_antisymm (Finset.sup_le fun s _ => Finset.le_sup (f := score q k b j g n c) (Finset.mem_range.mpr s.isLt)) (Finset.sup_le fun i hi => ?_)
  exact Finset.le_sup (f := fun s : Fin 2048 => score q k b j g n c s.val) (Finset.mem_univ ⟨i, Finset.mem_range.mp hi⟩)

theorem max_at : val_main_v53 (F := Ideal) q k (ix5 b c j g n) = top (score q k b j g n c) 2048 := by
  rw [val_main_v53_apply, max_row, val_main_v52_apply, val_main_cst_9_apply]
  show max (Ideal.ofBits .f32 0xFF800000#32) _ = _
  rw [ofBits_ninf]
  exact max_eq_right bot_le

theorem weight_at : val_main_v57 (F := Ideal) q k (ix6 b c j g n s) = wt (score2 q k b j g n c s.val) (top (score2 q k b j g n c) 2048) := by
  rw [top_scale (score2 q k b j g n c) (score q k b j g n c) 2048 (fun _ _ => rfl)]
  refine Eq.trans ?_ (exp_sub_eq_wt _ _)
  rw [← score_at, ← max_at]
  pointwise [val_main_v57, val_main_v56, val_main_v55, val_main_v54]

theorem sum_at : val_main_v58 (F := Ideal) q k (ix5 b c j g n) = tot (score2 q k b j g n c) 2048 := by
  rw [val_main_v58_apply]
  unfold tot
  rw [Finset.sum_range, val_main_cst_10_apply, show FloatOps.ofBits (F := Ideal) .f32 0x00000000#32 = 0 by simp, zero_add]
  refine Finset.sum_congr rfl fun s _ => Eq.trans (congrArg _ ?_) (weight_at q k b c j g n s)
  exact funext fun a => by fin_cases a <;> rfl

theorem map_at : val_main_v61 (F := Ideal) q k (ix6 b c j g n s)
    = Ideal.div (wt (score2 q k b j g n c s.val) (top (score2 q k b j g n c) 2048)) (tot (score2 q k b j g n c) 2048) := by
  have h := weight_at q k b c j g n s
  have h' := sum_at q k b c j g n
  unfold val_main_v61 val_main_v60 val_main_v59
  generalize val_main_v57 (F := Ideal) q k = y at h ⊢
  generalize val_main_v58 (F := Ideal) q k = z at h' ⊢
  rw [← h, ← h']
  pointwise

theorem drop_at (y : FVec Ideal S8x1x4x2x2048x2048 .f32) (h) : shapeCast S8x4x2x2048x2048 y h (ix5 b j g n s) = y (ix6 b 0 j g n s) := by
  pointwise

theorem first_at : val_main_v63 (F := Ideal) q k (ix5 b j g n s) = val_main_v61 (F := Ideal) q k (ix6 b 0 j g n s) := by
  refine (drop_at b j g n s (val_main_v62 (F := Ideal) q k) _).trans ?_
  rw [val_main_v62_apply]
  exact congrArg _ (funext fun a => by fin_cases a <;> rfl)

theorem second_at : val_main_v65 (F := Ideal) q k (ix5 b j g n s) = val_main_v61 (F := Ideal) q k (ix6 b 1 j g n s) := by
  refine (drop_at b j g n s (val_main_v64 (F := Ideal) q k) _).trans ?_
  rw [val_main_v64_apply]
  exact congrArg _ (funext fun a => by fin_cases a <;> rfl)

theorem between_at : val_main_v68 (F := Ideal) q k l (ix5 b j g n s)
    = val_main_v61 (F := Ideal) q k (ix6 b 0 j g n s) - val_main_v26 (F := Ideal) l ix0 * val_main_v61 (F := Ideal) q k (ix6 b 1 j g n s) := by
  rw [val_main_v68_apply, val_main_v67_apply, val_main_v66_apply, first_at, second_at]
  rfl

theorem out_at : val_main_v70 (F := Ideal) q k v l (ix5 b n j g d)
    = ∑ s : Fin 2048, v (ix4 b s j d) * val_main_v68 (F := Ideal) q k l (ix5 b j g n s) := by
  pointwise [val_main_v70, val_main_v69]

theorem diff_at {lam : ℝ} (hl : factor l = lam) (hv : ∀ i, v i ≠ ⊤ ∧ v i ≠ ⊥) : val_main_v70 (F := Ideal) q k v l (ix5 b n j g d)
    = diffW (score2 q k b j g n 0) (score2 q k b j g n 1) 2048 lam (real v b j) d := by
  rw [out_at]
  unfold diffW
  rw [Finset.sum_range]
  refine Finset.sum_congr rfl fun s _ => ?_
  rw [between_at, map_at, map_at, lam_at, hl, ← real_eq b j hv, row_val]

theorem norm_at (x : Fin 16384) (y : Fin 1024) (hx : x.val = b.val * 2048 + n.val) (hy : y.val = (j.val * 2 + g.val) * 128 + d.val) :
    val_main_v88 (F := Ideal) q k v l w (ix2 x y)
      = rms size eps (fun d => val_main_v70 (F := Ideal) q k v l (ix5 b n j g d)) d * w (ix2 0 d) * keep := by
  have e0 : ∀ h, (⟨x.val / 2048, h⟩ : Fin 8) = b := fun h => Fin.ext (by show x.val / 2048 = b.val; omega)
  have e1 : ∀ h, (⟨x.val % 2048, h⟩ : Fin 2048) = n := fun h => Fin.ext (by show x.val % 2048 = n.val; omega)
  have e2 : ∀ h, (⟨y.val / 256, h⟩ : Fin 4) = j := fun h => Fin.ext (by show y.val / 256 = j.val; omega)
  have e3 : ∀ h, (⟨y.val / 128 % 2, h⟩ : Fin 2) = g := fun h => Fin.ext (by show y.val / 128 % 2 = g.val; omega)
  have e4 : ∀ h, (⟨y.val % 128, h⟩ : Fin 128) = d := fun h => Fin.ext (by show y.val % 128 = d.val; omega)
  pointwise [val_main_v88, val_main_v87, val_main_v86, val_main_v85, val_main_v84, val_main_v83, val_main_v82, val_main_v81, val_main_v80, val_main_v79,
    val_main_v78, val_main_v77, val_main_v76, val_main_v75, val_main_v74, val_main_v73, val_main_v72, val_main_v71, val_main_cst_11, val_main_cst_12,
    val_main_cst_13, val_main_cst_14]
  simp only [e0, e1, e2, e3, e4, zero_add]
  rfl

end Cert.ReferenceIdeal.Entry
-- ==== Proof.Value.Finite.lean ====
/-
  The precondition read: the values and the four vectors of the factor are real, so the factor is.
-/
module

public import proofs.«01_k».proof.Pre_finite_v_and_lambda
public import proofs.«01_k».proof.Proof.Value.Entry
public import Idealize.ShloMosaic.Lib.ReduceAll

@[expose] public section

noncomputable section

namespace Cert.Pre_finite_v_and_lambda

open Idealize.ShloMosaic

theorem facts : Facts where
  bcast_S_S8x2048x4x128 := by decide
  reducesTo_S8x2048x4x128_S_d0_1_2_3 := by decide
  h_S_ := by decide
  bcast_S_S1x4x64 := by decide
  reducesTo_S1x4x64_S_d0_1_2 := by decide

theorem ofBits_inf : Ideal.ofBits .f32 0x7F800000#32 = ⊤ := by simp [Ideal.ofBits, Ideal.ieee]

theorem finite_of_lt (x : EReal) (h : Ideal.cmp .olt (max x (-x)) ⊤ = 1#1) : x ≠ ⊤ ∧ x ≠ ⊥ := by
  constructor <;> rintro rfl <;> simp [Ideal.cmp] at h

instance : Subsingleton S_.Idx := ⟨fun a b => funext fun i => i.elim0⟩

variable [Facts] (q : FVec Ideal S8x2048x1024 .f32) (k v : FVec Ideal S8x2048x4x128 .f32) (l : FVec Ideal S1x4x64 .f32) (w : FVec Ideal S1x128 .f32)

theorem finite (h : fn (F := Ideal) q k v l w = fun _ => 1#1) : (∀ x, v x ≠ ⊤ ∧ v x ≠ ⊥) ∧ ∀ x, l x ≠ ⊤ ∧ l x ≠ ⊥ := by
  have h := congrFun h ix0
  dsimp only [fn] at h
  have h' := IntOp.andi_eq_one.mp h
  refine ⟨fun x => finite_of_lt _ ?_, fun x => finite_of_lt _ ?_⟩
  · rw [← ofBits_inf]; exact Host.reduce_andi_all _ _ _ _ _ h'.1 x
  · rw [← ofBits_inf]; exact Host.reduce_andi_all _ _ _ _ _ h'.2 x

end Cert.Pre_finite_v_and_lambda

namespace Cert.Entry

open Idealize.ShloMosaic

theorem size_eq : size = ((128 : ℝ) : EReal) := by unfold size; simp [Ideal.ofBits, Ideal.ieee, -EReal.coe_mul, -EReal.coe_pow] <;> norm_num
theorem eps_eq : eps = ((8796093 / 8796093022208 : ℝ) : EReal) := by unfold eps; simp [Ideal.ofBits, Ideal.ieee, -EReal.coe_mul, -EReal.coe_pow] <;> norm_num
theorem start_eq : Ideal.ofBits .f32 0x3EB60549#32 = ((11928905 / 33554432 : ℝ) : EReal) := by
  simp [Ideal.ofBits, Ideal.ieee, -EReal.coe_mul, -EReal.coe_pow] <;> norm_num

theorem factor_real (L : (⟨3, ![1, 4, 64]⟩ : Shape).Idx → EReal) (h : ∀ x, L x ≠ ⊤ ∧ L x ≠ ⊥) : ∃ r : ℝ, factor L = r := by
  have e : ∀ x, L x = ((L x).toReal : EReal) := fun x => (EReal.coe_toReal (h x).1 (h x).2).symm
  have s : ∀ a a' : Fin 4, ∃ r : ℝ, ∑ k : Fin 64, L (ix3 0 a k) * L (ix3 0 a' k) = r := fun a a' =>
    ⟨∑ k : Fin 64, (L (ix3 0 a k)).toReal * (L (ix3 0 a' k)).toReal, by
      rw [Cert.Softmax.coe_sum]
      exact Finset.sum_congr rfl fun k _ => by rw [EReal.coe_mul, ← e, ← e]⟩
  obtain ⟨x, hx⟩ := s 0 1
  obtain ⟨y, hy⟩ := s 2 3
  refine ⟨Real.exp x - Real.exp y + 11928905 / 33554432, ?_⟩
  unfold factor
  rw [hx, hy, start_eq, EReal.coe_add, EReal.coe_sub]
  rfl

end Cert.Entry
-- ==== Proof.Value.Equal.lean ====
/-
  The two programs end with equal results.
-/
module

public import proofs.«01_k».proof.Defs
public import proofs.«01_k».proof.Proof.Gen.ReferenceIdeal.Run
public import proofs.«01_k».proof.Proof.Value.Element
public import proofs.«01_k».proof.Proof.Value.Reference
public import proofs.«01_k».proof.Proof.Value.Finite

@[expose] public section

set_option maxRecDepth 16384

noncomputable section

namespace Cert.Equal

open Idealize.ShloMosaic Idealize.ShloMosaic.TcCoe Idealize.SL.Sem Cert.KernelIdeal.Value Cert.KernelIdeal.Gen

variable (m : (ℓ : Loc Cert.KernelIdeal.nD Cert.KernelIdeal.τ Cert.KernelIdeal.sig) → Buf (Elt Ideal) ℓ) (c : Dev Cert.KernelIdeal.nD)

theorem result_at_eq (x : Fin 16384) (y : Fin 1024) (hv : ∀ x, argV m c x ≠ ⊤ ∧ argV m c x ≠ ⊥) (hL : ∀ x, argL m c x ≠ ⊤ ∧ argL m c x ≠ ⊥) :
    result m c (ix2 x y) = Cert.ReferenceIdeal.Read.val_main_v88 (F := Ideal) (argQ m c) (argK m c) (argV m c) (argL m c) (argS m c) (ix2 x y) := by
  obtain ⟨lam, hl⟩ := Cert.Entry.factor_real _ hL
  let b : Fin 8 := ⟨x.val / 2048, by omega⟩
  let i : Fin 8 := ⟨x.val % 2048 / 256, by omega⟩
  let q : Fin 256 := ⟨x.val % 256, by omega⟩
  let j : Fin 4 := ⟨y.val / 256, by omega⟩
  let g : Fin 2 := ⟨y.val / 128 % 2, by omega⟩
  let d : Fin 128 := ⟨y.val % 128, by omega⟩
  have hx : x.val = b.val * 2048 + (i.val * 256 + q.val) :=
    show x.val = x.val / 2048 * 2048 + (x.val % 2048 / 256 * 256 + x.val % 256) by omega
  have hy : y.val = (j.val * 2 + g.val) * 128 + d.val :=
    show y.val = (y.val / 256 * 2 + y.val / 128 % 2) * 128 + y.val % 128 by omega
  rw [Cert.KernelIdeal.Value.result_eq m c b j i g q d hv hl x y hx hy,
    Cert.ReferenceIdeal.Entry.norm_at _ _ _ _ _ b j g (qrow i q) d x y hx hy]
  refine congrArg (· * _) (congrArg (· * _) ?_)
  rw [Cert.Entry.size_eq, Cert.Entry.eps_eq]
  refine (Cert.Softmax.rms_diff _ _ _ _ _ (by norm_num) (by norm_num) d).symm.trans ?_
  refine congrArg (fun o => Cert.Softmax.rms _ _ o d) (funext fun d => ?_)
  exact (Cert.ReferenceIdeal.Entry.diff_at _ _ _ _ b j g _ d hl hv).symm

theorem result_eq_reference (hv : ∀ x, argV m c x ≠ ⊤ ∧ argV m c x ≠ ⊥) (hL : ∀ x, argL m c x ≠ ⊤ ∧ argL m c x ≠ ⊥) :
    result m c = Cert.ReferenceIdeal.Read.val_main_v88 (F := Ideal) (argQ m c) (argK m c) (argV m c) (argL m c) (argS m c) := by
  funext z
  have hz : z = ix2 (z 0) (z 1) := funext fun a => by fin_cases a <;> rfl
  exact (congrArg _ hz).trans ((result_at_eq m c (z 0) (z 1) hv hL).trans (congrArg _ hz.symm))

end Cert.Equal

namespace Cert.Proof

open Idealize.ShloMosaic Idealize.SL.Sem

theorem algebraic : Cert.algebraic_KernelIdeal_ReferenceIdeal_pre_finite_v_and_lambda (hPre_finite_v_and_lambda := Cert.Pre_finite_v_and_lambda.facts) :=
  fun m g m' g' hpre hargs => by
    refine ⟨fun c => Cert.KernelIdeal.Value.result m c, Cert.KernelIdeal.Value.run m g, ?_⟩
    refine (θ_run Cert.ReferenceIdeal.defs _ _).mono (fun r h c => ⟨(h c).1.trans ?_, (h c).2⟩) (Cert.ReferenceIdeal.Value.run (F := Ideal) m' g')
    obtain ⟨hv, hL⟩ := @Cert.Pre_finite_v_and_lambda.finite Cert.Pre_finite_v_and_lambda.facts _ _ _ _ _ (hpre c)
    obtain ⟨h0, h1, h2, h3, h4⟩ := hargs c
    refine Eq.trans ?_ (Cert.Equal.result_eq_reference m c hv hL).symm
    rw [Cert.ReferenceIdeal.Read.val_main_v88_eq, h0, h1, h2, h3, h4]

end Cert.Proof
-- ==== Proof.Feed.Model.lean ====
/-
  One token through the second half of the layer: the output projection, its normalisation and the gated residual; the
  normalisation and modulation of the sum; the SwiGLU feed-forward, its normalisation and the gated residual.
-/
module

public import Idealize.ShloMosaic.PureOps.Ideal
public import Idealize.ShloMosaic.Lib.Pointwise

@[expose] public section

noncomputable section

namespace Cert.Feed

open Idealize.ShloMosaic

def size : EReal := Ideal.ofBits .f32 0x44800000#32
def eps : EReal := Ideal.ofBits .f32 0x358637BD#32

/-- A row over its root mean square, times the gains. -/
def rms (x g : Fin 1024 → EReal) (d : Fin 1024) : EReal := x d * Ideal.rsqrt (Ideal.div (∑ e, x e * x e) size + eps) * g d

/-- The residual stream after the attention. -/
def mixed (o x gate g : Fin 1024 → EReal) (w : Fin 1024 → Fin 1024 → EReal) (d : Fin 1024) : EReal :=
  x d + gate d * rms (fun d => ∑ e, o e * w e d) g d

/-- The feed-forward's input. -/
def inner (x g scale shift : Fin 1024 → EReal) (d : Fin 1024) : EReal := rms x g d * (1 + scale d) + shift d

/-- A hidden unit, from its two columns of weights. -/
def unit (h a b : Fin 1024 → EReal) : EReal :=
  Ideal.div (∑ e, h e * a e) (1 + Ideal.exp (0 - ∑ e, h e * a e)) * ∑ e, h e * b e

/-- The hidden unit `f` of the layer. -/
def gated (h : Fin 1024 → EReal) (w : Fin 1024 → Fin 5632 → EReal) (f : Fin 2816) : EReal :=
  unit h (fun e => w e ⟨f.val, by omega⟩) (fun e => w e ⟨2816 + f.val, by omega⟩)

/-- The feed-forward's output. -/
def feed (h : Fin 1024 → EReal) (w : Fin 1024 → Fin 5632 → EReal) (v : Fin 2816 → Fin 1024 → EReal) (d : Fin 1024) : EReal :=
  ∑ f, gated h w f * v f d

/-- The residual stream after both. -/
def token (o x gate1 shift scale gate2 g1 g2 g3 : Fin 1024 → EReal) (wo : Fin 1024 → Fin 1024 → EReal) (w : Fin 1024 → Fin 5632 → EReal)
    (v : Fin 2816 → Fin 1024 → EReal) (d : Fin 1024) : EReal :=
  mixed o x gate1 g1 wo d + gate2 d * rms (feed (inner (mixed o x gate1 g1 wo) g2 scale shift) w v) g3 d

/-- A quotient by a positive number is the product with its reciprocal. -/
theorem div_eq_mul (x : EReal) {y : EReal} (h : 0 < y) : Ideal.div x y = x * Ideal.div 1 y := by
  unfold Ideal.div
  rw [if_neg h.ne', if_neg h.ne', one_mul]

theorem exp_nonneg (x : EReal) : 0 ≤ Ideal.exp x := by
  induction x with
  | bot => exact le_refl _
  | top => exact le_top
  | coe r => exact EReal.coe_nonneg.mpr (Real.exp_pos r).le

/-- The gate as a product with the logistic function. -/
theorem gate_eq (x : EReal) : Ideal.div x (1 + Ideal.exp (0 - x)) = x * Ideal.div 1 (1 + Ideal.exp (-x)) := by
  rw [zero_sub]
  exact div_eq_mul x (lt_of_lt_of_le zero_lt_one (le_add_of_nonneg_right (exp_nonneg _)))

/-- A sum over the hidden units, by chunks of 256. -/
theorem sum_chunks (F : Fin 2816 → EReal) :
    ∑ f, F f = ∑ c : Fin 11, ∑ f : Fin 256, F ⟨c.val * 256 + f.val, by omega⟩ := by
  rw [← Fintype.sum_prod_type']
  refine (Fintype.sum_equiv (finProdFinEquiv (m := 11) (n := 256)) _ _ fun x => ?_).symm
  congr 1
  apply Fin.ext
  show x.1.val * 256 + x.2.val = x.2.val + 256 * x.1.val
  omega

end Cert.Feed
-- ==== Proof.Feed.Body.lean ====
/-
  What the body leaves in the output's block, read at an element.
-/
module

public import proofs.«01_k».proof.Proof.Feed.Model
public import proofs.«01_k».proof.Proof.Gen.Kernel2Ideal.Frame
public import Idealize.ShloMosaic.Lib.Pipeline.Value

@[expose] public section

set_option maxRecDepth 16384
set_option maxHeartbeats 1000000

noncomputable section

namespace Cert.Kernel2Ideal.Feed

open Idealize.ShloMosaic Idealize.SL.Sem
open Cert.Kernel2Ideal Cert.Kernel2Ideal.Gen Cert.Feed

/-- A chunk's share of the feed-forward's output. -/
def chunk (h : FVec Ideal S512x1024 .bf16) (A B : Vec Ideal S1x1024x256 .bf16) (D : Vec Ideal S1x256x1024 .bf16) (p : Fin 512) (d : Fin 1024) : EReal :=
  ∑ f : Fin 256, unit (fun e => h (ix2 p e)) (fun e => A (ix3 0 e f)) (fun e => B (ix3 0 e f)) * D (ix3 0 f d)

variable (h : FVec Ideal S512x1024 .bf16) (acc : FVec Ideal S512x1024 .f32) (A B A' B' : Vec Ideal S1x1024x256 .bf16) (D D' : Vec Ideal S1x256x1024 .bf16)
variable (p : Fin 512) (d : Fin 1024)

theorem pay7_at (s c : FVec Ideal S1x1024 .f32) (x : FVec Ideal S512x1024 .f32) (g : Vec Ideal S1x1024 .f32) :
    k0_pay7 s c x g A B D (ix2 p d) = chunk (k0_pay6 s c x g) A B D p d := by
  unfold k0_pay7
  generalize k0_pay6 s c x g = h
  pointwise
  try rw [zero_add]
  rfl

theorem pay8_at : k0_pay8 h acc A B D (ix2 p d) = acc (ix2 p d) + chunk h A B D p d := by
  pointwise [k0_pay8]
  rfl

theorem pay11_at : k0_pay11 h acc (k0_pay9 h A B) (k0_pay10 D) (constant S512x1024 .f32 0x00000000#32) A' B' D' (ix2 p d)
    = acc (ix2 p d) + chunk h A B D p d + chunk h A' B' D' p d := by
  pointwise [k0_pay11, k0_pay9, k0_pay10]
  rfl

theorem pay13_at : k0_pay13 h acc (k0_pay12 h A B) D A' B' D' (ix2 p d)
    = acc (ix2 p d) + chunk h A B D p d + chunk h A' B' D' p d := by
  pointwise [k0_pay13, k0_pay12]
  rfl

theorem pay16_at : k0_pay16 h acc (k0_pay14 h B) (k0_pay15 h A) D A' B' D' (ix2 p d)
    = acc (ix2 p d) + chunk h A B D p d + chunk h A' B' D' p d := by
  pointwise [k0_pay16, k0_pay14, k0_pay15]
  rfl

theorem pay20_at : k0_pay20 h acc (k0_pay17 h A) (k0_pay18 h B) (k0_pay19 h A) D A' B' D' (ix2 p d)
    = acc (ix2 p d) + chunk h A B D p d + chunk h A' B' D' p d := by
  pointwise [k0_pay20, k0_pay17, k0_pay18, k0_pay19]
  rfl

theorem pay1_at (gate : Vec Ideal S1x1x1024 .f32) (x : FVec Ideal S512x1024 .f32) (g : Vec Ideal S1x1024 .f32) :
    k0_pay1 (k0_pay4 gate) x acc (k0_pay21 h A) (k0_pay22 h B) D g (ix2 p d)
      = x (ix2 p d) + gate (ix3 0 0 d) * rms (fun d => acc (ix2 p d) + chunk h A B D p d) (fun d => g (ix2 0 d)) d := by
  pointwise [k0_pay1, k0_pay4, k0_pay21, k0_pay22]
  rfl

theorem pay5_at (gate : Vec Ideal S1x1x1024 .f32) (o : Vec Ideal S512x1024 .bf16) (w : Vec Ideal S1024x1024 .bf16) (x : Vec Ideal S512x1024 .f32) (g : Vec Ideal S1x1024 .f32) :
    k0_pay5 gate o w x g (ix2 p d)
      = mixed (fun e => o (ix2 p e)) (fun d => x (ix2 p d)) (fun d => gate (ix3 0 0 d)) (fun d => g (ix2 0 d)) (fun e d => w (ix2 e d)) d := by
  pointwise [k0_pay5]
  rfl

theorem pay6_at (s c : Vec Ideal S1x1x1024 .f32) (x : FVec Ideal S512x1024 .f32) (g : Vec Ideal S1x1024 .f32) :
    k0_pay6 (k0_pay2 s) (k0_pay3 c) x g (ix2 p d)
      = inner (fun d => x (ix2 p d)) (fun d => g (ix2 0 d)) (fun d => c (ix3 0 0 d)) (fun d => s (ix3 0 0 d)) d := by
  pointwise [k0_pay6, k0_pay2, k0_pay3]
  rfl

/-! The loads: a block of columns, a block of rows, one row, a sixth of the modulation. -/
theorem cols_at (w : Vec Ideal S1x1024x5632 .bf16) (n : ℕ) (hn) (e : Fin 1024) (f : Fin 256) (x : Fin 5632) (hx : x.val = n + f.val) :
    View.ld w (Rect.unit (s := S1x1024x5632) ![0, 0, n] S1x1024x256.size hn) (ix3 0 e f) = w (ix3 0 e x) :=
  congrArg w (funext fun a => Fin.ext (by
    match a with
    | 0 => show 0 + 1 * 0 = 0; rfl
    | 1 => show 0 + 1 * e.val = e.val; omega
    | 2 => show n + 1 * f.val = x.val; omega))

theorem rows_at (v : Vec Ideal S1x2816x1024 .bf16) (n : ℕ) (hn) (f : Fin 256) (d : Fin 1024) (x : Fin 2816) (hx : x.val = n + f.val) :
    View.ld v (Rect.unit (s := S1x2816x1024) ![0, n, 0] S1x256x1024.size hn) (ix3 0 f d) = v (ix3 0 x d) :=
  congrArg v (funext fun a => Fin.ext (by
    match a with
    | 0 => show 0 + 1 * 0 = 0; rfl
    | 1 => show n + 1 * f.val = x.val; omega
    | 2 => show 0 + 1 * d.val = d.val; omega))

theorem gain_at (g : Vec Ideal S4x1024 .f32) (n : ℕ) (hn) (d : Fin 1024) (x : Fin 4) (hx : x.val = n) :
    View.ld g (Rect.unit (s := S4x1024) ![n, 0] S1x1024.size hn) (ix2 0 d) = g (ix2 x d) :=
  congrArg g (funext fun a => Fin.ext (by
    match a with
    | 0 => show n + 1 * 0 = x.val; omega
    | 1 => show 0 + 1 * d.val = d.val; omega))

theorem part_at (s : Vec Ideal S1x1x6144 .f32) (n : ℕ) (hn) (d : Fin 1024) (x : Fin 6144) (hx : x.val = n + d.val) :
    View.ld s (Rect.unit (s := S1x1x6144) ![0, 0, n] S1x1x1024.size hn) (ix3 0 0 d) = s (ix3 0 0 x) :=
  congrArg s (funext fun a => Fin.ext (by
    match a with
    | 0 => show 0 + 1 * 0 = 0; rfl
    | 1 => show 0 + 1 * 0 = 0; rfl
    | 2 => show n + 1 * d.val = x.val; omega))

theorem block_at {e : EltTy} (x : Vec Ideal S512x1024 e) (p : Fin 512) (d : Fin 1024) : View.ld x r0_4 (ix2 p d) = x (ix2 p d) :=
  congrArg x (funext fun a => Fin.ext (by
    match a with
    | 0 => show 0 + 1 * p.val = p.val; omega
    | 1 => show 0 + 1 * d.val = d.val; omega))

theorem square_at (x : Vec Ideal S1024x1024 .bf16) (p d : Fin 1024) : View.ld x r0_5 (ix2 p d) = x (ix2 p d) :=
  congrArg x (funext fun a => Fin.ext (by
    match a with
    | 0 => show 0 + 1 * p.val = p.val; omega
    | 1 => show 0 + 1 * d.val = d.val; omega))

/-- A chunk's share, from the layer's weights. -/
theorem chunk_at (w : Vec Ideal S1x1024x5632 .bf16) (v : Vec Ideal S1x2816x1024 .bf16) (n n' : ℕ) (hn : n' = 2816 + n) (h1 h2 h3) (c : Fin 11) (hc : n = c.val * 256) :
    chunk h (View.ld w (Rect.unit (s := S1x1024x5632) ![0, 0, n] S1x1024x256.size h1)) (View.ld w (Rect.unit (s := S1x1024x5632) ![0, 0, n'] S1x1024x256.size h2))
        (View.ld v (Rect.unit (s := S1x2816x1024) ![0, n, 0] S1x256x1024.size h3)) p d
      = ∑ f : Fin 256, gated (fun e => h (ix2 p e)) (fun e f => w (ix3 0 e f)) ⟨c.val * 256 + f.val, by omega⟩
          * v (ix3 0 ⟨c.val * 256 + f.val, by omega⟩ d) := by
  subst hn hc
  unfold chunk gated
  refine Finset.sum_congr rfl fun f _ => ?_
  rw [rows_at v _ h3 f d ⟨c.val * 256 + f.val, by omega⟩ rfl]
  simp only [fun e => cols_at w _ h1 e f ⟨c.val * 256 + f.val, by omega⟩ rfl,
    fun e => cols_at w _ h2 e f ⟨2816 + (c.val * 256 + f.val), by omega⟩ (by dsimp only; omega)]

variable (x0 : Vec Ideal S512x1024 .bf16) (x1 : Vec Ideal S512x1024 .f32) (x2 : Vec Ideal S1x1x6144 .f32) (x3 : Vec Ideal S4x1024 .f32)
  (x4 : Vec Ideal S1024x1024 .bf16) (x5 : Vec Ideal S1x1024x5632 .bf16) (x6 : Vec Ideal S1x2816x1024 .bf16)

theorem congr_mixed {o o' x x' gate gate' g g' : Fin 1024 → EReal} {w w' : Fin 1024 → Fin 1024 → EReal} (h1 : ∀ d, o d = o' d) (h2 : ∀ d, x d = x' d)
    (h3 : ∀ d, gate d = gate' d) (h4 : ∀ d, g d = g' d) (h5 : ∀ e d, w e d = w' e d) (d : Fin 1024) : mixed o x gate g w d = mixed o' x' gate' g' w' d := by
  rw [funext h1, funext h2, funext h3, funext h4, funext fun e => funext (h5 e)]

theorem sum_eleven (f : Fin 11 → EReal) : ∑ c, f c = f 0 + f 1 + f 2 + f 3 + f 4 + f 5 + f 6 + f 7 + f 8 + f 9 + f 10 := by
  rw [Fin.sum_univ_castSucc, Fin.sum_univ_castSucc, Fin.sum_univ_castSucc, Fin.sum_univ_eight]
  rfl

/-- The sixth `n` of the modulation. -/
def part (n : Fin 6) (d : Fin 1024) : EReal := x2 (ix3 0 0 ⟨n.val * 1024 + d.val, by omega⟩)

theorem mixed_at : k0_pay25 x0 x1 x2 x3 x4 x5 x6 (ix2 p d)
    = mixed (fun e => x0 (ix2 p e)) (fun d => x1 (ix2 p d)) (part x2 2) (fun d => x3 (ix2 1 d)) (fun e d => x4 (ix2 e d)) d := by
  unfold k0_pay25
  rw [pay5_at]
  simp only [block_at, square_at, fun d => gain_at x3 1 inb_S4x1024_S1x1024_1_0 d 1 rfl,
    fun d => part_at x2 2048 inb_S1x1x6144_S1x1x1024_0_0_2048 d ⟨2048 + d.val, by omega⟩ rfl]
  exact congr_mixed (block_at x0 p) (block_at x1 p) (fun _ => rfl) (fun _ => rfl) (fun e d => square_at x4 e d) d

theorem inner_at : k0_pay26 x0 x1 x2 x3 x4 x5 x6 (ix2 p d)
    = inner (mixed (fun e => x0 (ix2 p e)) (fun d => x1 (ix2 p d)) (part x2 2) (fun d => x3 (ix2 1 d)) (fun e d => x4 (ix2 e d)))
        (fun d => x3 (ix2 2 d)) (part x2 4) (part x2 3) d := by
  unfold k0_pay26 k0_pay23 k0_pay24
  rw [pay6_at]
  simp only [mixed_at, fun d => gain_at x3 2 inb_S4x1024_S1x1024_2_0 d 2 rfl,
    fun d => part_at x2 3072 inb_S1x1x6144_S1x1x1024_0_0_3072 d ⟨3072 + d.val, by omega⟩ rfl,
    fun d => part_at x2 4096 inb_S1x1x6144_S1x1x1024_0_0_4096 d ⟨4096 + d.val, by omega⟩ rfl]
  rfl

/-- The first chunk's share, on the body's own operands. -/
theorem pay7_body (A B : Vec Ideal S1x1024x256 .bf16) (D : Vec Ideal S1x256x1024 .bf16) :
    k0_pay7 (k0_pay23 x0 x1 x2 x3 x4 x5 x6) (k0_pay24 x0 x1 x2 x3 x4 x5 x6) (k0_pay25 x0 x1 x2 x3 x4 x5 x6) (View.ld x3 r0_7) A B D (ix2 p d)
      = chunk (k0_pay26 x0 x1 x2 x3 x4 x5 x6) A B D p d := pay7_at A B D p d _ _ _ _

theorem out_at : out0_7 x0 x1 x2 x3 x4 x5 x6 (ix2 p d)
    = token (fun e => x0 (ix2 p e)) (fun d => x1 (ix2 p d)) (part x2 2) (part x2 3) (part x2 4) (part x2 5)
        (fun d => x3 (ix2 1 d)) (fun d => x3 (ix2 2 d)) (fun d => x3 (ix2 3 d)) (fun e d => x4 (ix2 e d)) (fun e f => x5 (ix3 0 e f)) (fun f d => x6 (ix3 0 f d)) d := by
  have hw : ∀ (P : FVec Ideal S512x1024 .f32), View.canon (Val := Elt Ideal) (s := S512x1024) (e := .f32) [⟨r0_4, P⟩] (ix2 p d) = P (ix2 p d) := fun P => by
    have e : (ix2 p d : S512x1024.Idx) = r0_4.emb (ix2 p d) := funext fun a => Fin.ext (by
      match a with
      | 0 => show p.val = 0 + 1 * p.val; omega
      | 1 => show d.val = 0 + 1 * d.val; omega)
    conv_lhs => rw [e]
    exact View.canon_cons_emb (Val := Elt Ideal) (e := .f32) r0_4 P [] (ix2 p d)
  unfold out0_7
  rw [hw, pay1_at]
  unfold token
  rw [mixed_at, part_at x2 5120 inb_S1x1x6144_S1x1x1024_0_0_5120 d ⟨5120 + d.val, by omega⟩ rfl]
  have hx : (fun d => inner (mixed (fun e => x0 (ix2 p e)) (fun d => x1 (ix2 p d)) (part x2 2) (fun d => x3 (ix2 1 d)) (fun e d => x4 (ix2 e d)))
      (fun d => x3 (ix2 2 d)) (part x2 4) (part x2 3) d) = fun d => k0_pay26 x0 x1 x2 x3 x4 x5 x6 (ix2 p d) := funext fun d => (inner_at p d x0 x1 x2 x3 x4 x5 x6).symm
  have hg : (fun d => View.ld x3 r0_41 (ix2 0 d)) = fun d => x3 (ix2 3 d) := funext fun d => gain_at x3 3 inb_S4x1024_S1x1024_3_0 d 3 rfl
  rw [hg]
  unfold feed
  refine congrArg (fun a => mixed _ _ _ _ _ d + _ * rms a _ d) (funext fun d => ?_)
  rw [show inner _ _ _ _ = fun d => k0_pay26 x0 x1 x2 x3 x4 x5 x6 (ix2 p d) from hx]
  rw [sum_chunks fun f : Fin 2816 => gated (fun d => k0_pay26 x0 x1 x2 x3 x4 x5 x6 (ix2 p d)) (fun e f => x5 (ix3 0 e f)) f * x6 (ix3 0 f d)]
  rw [pay20_at, pay16_at, pay13_at, pay11_at, pay8_at, pay7_body]
  rw [chunk_at (k0_pay26 x0 x1 x2 x3 x4 x5 x6) p d x5 x6 0 2816 rfl inb_S1x1024x5632_S1x1024x256_0_0_0 inb_S1x1024x5632_S1x1024x256_0_0_2816 inb_S1x2816x1024_S1x256x1024_0_0_0 0 rfl,
    chunk_at (k0_pay26 x0 x1 x2 x3 x4 x5 x6) p d x5 x6 256 3072 rfl inb_S1x1024x5632_S1x1024x256_0_0_256 inb_S1x1024x5632_S1x1024x256_0_0_3072 inb_S1x2816x1024_S1x256x1024_0_256_0 1 rfl,
    chunk_at (k0_pay26 x0 x1 x2 x3 x4 x5 x6) p d x5 x6 512 3328 rfl inb_S1x1024x5632_S1x1024x256_0_0_512 inb_S1x1024x5632_S1x1024x256_0_0_3328 inb_S1x2816x1024_S1x256x1024_0_512_0 2 rfl,
    chunk_at (k0_pay26 x0 x1 x2 x3 x4 x5 x6) p d x5 x6 768 3584 rfl inb_S1x1024x5632_S1x1024x256_0_0_768 inb_S1x1024x5632_S1x1024x256_0_0_3584 inb_S1x2816x1024_S1x256x1024_0_768_0 3 rfl,
    chunk_at (k0_pay26 x0 x1 x2 x3 x4 x5 x6) p d x5 x6 1024 3840 rfl inb_S1x1024x5632_S1x1024x256_0_0_1024 inb_S1x1024x5632_S1x1024x256_0_0_3840 inb_S1x2816x1024_S1x256x1024_0_1024_0 4 rfl,
    chunk_at (k0_pay26 x0 x1 x2 x3 x4 x5 x6) p d x5 x6 1280 4096 rfl inb_S1x1024x5632_S1x1024x256_0_0_1280 inb_S1x1024x5632_S1x1024x256_0_0_4096 inb_S1x2816x1024_S1x256x1024_0_1280_0 5 rfl,
    chunk_at (k0_pay26 x0 x1 x2 x3 x4 x5 x6) p d x5 x6 1536 4352 rfl inb_S1x1024x5632_S1x1024x256_0_0_1536 inb_S1x1024x5632_S1x1024x256_0_0_4352 inb_S1x2816x1024_S1x256x1024_0_1536_0 6 rfl,
    chunk_at (k0_pay26 x0 x1 x2 x3 x4 x5 x6) p d x5 x6 1792 4608 rfl inb_S1x1024x5632_S1x1024x256_0_0_1792 inb_S1x1024x5632_S1x1024x256_0_0_4608 inb_S1x2816x1024_S1x256x1024_0_1792_0 7 rfl,
    chunk_at (k0_pay26 x0 x1 x2 x3 x4 x5 x6) p d x5 x6 2048 4864 rfl inb_S1x1024x5632_S1x1024x256_0_0_2048 inb_S1x1024x5632_S1x1024x256_0_0_4864 inb_S1x2816x1024_S1x256x1024_0_2048_0 8 rfl,
    chunk_at (k0_pay26 x0 x1 x2 x3 x4 x5 x6) p d x5 x6 2304 5120 rfl inb_S1x1024x5632_S1x1024x256_0_0_2304 inb_S1x1024x5632_S1x1024x256_0_0_5120 inb_S1x2816x1024_S1x256x1024_0_2304_0 9 rfl,
    chunk_at (k0_pay26 x0 x1 x2 x3 x4 x5 x6) p d x5 x6 2560 5376 rfl inb_S1x1024x5632_S1x1024x256_0_0_2560 inb_S1x1024x5632_S1x1024x256_0_0_5376 inb_S1x2816x1024_S1x256x1024_0_2560_0 10 rfl]
  rw [sum_eleven]

end Cert.Kernel2Ideal.Feed
-- ==== Proof.Feed.Array.lean ====
/-
  The arrays the kernel reads, in terms of its arguments, and the array its run ends with.
-/
module

public import proofs.«01_k».proof.Proof.Feed.Body
public import proofs.«01_k».proof.Proof.Gen.Kernel2Ideal.Value
public import Idealize.ShloMosaic.Lib.Pipeline.Value

@[expose] public section

set_option maxRecDepth 16384
set_option maxHeartbeats 1000000

noncomputable section

namespace Cert.Kernel2Ideal.Feed

open Idealize.ShloMosaic Idealize.ShloMosaic.TcCoe Idealize.SL.Sem Idealize.ShloMosaic.Tactic
open Cert.Kernel2Ideal Cert.Kernel2Ideal.Gen Cert.Feed

variable (m : (ℓ : Loc nD τ sig) → Buf (Elt Ideal) ℓ)

/-- The argument arrays of one device. -/
abbrev argO (c : Dev nD) : FVec Ideal S8x2048x1024 .f32 := m ((c : Thread nD τ).loc main_arg0)
abbrev argX (c : Dev nD) : FVec Ideal S8x2048x1024 .f32 := m ((c : Thread nD τ).loc main_arg1)
abbrev argS (c : Dev nD) : FVec Ideal S8x6144 .f32 := m ((c : Thread nD τ).loc main_arg2)
abbrev argG (c : Dev nD) : FVec Ideal S2x4x1024 .f32 := m ((c : Thread nD τ).loc main_arg3)
abbrev argP (c : Dev nD) : FVec Ideal S1x1024x1024 .f32 := m ((c : Thread nD τ).loc main_arg4)
abbrev argW (c : Dev nD) : FVec Ideal S2x1024x5632 .f32 := m ((c : Thread nD τ).loc main_arg5)
abbrev argV (c : Dev nD) : FVec Ideal S2x2816x1024 .f32 := m ((c : Thread nD τ).loc main_arg6)

/-! What the host leaves in the arrays the kernel reads. -/
theorem V_v1 (c : Dev nD) : V m c main_v1 = shapeCast S4x1024 (extractStridedSlice S1x4x1024 ![1, 0, 0] (argG m c) slices_S2x4x1024_S1x4x1024_1_0_0) shapeCasts_S1x4x1024_S4x1024 := by
  show StableHlo.after hostOps0 _ _ = _
  after_results
  rfl
theorem V_v3 (c : Dev nD) : V m c main_v3 = truncf .bf16 (shapeCast S1024x1024 (argP m c) shapeCasts_S1x1024x1024_S1024x1024) bitsLt_bf16_f32 := by
  show StableHlo.after hostOps0 _ _ = _
  after_results
  rfl
theorem V_v4 (c : Dev nD) : V m c main_v4 = truncf .bf16 (argW m c) bitsLt_bf16_f32 := by
  show StableHlo.after hostOps0 _ _ = _
  after_results
theorem V_v5 (c : Dev nD) : V m c main_v5 = truncf .bf16 (argV m c) bitsLt_bf16_f32 := by
  show StableHlo.after hostOps0 _ _ = _
  after_results
theorem V_v6 (c : Dev nD) : V m c main_v6 = shapeCast S16384x1024 (argX m c) shapeCasts_S8x2048x1024_S16384x1024 := by
  show StableHlo.after hostOps0 _ _ = _
  after_results
  rfl
theorem V_v8 (c : Dev nD) : V m c main_v8 = truncf .bf16 (shapeCast S16384x1024 (argO m c) shapeCasts_S8x2048x1024_S16384x1024) bitsLt_bf16_f32 := by
  show StableHlo.after hostOps0 _ _ = _
  after_results
  rfl
theorem V_v9 (c : Dev nD) : V m c main_v9 = shapeCast S8x1x6144 (argS m c) shapeCasts_S8x6144_S8x1x6144 := by
  show StableHlo.after hostOps0 _ _ = _
  after_results
  rfl

theorem v1_apply (g : FVec Ideal S2x4x1024 .f32) (k : Fin 4) (d : Fin 1024) :
    shapeCast S4x1024 (extractStridedSlice S1x4x1024 ![1, 0, 0] g slices_S2x4x1024_S1x4x1024_1_0_0) shapeCasts_S1x4x1024_S4x1024 (ix2 k d) = g (ix3 1 k d) := by
  pointwise
theorem v3_apply (w : FVec Ideal S1x1024x1024 .f32) (e d : Fin 1024) :
    (truncf .bf16 (shapeCast S1024x1024 w shapeCasts_S1x1024x1024_S1024x1024) bitsLt_bf16_f32 : FVec Ideal S1024x1024 .bf16) (ix2 e d) = w (ix3 0 e d) := by
  pointwise
theorem v6_apply (x : FVec Ideal S8x2048x1024 .f32) (b : Fin 8) (n : Fin 2048) (d : Fin 1024) :
    shapeCast S16384x1024 x shapeCasts_S8x2048x1024_S16384x1024 (ix2 ⟨b.val * 2048 + n.val, by omega⟩ d) = x (ix3 b n d) := by
  pointwise
theorem v9_apply (s : FVec Ideal S8x6144 .f32) (b : Fin 8) (d : Fin 6144) :
    shapeCast S8x1x6144 s shapeCasts_S8x6144_S8x1x6144 (ix3 b 0 d) = s (ix2 b d) := by
  pointwise

/-! The grid's position for the block `i` of the batch's entry `b`. -/
def pos (b : Fin 8) (i : Fin 4) : Fin cfg0.N := ⟨b.val * 4 + i.val, by rw [show cfg0.N = 32 from N_0]; omega⟩

/-- The token `p` of the block `i`. -/
def place (i : Fin 4) (p : Fin 512) : Fin 2048 := ⟨i.val * 512 + p.val, by omega⟩

theorem idx0 (b : Fin 8) (i : Fin 4) : win0_0.index (pos b i) 0 = b.val * 4 + i.val ∧ win0_0.index (pos b i) 1 = 0 := by
  revert b i; decide +kernel
theorem idx1 (b : Fin 8) (i : Fin 4) : win0_1.index (pos b i) 0 = b.val * 4 + i.val ∧ win0_1.index (pos b i) 1 = 0 := by
  revert b i; decide +kernel
theorem idx2 (b : Fin 8) (i : Fin 4) : win0_2.index (pos b i) 0 = b.val ∧ win0_2.index (pos b i) 1 = 0 ∧ win0_2.index (pos b i) 2 = 0 := by
  revert b i; decide +kernel
theorem idx34 (b : Fin 8) (i : Fin 4) : (win0_3.index (pos b i) 0 = 0 ∧ win0_3.index (pos b i) 1 = 0) ∧ win0_4.index (pos b i) 0 = 0 ∧ win0_4.index (pos b i) 1 = 0 := by
  revert b i; decide +kernel
theorem idx5 (b : Fin 8) (i : Fin 4) : win0_5.index (pos b i) 0 = 1 ∧ win0_5.index (pos b i) 1 = 0 ∧ win0_5.index (pos b i) 2 = 0 := by
  revert b i; decide +kernel
theorem idx6 (b : Fin 8) (i : Fin 4) : win0_6.index (pos b i) 0 = 1 ∧ win0_6.index (pos b i) 1 = 0 ∧ win0_6.index (pos b i) 2 = 0 := by
  revert b i; decide +kernel
theorem idx7 : ∀ t : Fin cfg0.N, win0_7.index t 0 = t.val ∧ win0_7.index t 1 = 0 :=
  (by decide +kernel : ∀ t : Fin grid0.N, win0_7.index t 0 = t.val ∧ win0_7.index t 1 = 0)

variable (c : Dev nD) (b : Fin 8) (i : Fin 4)

theorem iblk0_apply (p : Fin 512) (d : Fin 1024) : (iblk m c 0 (pos b i) : Vec Ideal S512x1024 .bf16) (ix2 p d) = argO m c (ix3 b (place i p) d) := by
  unfold iblk
  rw [View.read_apply]
  show V m c main_v8 _ = _
  rw [V_v8]
  refine Eq.trans ?_ (v6_apply (argO m c) b (place i p) d)
  show shapeCast S16384x1024 (argO m c) _ _ = _
  congr 1
  obtain ⟨h0, h1⟩ := idx0 b i
  funext y
  apply Fin.ext
  match y with
  | 0 => show win0_0.index (pos b i) 0 * 512 + 1 * p.val = _; rw [h0]; show _ = b.val * 2048 + (i.val * 512 + p.val); omega
  | 1 => show win0_0.index (pos b i) 1 * 1024 + 1 * d.val = _; rw [h1]; show _ = d.val; omega

theorem iblk1_apply (p : Fin 512) (d : Fin 1024) : (iblk m c 1 (pos b i) : Vec Ideal S512x1024 .f32) (ix2 p d) = argX m c (ix3 b (place i p) d) := by
  unfold iblk
  rw [View.read_apply]
  show V m c main_v6 _ = _
  rw [V_v6]
  refine Eq.trans ?_ (v6_apply (argX m c) b (place i p) d)
  congr 1
  obtain ⟨h0, h1⟩ := idx1 b i
  funext y
  apply Fin.ext
  match y with
  | 0 => show win0_1.index (pos b i) 0 * 512 + 1 * p.val = _; rw [h0]; show _ = b.val * 2048 + (i.val * 512 + p.val); omega
  | 1 => show win0_1.index (pos b i) 1 * 1024 + 1 * d.val = _; rw [h1]; show _ = d.val; omega

theorem iblk2_apply (d : Fin 6144) : (iblk m c 2 (pos b i) : Vec Ideal S1x1x6144 .f32) (ix3 0 0 d) = argS m c (ix2 b d) := by
  unfold iblk
  rw [View.read_apply]
  show V m c main_v9 _ = _
  rw [V_v9]
  refine Eq.trans ?_ (v9_apply (argS m c) b d)
  congr 1
  obtain ⟨h0, h1, h2⟩ := idx2 b i
  funext y
  apply Fin.ext
  match y with
  | 0 => show win0_2.index (pos b i) 0 * 1 + 1 * 0 = _; rw [h0]; show _ = b.val; omega
  | 1 => show win0_2.index (pos b i) 1 * 1 + 1 * 0 = _; rw [h1]; rfl
  | 2 => show win0_2.index (pos b i) 2 * 6144 + 1 * d.val = _; rw [h2]; show _ = d.val; omega

theorem iblk3_apply (k : Fin 4) (d : Fin 1024) : (iblk m c 3 (pos b i) : Vec Ideal S4x1024 .f32) (ix2 k d) = argG m c (ix3 1 k d) := by
  unfold iblk
  rw [View.read_apply]
  show V m c main_v1 _ = _
  rw [V_v1]
  refine Eq.trans ?_ (v1_apply (argG m c) k d)
  congr 1
  obtain ⟨⟨h0, h1⟩, -⟩ := idx34 b i
  funext y
  apply Fin.ext
  match y with
  | 0 => show win0_3.index (pos b i) 0 * 4 + 1 * k.val = _; rw [h0]; show _ = k.val; omega
  | 1 => show win0_3.index (pos b i) 1 * 1024 + 1 * d.val = _; rw [h1]; show _ = d.val; omega

theorem iblk4_apply (e d : Fin 1024) : (iblk m c 4 (pos b i) : Vec Ideal S1024x1024 .bf16) (ix2 e d) = argP m c (ix3 0 e d) := by
  unfold iblk
  rw [View.read_apply]
  show V m c main_v3 _ = _
  rw [V_v3]
  refine Eq.trans ?_ (v3_apply (argP m c) e d)
  congr 1
  obtain ⟨-, h0, h1⟩ := idx34 b i
  funext y
  apply Fin.ext
  match y with
  | 0 => show win0_4.index (pos b i) 0 * 1024 + 1 * e.val = _; rw [h0]; show _ = e.val; omega
  | 1 => show win0_4.index (pos b i) 1 * 1024 + 1 * d.val = _; rw [h1]; show _ = d.val; omega

theorem iblk5_apply (e : Fin 1024) (f : Fin 5632) : (iblk m c 5 (pos b i) : Vec Ideal S1x1024x5632 .bf16) (ix3 0 e f) = argW m c (ix3 1 e f) := by
  unfold iblk
  rw [View.read_apply]
  show V m c main_v4 _ = _
  rw [V_v4]
  show argW m c _ = _
  congr 1
  obtain ⟨h0, h1, h2⟩ := idx5 b i
  funext y
  apply Fin.ext
  match y with
  | 0 => show win0_5.index (pos b i) 0 * 1 + 1 * 0 = _; rw [h0]; rfl
  | 1 => show win0_5.index (pos b i) 1 * 1024 + 1 * e.val = _; rw [h1]; show _ = e.val; omega
  | 2 => show win0_5.index (pos b i) 2 * 5632 + 1 * f.val = _; rw [h2]; show _ = f.val; omega

theorem iblk6_apply (f : Fin 2816) (d : Fin 1024) : (iblk m c 6 (pos b i) : Vec Ideal S1x2816x1024 .bf16) (ix3 0 f d) = argV m c (ix3 1 f d) := by
  unfold iblk
  rw [View.read_apply]
  show V m c main_v5 _ = _
  rw [V_v5]
  show argV m c _ = _
  congr 1
  obtain ⟨h0, h1, h2⟩ := idx6 b i
  funext y
  apply Fin.ext
  match y with
  | 0 => show win0_6.index (pos b i) 0 * 1 + 1 * 0 = _; rw [h0]; rfl
  | 1 => show win0_6.index (pos b i) 1 * 2816 + 1 * f.val = _; rw [h1]; show _ = f.val; omega
  | 2 => show win0_6.index (pos b i) 2 * 1024 + 1 * d.val = _; rw [h2]; show _ = d.val; omega

/-- What the body leaves in the output's block at a grid position. -/
def outAt (t : Fin cfg0.N) : FVec Ideal S512x1024 .f32 :=
  out0_7 (iblk m c 0 t) (iblk m c 1 t) (iblk m c 2 t) (iblk m c 3 t) (iblk m c 4 t) (iblk m c 5 t) (iblk m c 6 t)

/-- The same, at an element, in terms of the arguments. -/
theorem outAt_apply (p : Fin 512) (d : Fin 1024) : outAt m c (pos b i) (ix2 p d)
    = token (fun e => argO m c (ix3 b (place i p) e)) (fun d => argX m c (ix3 b (place i p) d)) (fun d => argS m c (ix2 b ⟨2 * 1024 + d.val, by omega⟩))
        (fun d => argS m c (ix2 b ⟨3 * 1024 + d.val, by omega⟩)) (fun d => argS m c (ix2 b ⟨4 * 1024 + d.val, by omega⟩)) (fun d => argS m c (ix2 b ⟨5 * 1024 + d.val, by omega⟩))
        (fun d => argG m c (ix3 1 1 d)) (fun d => argG m c (ix3 1 2 d)) (fun d => argG m c (ix3 1 3 d)) (fun e d => argP m c (ix3 0 e d))
        (fun e f => argW m c (ix3 1 e f)) (fun f d => argV m c (ix3 1 f d)) d := by
  have hp : ∀ k : Fin 6, part (iblk m c 2 (pos b i)) k = fun d => argS m c (ix2 b ⟨k.val * 1024 + d.val, by omega⟩) := fun k =>
    funext fun d => iblk2_apply m c b i ⟨k.val * 1024 + d.val, by omega⟩
  unfold outAt
  rw [out_at, hp, hp, hp, hp, funext (iblk0_apply m c b i p), funext (iblk1_apply m c b i p), funext (iblk3_apply m c b i 1), funext (iblk3_apply m c b i 2),
    funext (iblk3_apply m c b i 3), funext fun e => funext (iblk4_apply m c b i e), funext fun e => funext (iblk5_apply m c b i e), funext fun f => funext (iblk6_apply m c b i f)]
  rfl

/-- The grid position that writes row `x`. -/
def posOf (x : ℕ) (hx : x < 16384) : Fin cfg0.N := ⟨x / 512, by rw [show cfg0.N = 32 from N_0]; omega⟩

/-- The result array. -/
def result : FVec Ideal S16384x1024 .f32 := fun y =>
  outAt m c (posOf (y 0).val (y 0).isLt) (ix2 ⟨(y 0).val % 512, Nat.mod_lt _ (by decide)⟩ ⟨(y 1).val, (y 1).isLt⟩)

theorem result_at (t : Fin cfg0.N) (y : S512x1024.Idx) (z : S16384x1024.Idx) (h0 : (z 0).val = t.val * 512 + (y 0).val) (h1 : (z 1).val = (y 1).val) :
    result m c z = outAt m c t y := by
  have y0 : (y 0).val < 512 := (y 0).isLt
  unfold result
  have e : posOf (z 0).val (z 0).isLt = t := Fin.ext (by
    show (z 0).val / 512 = t.val
    omega)
  rw [e]
  congr 1
  funext a
  apply Fin.ext
  match a with
  | 0 => show (z 0).val % 512 = (y 0).val; omega
  | 1 => exact h1

theorem cut_out (t : Fin cfg0.N) (X : FVec Ideal S512x1024 .f32) : (cfg0.win 7).cut (grid0.coords t) X = X := rfl

theorem read_of (t : Fin cfg0.N) (G : FVec Ideal S16384x1024 .f32) (X : FVec Ideal S512x1024 .f32)
    (h : ∀ (y : S512x1024.Idx) (z : S16384x1024.Idx), (z 0).val = t.val * 512 + (y 0).val → (z 1).val = (y 1).val → G z = X y) :
    ((cfg0.win 7).blk t).view.read (Elt Ideal) G = X := by
  obtain ⟨h0, h1⟩ := idx7 t
  funext y
  rw [View.read_apply]
  refine h y (((cfg0.win 7).blk t).view.emb y) ?_ ?_
  · show win0_7.index t 0 * 512 + 1 * (y 0).val = _; rw [h0]; omega
  · show win0_7.index t 1 * 1024 + 1 * (y 1).val = _; rw [h1]; omega

theorem read_out (t : Fin cfg0.N) : ((cfg0.win 7).blk t).view.read (Elt Ideal) (result m c) = outAt m c t :=
  read_of t (result m c) (outAt m c t) (result_at m c t)

theorem flushed_out (t : Fin cfg0.N) : (dats m 0 c).flushed 7 t = outAt m c t :=
  (Cert.Kernel2Ideal.Value.flushed7 m c t).trans (cut_out t (outAt m c t))

theorem flushed_eq (t : Fin cfg0.N) (_ : (cfg0.win 7).flush t = true) :
    (dats m 0 c).flushed 7 t = ((cfg0.win 7).blk t).view.read (Elt Ideal) (result m c) :=
  (flushed_out m c t).trans (read_out m c t).symm

theorem final_out : (dats m 0 c).arrAt 7 cfg0.N = result m c :=
  (dats m 0 c).arrAt_eq_of_cover 7 (result m c) (flushed_eq m c) fun i => by
    have i0 : (i 0 : ℕ) < 16384 := (i 0).isLt
    have i1 : (i 1 : ℕ) < 1024 := (i 1).isLt
    refine ⟨posOf (i 0).val i0, flush0_7 _, ?_⟩
    show i ∈ ((View.whole main_v10).slice (win0_7.rect (posOf (i 0).val i0))).set
    rw [View.set_slice_whole, Rect.mem_set_unit]
    obtain ⟨h0, h1⟩ := idx7 (posOf (i 0).val i0)
    have hp : (posOf (i 0).val i0).val = (i 0).val / 512 := rfl
    intro a
    match a with
    | ⟨0, _⟩ =>
      show win0_7.index (posOf (i 0).val i0) 0 * 512 ≤ (i 0 : ℕ) ∧ (i 0 : ℕ) < win0_7.index (posOf (i 0).val i0) 0 * 512 + 512
      rw [h0, hp]; omega
    | ⟨1, _⟩ =>
      show win0_7.index (posOf (i 0).val i0) 1 * 1024 ≤ (i 1 : ℕ) ∧ (i 1 : ℕ) < win0_7.index (posOf (i 0).val i0) 1 * 1024 + 1024
      rw [h1]; omega

end Cert.Kernel2Ideal.Feed
-- ==== Proof.Feed.Reference.lean ====
/-
  The reference read at an element: the residual stream after the attention, the feed-forward's input, its hidden units, the result.
-/
module

public import proofs.«01_k».proof.Proof.Feed.Model
public import proofs.«01_k».proof.Proof.Gen.Reference2Ideal.Read

@[expose] public section

set_option maxRecDepth 16384

noncomputable section

namespace Cert.Reference2Ideal.Feed

open Idealize.ShloMosaic Cert.Reference2Ideal Cert.Reference2Ideal.Read Cert.Reference2Ideal.Gen
open Cert.Feed

variable (o x : FVec Ideal S8x2048x1024 .f32) (s : FVec Ideal S8x6144 .f32) (g : FVec Ideal S2x4x1024 .f32) (wo : FVec Ideal S1x1024x1024 .f32)
  (w : FVec Ideal S2x1024x5632 .f32) (v : FVec Ideal S2x2816x1024 .f32)
variable (b : Fin 8) (n : Fin 2048) (d : Fin 1024)

/-- The sixth `k` of the modulation of the batch's entry `b`. -/
def sixth (k : Fin 6) (d : Fin 1024) : EReal := s (ix2 b ⟨k.val * 1024 + d.val, by omega⟩)

/-- The row of gains `k` of the second layer. -/
def gain (k : Fin 4) (d : Fin 1024) : EReal := g (ix3 1 k d)

/-- The residual stream after the attention, of one token. -/
def stream (d : Fin 1024) : EReal :=
  mixed (fun e => o (ix3 b n e)) (fun d => x (ix3 b n d)) (sixth s b 2) (gain g 1) (fun e d => wo (ix3 0 e d)) d

/-- The feed-forward's input, of one token. -/
def input (d : Fin 1024) : EReal := inner (stream o x s g wo b n) (gain g 2) (sixth s b 4) (sixth s b 3) d

theorem zero_bits : (FloatOps.ofBits (F := Ideal) .f32 0x00000000#32 : EReal) = 0 := by simp

theorem proj_at : val_main_v13 (F := Ideal) o wo (ix3 b n d) = ∑ e, o (ix3 b n e) * wo (ix3 0 e d) := by
  have h : ∀ e d : Fin 1024, val_main_v12 (F := Ideal) wo (ix2 e d) = wo (ix3 0 e d) := fun e d => by pointwise [val_main_v12]
  rw [val_main_v13_apply]
  refine Finset.sum_congr rfl fun e _ => ?_
  rw [← h]
  exact congrArg₂ (· * ·) (congrArg o (funext fun a => by fin_cases a <;> rfl)) (congrArg _ (funext fun a => by fin_cases a <;> rfl))

theorem square1_at : val_main_v17 (F := Ideal) o wo (ix2 b n)
    = ∑ e, val_main_v13 (F := Ideal) o wo (ix3 b n e) * val_main_v13 (F := Ideal) o wo (ix3 b n e) := by
  rw [val_main_v17_apply, val_main_cst_apply, zero_bits, zero_add]
  refine Finset.sum_congr rfl fun e _ => ?_
  rw [val_main_v16_apply]
  have e' : idx_main_v17 (ix2 b n) e = ix3 b n e := funext fun a => by fin_cases a <;> rfl
  rw [e']
  rfl

theorem rms1_at : val_main_v28 (F := Ideal) o g wo (ix3 b n d)
    = rms (fun e => val_main_v13 (F := Ideal) o wo (ix3 b n e)) (gain g 1) d := by
  have h := square1_at o wo b n
  unfold val_main_v28 val_main_v25 val_main_v24 val_main_v23 val_main_v22 val_main_v20 val_main_v18 val_main_v19 val_main_cst_0 val_main_v21 val_main_cst_1 val_main_v27 val_main_v26 val_main_v15 val_main_v14
  generalize val_main_v17 (F := Ideal) o wo = y at h ⊢
  generalize val_main_v13 (F := Ideal) o wo = z at h ⊢
  pointwise
  rw [h]
  rfl

theorem stream_at : val_main_v31 (F := Ideal) o x s g wo (ix3 b n d) = stream o x s g wo b n d := by
  have h := rms1_at o g wo b n d
  simp only [proj_at] at h
  unfold val_main_v31 val_main_v30 val_main_v29 val_main_v8 val_main_v2
  generalize val_main_v28 (F := Ideal) o g wo = y at h ⊢
  pointwise
  rw [h]
  rfl

theorem square2_at : val_main_v35 (F := Ideal) o x s g wo (ix2 b n)
    = ∑ e, val_main_v31 (F := Ideal) o x s g wo (ix3 b n e) * val_main_v31 (F := Ideal) o x s g wo (ix3 b n e) := by
  rw [val_main_v35_apply, val_main_cst_2_apply, zero_bits, zero_add]
  refine Finset.sum_congr rfl fun e _ => ?_
  rw [val_main_v34_apply]
  have e' : idx_main_v35 (ix2 b n) e = ix3 b n e := funext fun a => by fin_cases a <;> rfl
  rw [e']
  rfl

theorem rms2_at : val_main_v46 (F := Ideal) o x s g wo (ix3 b n d)
    = rms (fun e => val_main_v31 (F := Ideal) o x s g wo (ix3 b n e)) (gain g 2) d := by
  have h := square2_at o x s g wo b n
  unfold val_main_v46 val_main_v43 val_main_v42 val_main_v41 val_main_v40 val_main_v38 val_main_v36 val_main_v37 val_main_cst_3 val_main_v39 val_main_cst_4 val_main_v45 val_main_v44 val_main_v33 val_main_v32
  generalize val_main_v35 (F := Ideal) o x s g wo = y at h ⊢
  generalize val_main_v31 (F := Ideal) o x s g wo = z at h ⊢
  pointwise
  rw [h]
  rfl

theorem input_at : val_main_v52 (F := Ideal) o x s g wo (ix3 b n d) = input o x s g wo b n d := by
  have h := rms2_at o x s g wo b n d
  simp only [stream_at] at h
  unfold val_main_v52 val_main_v50 val_main_v49 val_main_v48 val_main_v47 val_main_cst_5 val_main_v10 val_main_v4 val_main_v51 val_main_v9 val_main_v3
  generalize val_main_v46 (F := Ideal) o x s g wo = y at h ⊢
  pointwise
  rw [h]
  rfl

theorem up_at (f : Fin 5632) : val_main_v55 (F := Ideal) o x s g wo w (ix3 b n f) = ∑ e, input o x s g wo b n e * w (ix3 1 e f) := by
  have h : ∀ e f, val_main_v54 (F := Ideal) w (ix2 e f) = w (ix3 1 e f) := fun e f => by pointwise [val_main_v54, val_main_v53]
  rw [val_main_v55_apply]
  refine Finset.sum_congr rfl fun e _ => ?_
  rw [← h, ← input_at]
  exact congrArg₂ (· * ·) (congrArg _ (funext fun a => by fin_cases a <;> rfl)) (congrArg _ (funext fun a => by fin_cases a <;> rfl))

theorem hidden_at (f : Fin 2816) : val_main_v59 (F := Ideal) o x s g wo w (ix3 b n f) = gated (input o x s g wo b n) (fun e f => w (ix3 1 e f)) f := by
  have h := up_at o x s g wo w b n
  unfold val_main_v59 val_main_v58 val_main_v57 val_main_v56 val_main_call0_v5 val_main_call0_v4 val_main_call0_v3 val_main_call0_v2 val_main_call0_v1 val_main_call0_v0
    val_main_call0_cst val_main_call0_cst_0 val_main_v56
  generalize val_main_v55 (F := Ideal) o x s g wo w = y at h ⊢
  unfold gated Cert.Feed.unit
  rw [gate_eq, ← h, ← h]
  pointwise

theorem down_at : val_main_v62 (F := Ideal) o x s g wo w v (ix3 b n d) = feed (input o x s g wo b n) (fun e f => w (ix3 1 e f)) (fun f d => v (ix3 1 f d)) d := by
  have h : ∀ f d, val_main_v61 (F := Ideal) v (ix2 f d) = v (ix3 1 f d) := fun f d => by pointwise [val_main_v61, val_main_v60]
  rw [val_main_v62_apply]
  unfold feed
  refine Finset.sum_congr rfl fun f _ => ?_
  show _ = _ * v (ix3 1 f d)
  rw [← h, ← hidden_at]
  exact congrArg₂ (· * ·) (congrArg _ (funext fun a => by fin_cases a <;> rfl)) (congrArg _ (funext fun a => by fin_cases a <;> rfl))

theorem square3_at : val_main_v66 (F := Ideal) o x s g wo w v (ix2 b n)
    = ∑ e, val_main_v62 (F := Ideal) o x s g wo w v (ix3 b n e) * val_main_v62 (F := Ideal) o x s g wo w v (ix3 b n e) := by
  rw [val_main_v66_apply, val_main_cst_6_apply, zero_bits, zero_add]
  refine Finset.sum_congr rfl fun e _ => ?_
  rw [val_main_v65_apply]
  have e' : idx_main_v66 (ix2 b n) e = ix3 b n e := funext fun a => by fin_cases a <;> rfl
  rw [e']
  rfl

theorem rms3_at : val_main_v77 (F := Ideal) o x s g wo w v (ix3 b n d)
    = rms (fun e => val_main_v62 (F := Ideal) o x s g wo w v (ix3 b n e)) (gain g 3) d := by
  have h := square3_at o x s g wo w v b n
  unfold val_main_v77 val_main_v74 val_main_v73 val_main_v72 val_main_v71 val_main_v69 val_main_v67 val_main_v68 val_main_cst_7 val_main_v70 val_main_cst_8 val_main_v76 val_main_v75 val_main_v64 val_main_v63
  generalize val_main_v66 (F := Ideal) o x s g wo w v = y at h ⊢
  generalize val_main_v62 (F := Ideal) o x s g wo w v = z at h ⊢
  pointwise
  rw [h]
  rfl

theorem block_at : val_main_v80 (F := Ideal) o x s g wo w v (ix3 b n d)
    = token (fun e => o (ix3 b n e)) (fun d => x (ix3 b n d)) (sixth s b 2) (sixth s b 3) (sixth s b 4) (sixth s b 5) (gain g 1) (gain g 2) (gain g 3)
        (fun e d => wo (ix3 0 e d)) (fun e f => w (ix3 1 e f)) (fun f d => v (ix3 1 f d)) d := by
  have h := rms3_at o x s g wo w v b n d
  have h' := stream_at o x s g wo b n d
  simp only [down_at] at h
  unfold val_main_v80 val_main_v79 val_main_v78 val_main_v11 val_main_v5
  generalize val_main_v77 (F := Ideal) o x s g wo w v = y at h ⊢
  generalize val_main_v31 (F := Ideal) o x s g wo = z at h' ⊢
  pointwise
  rw [h, h']
  rfl

theorem result_at (r : Fin 16384) (hr : r.val = b.val * 2048 + n.val) : val_main_v81 (F := Ideal) o x s g wo w v (ix2 r d)
    = token (fun e => o (ix3 b n e)) (fun d => x (ix3 b n d)) (sixth s b 2) (sixth s b 3) (sixth s b 4) (sixth s b 5) (gain g 1) (gain g 2) (gain g 3)
        (fun e d => wo (ix3 0 e d)) (fun e f => w (ix3 1 e f)) (fun f d => v (ix3 1 f d)) d := by
  rw [val_main_v81_apply, ← block_at]
  refine congrArg _ (funext fun a => Fin.ext ?_)
  match a with
  | 0 => show (r.val * 1024 + d.val) / 2097152 = b.val; omega
  | 1 => show (r.val * 1024 + d.val) / 1024 % 2048 = n.val; omega
  | 2 => show (r.val * 1024 + d.val) % 1024 = d.val; omega

end Cert.Reference2Ideal.Feed
-- ==== Proof.Feed.Equal.lean ====
/-
  The second half of the layer: the two programs end with equal results.
-/
module

public import proofs.«01_k».proof.Defs
public import proofs.«01_k».proof.Proof.Gen.Reference2Ideal.Run
public import proofs.«01_k».proof.Proof.Feed.Array
public import proofs.«01_k».proof.Proof.Feed.Reference

@[expose] public section

set_option maxRecDepth 16384

noncomputable section

namespace Cert.Feed

open Idealize.ShloMosaic Idealize.ShloMosaic.TcCoe Idealize.SL.Sem Cert.Kernel2Ideal.Feed Cert.Kernel2Ideal.Gen

variable (m : (ℓ : Loc Cert.Kernel2Ideal.nD Cert.Kernel2Ideal.τ Cert.Kernel2Ideal.sig) → Buf (Elt Ideal) ℓ) (c : Dev Cert.Kernel2Ideal.nD)

theorem result_at_eq (x : Fin 16384) (d : Fin 1024) :
    result m c (ix2 x d)
      = Cert.Reference2Ideal.Read.val_main_v81 (F := Ideal) (argO m c) (argX m c) (argS m c) (argG m c) (argP m c) (argW m c) (argV m c) (ix2 x d) := by
  let b : Fin 8 := ⟨x.val / 2048, by omega⟩
  let i : Fin 4 := ⟨x.val % 2048 / 512, by omega⟩
  let p : Fin 512 := ⟨x.val % 512, by omega⟩
  have h0 : x.val = (x.val / 2048 * 4 + x.val % 2048 / 512) * 512 + x.val % 512 := by omega
  have h1 : x.val = x.val / 2048 * 2048 + (x.val % 2048 / 512 * 512 + x.val % 512) := by omega
  rw [Cert.Kernel2Ideal.Feed.result_at m c (pos b i) (ix2 p d) (ix2 x d) h0 rfl, outAt_apply,
    Cert.Reference2Ideal.Feed.result_at _ _ _ _ _ _ _ b (place i p) d x h1]
  rfl

theorem result_eq_reference :
    result m c = Cert.Reference2Ideal.Read.val_main_v81 (F := Ideal) (argO m c) (argX m c) (argS m c) (argG m c) (argP m c) (argW m c) (argV m c) := by
  funext z
  have hz : z = ix2 (z 0) (z 1) := funext fun a => by fin_cases a <;> rfl
  exact (congrArg _ hz).trans ((result_at_eq m c (z 0) (z 1)).trans (congrArg _ hz.symm))

/-- From equal arguments both runs end with this array. -/
theorem algebraic : Cert.algebraic_Kernel2Ideal_Reference2Ideal :=
  fun m g m' g' _ hargs => by
    refine ⟨fun c => result m c, (θ_run Cert.Kernel2Ideal.defs _ _).mono (fun r h c => ⟨(h c).1.trans (final_out m c), (h c).2⟩) (Cert.Kernel2Ideal.Value.run_blocks m g), ?_⟩
    refine (θ_run Cert.Reference2Ideal.defs _ _).mono (fun r h c => ⟨(h c).1.trans ?_, (h c).2⟩) (Cert.Reference2Ideal.Value.run (F := Ideal) m' g')
    obtain ⟨h0, h1, h2, h3, h4, h5, h6⟩ := hargs c
    refine Eq.trans ?_ (result_eq_reference m c).symm
    rw [Cert.Reference2Ideal.Read.val_main_v81_eq, h0, h1, h2, h3, h4, h5, h6]

end Cert.Feed
-- ==== Proof.Project.Body.lean ====
/-
  What the body of the projection leaves in its three blocks, read at an element.
-/
module

public import proofs.«01_k».proof.Proof.Feed.Model
public import proofs.«01_k».proof.Proof.Gen.Kernel3Ideal.Frame
public import Idealize.ShloMosaic.Lib.Pipeline.Value

@[expose] public section

set_option maxRecDepth 16384
set_option maxHeartbeats 1000000

noncomputable section

namespace Cert.Feed

open Idealize.ShloMosaic

/-- One token's projection: the normalised and modulated row times a column of weights. -/
def proj (x g scale shift : Fin 1024 → EReal) (w : Fin 1024 → Fin 1536 → EReal) (a : Fin 1536) : EReal :=
  ∑ e, inner x g scale shift e * w e a

/-- The factor of the queries, one eighth. -/
def eighth : EReal := Ideal.ofBits .f32 0x3E000000#32

end Cert.Feed

namespace Cert.Kernel3Ideal.Project

open Idealize.ShloMosaic Idealize.SL.Sem
open Cert.Kernel3Ideal Cert.Kernel3Ideal.Gen Cert.Feed

variable (p : Fin 512) (d : Fin 1024) (a : Fin 256)

theorem pay2_at (s c : Vec Ideal S1x1x1024 .f32) (x : Vec Ideal S512x1024 .f32) (g : Vec Ideal S1x1024 .f32) (w : Vec Ideal S1024x1536 .bf16) (a : Fin 1536) :
    k0_pay2 s c x g w (ix2 p a)
      = proj (fun d => x (ix2 p d)) (fun d => g (ix2 0 d)) (fun d => c (ix3 0 0 d)) (fun d => s (ix3 0 0 d)) (fun e a => w (ix2 e a)) a := by
  pointwise [k0_pay2]
  rfl

theorem gain_at (g : Vec Ideal S4x1024 .f32) (d : Fin 1024) : View.ld g r0_3 (ix2 0 d) = g (ix2 0 d) :=
  congrArg g (funext fun a => Fin.ext (by
    match a with
    | 0 => show 0 + 1 * 0 = 0; rfl
    | 1 => show 0 + 1 * d.val = d.val; omega))

theorem part_at (s : Vec Ideal S1x1x6144 .f32) (n : ℕ) (hn) (d : Fin 1024) (x : Fin 6144) (hx : x.val = n + d.val) :
    View.ld s (Rect.unit (s := S1x1x6144) ![0, 0, n] S1x1x1024.size hn) (ix3 0 0 d) = s (ix3 0 0 x) :=
  congrArg s (funext fun a => Fin.ext (by
    match a with
    | 0 => show 0 + 1 * 0 = 0; rfl
    | 1 => show 0 + 1 * 0 = 0; rfl
    | 2 => show n + 1 * d.val = x.val; omega))

theorem block_at (x : Vec Ideal S512x1024 .f32) (p : Fin 512) (d : Fin 1024) : View.ld x r0_2 (ix2 p d) = x (ix2 p d) :=
  congrArg x (funext fun a => Fin.ext (by
    match a with
    | 0 => show 0 + 1 * p.val = p.val; omega
    | 1 => show 0 + 1 * d.val = d.val; omega))

theorem weight_at (x : Vec Ideal S1024x1536 .bf16) (e : Fin 1024) (a : Fin 1536) : View.ld x r0_4 (ix2 e a) = x (ix2 e a) :=
  congrArg x (funext fun i => Fin.ext (by
    match i with
    | 0 => show 0 + 1 * e.val = e.val; omega
    | 1 => show 0 + 1 * a.val = a.val; omega))

theorem congr_proj {x x' g g' c c' s s' : Fin 1024 → EReal} {w w' : Fin 1024 → Fin 1536 → EReal} (h1 : ∀ d, x d = x' d) (h2 : ∀ d, g d = g' d)
    (h3 : ∀ d, c d = c' d) (h4 : ∀ d, s d = s' d) (h5 : ∀ e a, w e a = w' e a) (a : Fin 1536) : proj x g c s w a = proj x' g' c' s' w' a := by
  rw [funext h1, funext h2, funext h3, funext h4, funext fun e => funext (h5 e)]

variable (x0 : Vec Ideal S512x1024 .f32) (x1 : Vec Ideal S1x1x6144 .f32) (x2 : Vec Ideal S4x1024 .f32) (x3 : Vec Ideal S1024x1536 .bf16)

/-- The sixth `n` of the modulation. -/
def part (n : Fin 6) (d : Fin 1024) : EReal := x1 (ix3 0 0 ⟨n.val * 1024 + d.val, by omega⟩)

/-- The block's projection at an element. -/
def proj_block (a : Fin 1536) : EReal := proj (fun d => x0 (ix2 p d)) (fun d => x2 (ix2 0 d)) (part x1 1) (part x1 0) (fun e a => x3 (ix2 e a)) a

theorem all_at (a : Fin 1536) : k0_pay2 (View.ld x1 r0_0) (View.ld x1 r0_1) (View.ld x0 r0_2) (View.ld x2 r0_3) (View.ld x3 r0_4) (ix2 p a) = proj_block p x0 x1 x2 x3 a :=
  (pay2_at p _ _ _ _ _ a).trans (congr_proj (block_at x0 p) (gain_at x2)
    (fun d => part_at x1 1024 inb_S1x1x6144_S1x1x1024_0_0_1024 d ⟨1 * 1024 + d.val, by omega⟩ (by dsimp only))
    (fun d => part_at x1 0 inb_S1x1x6144_S1x1x1024_0_0_0 d ⟨0 * 1024 + d.val, by omega⟩ (by dsimp only))
    (weight_at x3) a)

theorem canon_wide (P : FVec Ideal S512x1024 .bf16) : View.canon (Val := Elt Ideal) (s := S512x1024) (e := .bf16) [⟨r0_2, P⟩] (ix2 p d) = P (ix2 p d) := by
  have e : (ix2 p d : S512x1024.Idx) = r0_2.emb (ix2 p d) := funext fun a => Fin.ext (by
    match a with
    | 0 => show p.val = 0 + 1 * p.val; omega
    | 1 => show d.val = 0 + 1 * d.val; omega)
  conv_lhs => rw [e]
  exact View.canon_cons_emb (Val := Elt Ideal) (e := .bf16) r0_2 P [] (ix2 p d)

theorem canon_narrow (P : FVec Ideal S512x256 .f32) : View.canon (Val := Elt Ideal) (s := S512x256) (e := .f32) [⟨r0_5, P⟩] (ix2 p a) = P (ix2 p a) := by
  have e : (ix2 p a : S512x256.Idx) = r0_5.emb (ix2 p a) := funext fun i => Fin.ext (by
    match i with
    | 0 => show p.val = 0 + 1 * p.val; omega
    | 1 => show a.val = 0 + 1 * a.val; omega)
  conv_lhs => rw [e]
  exact View.canon_cons_emb (Val := Elt Ideal) (e := .f32) r0_5 P [] (ix2 p a)

theorem query_at : out0_4 x0 x1 x2 x3 (ix2 p d) = proj_block p x0 x1 x2 x3 ⟨d.val, by omega⟩ * eighth := by
  have h := all_at p x0 x1 x2 x3 ⟨d.val, by omega⟩
  unfold out0_4
  rw [canon_wide]
  unfold k0_pay3
  generalize k0_pay2 (View.ld x1 r0_0) (View.ld x1 r0_1) (View.ld x0 r0_2) (View.ld x2 r0_3) (View.ld x3 r0_4) = y at h ⊢
  pointwise
  rw [← h]
  rfl

theorem key_at : out0_5 x0 x1 x2 x3 (ix2 p a) = proj_block p x0 x1 x2 x3 ⟨1024 + a.val, by omega⟩ := by
  have h := all_at p x0 x1 x2 x3 ⟨1024 + a.val, by omega⟩
  unfold out0_5
  rw [canon_narrow]
  unfold k0_pay4
  generalize k0_pay2 (View.ld x1 r0_0) (View.ld x1 r0_1) (View.ld x0 r0_2) (View.ld x2 r0_3) (View.ld x3 r0_4) = y at h ⊢
  pointwise
  exact h

theorem value_at : out0_6 x0 x1 x2 x3 (ix2 p a) = proj_block p x0 x1 x2 x3 ⟨1280 + a.val, by omega⟩ := by
  have h := all_at p x0 x1 x2 x3 ⟨1280 + a.val, by omega⟩
  unfold out0_6
  rw [canon_narrow]
  unfold k0_pay1
  generalize k0_pay2 (View.ld x1 r0_0) (View.ld x1 r0_1) (View.ld x0 r0_2) (View.ld x2 r0_3) (View.ld x3 r0_4) = y at h ⊢
  pointwise
  exact h

end Cert.Kernel3Ideal.Project
-- ==== Proof.Project.Array.lean ====
/-
  The arrays the projection reads, in terms of its arguments, and the three arrays its run ends with.
-/
module

public import proofs.«01_k».proof.Proof.Project.Body
public import proofs.«01_k».proof.Proof.Gen.Kernel3Ideal.Value
public import Idealize.ShloMosaic.Lib.Pipeline.Value

@[expose] public section

set_option maxRecDepth 16384
set_option maxHeartbeats 1000000

noncomputable section

namespace Cert.Kernel3Ideal.Project

open Idealize.ShloMosaic Idealize.ShloMosaic.TcCoe Idealize.SL.Sem Idealize.ShloMosaic.Tactic
open Cert.Kernel3Ideal Cert.Kernel3Ideal.Gen Cert.Feed

variable (m : (ℓ : Loc nD τ sig) → Buf (Elt Ideal) ℓ)

/-- The argument arrays of one device. -/
abbrev argX (c : Dev nD) : FVec Ideal S8x2048x1024 .f32 := m ((c : Thread nD τ).loc main_arg0)
abbrev argS (c : Dev nD) : FVec Ideal S8x6144 .f32 := m ((c : Thread nD τ).loc main_arg1)
abbrev argG (c : Dev nD) : FVec Ideal S2x4x1024 .f32 := m ((c : Thread nD τ).loc main_arg2)
abbrev argW (c : Dev nD) : FVec Ideal S1x1024x1536 .f32 := m ((c : Thread nD τ).loc main_arg3)

/-! What the host leaves in the arrays the kernel reads. -/
theorem V_v1 (c : Dev nD) : V m c main_v1 = shapeCast S4x1024 (extractStridedSlice S1x4x1024 ![0, 0, 0] (argG m c) slices_S2x4x1024_S1x4x1024_0_0_0) shapeCasts_S1x4x1024_S4x1024 := by
  show StableHlo.after hostOps0 _ _ = _
  after_results
  rfl
theorem V_v3 (c : Dev nD) : V m c main_v3 = truncf .bf16 (shapeCast S1024x1536 (argW m c) shapeCasts_S1x1024x1536_S1024x1536) bitsLt_bf16_f32 := by
  show StableHlo.after hostOps0 _ _ = _
  after_results
  rfl
theorem V_v4 (c : Dev nD) : V m c main_v4 = shapeCast S16384x1024 (argX m c) shapeCasts_S8x2048x1024_S16384x1024 := by
  show StableHlo.after hostOps0 _ _ = _
  after_results
  rfl
theorem V_v5 (c : Dev nD) : V m c main_v5 = shapeCast S8x1x6144 (argS m c) shapeCasts_S8x6144_S8x1x6144 := by
  show StableHlo.after hostOps0 _ _ = _
  after_results
  rfl

theorem v1_apply (g : FVec Ideal S2x4x1024 .f32) (k : Fin 4) (d : Fin 1024) :
    shapeCast S4x1024 (extractStridedSlice S1x4x1024 ![0, 0, 0] g slices_S2x4x1024_S1x4x1024_0_0_0) shapeCasts_S1x4x1024_S4x1024 (ix2 k d) = g (ix3 0 k d) := by
  pointwise
theorem v3_apply (w : FVec Ideal S1x1024x1536 .f32) (e : Fin 1024) (a : Fin 1536) :
    (truncf .bf16 (shapeCast S1024x1536 w shapeCasts_S1x1024x1536_S1024x1536) bitsLt_bf16_f32 : FVec Ideal S1024x1536 .bf16) (ix2 e a) = w (ix3 0 e a) := by
  pointwise
theorem v4_apply (x : FVec Ideal S8x2048x1024 .f32) (b : Fin 8) (n : Fin 2048) (d : Fin 1024) :
    shapeCast S16384x1024 x shapeCasts_S8x2048x1024_S16384x1024 (ix2 ⟨b.val * 2048 + n.val, by omega⟩ d) = x (ix3 b n d) := by
  pointwise
theorem v5_apply (s : FVec Ideal S8x6144 .f32) (b : Fin 8) (d : Fin 6144) :
    shapeCast S8x1x6144 s shapeCasts_S8x6144_S8x1x6144 (ix3 b 0 d) = s (ix2 b d) := by
  pointwise

/-! The grid's position for the block `i` of the batch's entry `b`. -/
def pos (b : Fin 8) (i : Fin 4) : Fin cfg0.N := ⟨b.val * 4 + i.val, by rw [show cfg0.N = 32 from N_0]; omega⟩

/-- The token `p` of the block `i`. -/
def place (i : Fin 4) (p : Fin 512) : Fin 2048 := ⟨i.val * 512 + p.val, by omega⟩

theorem idx0 (b : Fin 8) (i : Fin 4) : win0_0.index (pos b i) 0 = b.val * 4 + i.val ∧ win0_0.index (pos b i) 1 = 0 := by
  revert b i; decide +kernel
theorem idx1 (b : Fin 8) (i : Fin 4) : win0_1.index (pos b i) 0 = b.val ∧ win0_1.index (pos b i) 1 = 0 ∧ win0_1.index (pos b i) 2 = 0 := by
  revert b i; decide +kernel
theorem idx23 (b : Fin 8) (i : Fin 4) : (win0_2.index (pos b i) 0 = 0 ∧ win0_2.index (pos b i) 1 = 0) ∧ win0_3.index (pos b i) 0 = 0 ∧ win0_3.index (pos b i) 1 = 0 := by
  revert b i; decide +kernel
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)

variable (c : Dev nD) (b : Fin 8) (i : Fin 4)

theorem iblk0_apply (p : Fin 512) (d : Fin 1024) : (iblk m c 0 (pos b i) : Vec Ideal S512x1024 .f32) (ix2 p d) = argX m c (ix3 b (place i p) d) := by
  unfold iblk
  rw [View.read_apply]
  show V m c main_v4 _ = _
  rw [V_v4]
  refine Eq.trans ?_ (v4_apply (argX m c) b (place i p) d)
  congr 1
  obtain ⟨h0, h1⟩ := idx0 b i
  funext y
  apply Fin.ext
  match y with
  | 0 => show win0_0.index (pos b i) 0 * 512 + 1 * p.val = _; rw [h0]; show _ = b.val * 2048 + (i.val * 512 + p.val); omega
  | 1 => show win0_0.index (pos b i) 1 * 1024 + 1 * d.val = _; rw [h1]; show _ = d.val; omega

theorem iblk1_apply (d : Fin 6144) : (iblk m c 1 (pos b i) : Vec Ideal S1x1x6144 .f32) (ix3 0 0 d) = argS m c (ix2 b d) := by
  unfold iblk
  rw [View.read_apply]
  show V m c main_v5 _ = _
  rw [V_v5]
  refine Eq.trans ?_ (v5_apply (argS m c) b d)
  congr 1
  obtain ⟨h0, h1, h2⟩ := idx1 b i
  funext y
  apply Fin.ext
  match y with
  | 0 => show win0_1.index (pos b i) 0 * 1 + 1 * 0 = _; rw [h0]; show _ = b.val; omega
  | 1 => show win0_1.index (pos b i) 1 * 1 + 1 * 0 = _; rw [h1]; rfl
  | 2 => show win0_1.index (pos b i) 2 * 6144 + 1 * d.val = _; rw [h2]; show _ = d.val; omega

theorem iblk2_apply (k : Fin 4) (d : Fin 1024) : (iblk m c 2 (pos b i) : Vec Ideal S4x1024 .f32) (ix2 k d) = argG m c (ix3 0 k d) := by
  unfold iblk
  rw [View.read_apply]
  show V m c main_v1 _ = _
  rw [V_v1]
  refine Eq.trans ?_ (v1_apply (argG m c) k d)
  congr 1
  obtain ⟨⟨h0, h1⟩, -⟩ := idx23 b i
  funext y
  apply Fin.ext
  match y with
  | 0 => show win0_2.index (pos b i) 0 * 4 + 1 * k.val = _; rw [h0]; show _ = k.val; omega
  | 1 => show win0_2.index (pos b i) 1 * 1024 + 1 * d.val = _; rw [h1]; show _ = d.val; omega

theorem iblk3_apply (e : Fin 1024) (a : Fin 1536) : (iblk m c 3 (pos b i) : Vec Ideal S1024x1536 .bf16) (ix2 e a) = argW m c (ix3 0 e a) := by
  unfold iblk
  rw [View.read_apply]
  show V m c main_v3 _ = _
  rw [V_v3]
  refine Eq.trans ?_ (v3_apply (argW m c) e a)
  congr 1
  obtain ⟨-, h0, h1⟩ := idx23 b i
  funext y
  apply Fin.ext
  match y with
  | 0 => show win0_3.index (pos b i) 0 * 1024 + 1 * e.val = _; rw [h0]; show _ = e.val; omega
  | 1 => show win0_3.index (pos b i) 1 * 1536 + 1 * a.val = _; rw [h1]; show _ = a.val; omega

/-- A block's projection, in terms of the arguments. -/
theorem proj_block_eq (p : Fin 512) (a : Fin 1536) : proj_block p (iblk m c 0 (pos b i)) (iblk m c 1 (pos b i)) (iblk m c 2 (pos b i)) (iblk m c 3 (pos b i)) a
    = proj (fun d => argX m c (ix3 b (place i p) d)) (fun d => argG m c (ix3 0 0 d)) (fun d => argS m c (ix2 b ⟨1 * 1024 + d.val, by omega⟩))
        (fun d => argS m c (ix2 b ⟨0 * 1024 + d.val, by omega⟩)) (fun e a => argW m c (ix3 0 e a)) a :=
  congr_proj (iblk0_apply m c b i p) (iblk2_apply m c b i 0) (fun d => iblk1_apply m c b i ⟨1 * 1024 + d.val, by omega⟩)
    (fun d => iblk1_apply m c b i ⟨0 * 1024 + d.val, by omega⟩) (iblk3_apply m c b i) a

/-- The grid position that writes row `x`. -/
def posOf (x : ℕ) (hx : x < 16384) : Fin cfg0.N := ⟨x / 512, by rw [show cfg0.N = 32 from N_0]; omega⟩

/-! The queries: what the body leaves in a block, and the array. -/
def queryAt (t : Fin cfg0.N) : FVec Ideal S512x1024 .bf16 :=
  out0_4 (iblk m c 0 t) (iblk m c 1 t) (iblk m c 2 t) (iblk m c 3 t)

def queryArray : FVec Ideal S16384x1024 .bf16 := fun y =>
  queryAt m c (posOf (y 0).val (y 0).isLt) (ix2 ⟨(y 0).val % 512, Nat.mod_lt _ (by decide)⟩ ⟨(y 1).val, (y 1).isLt⟩)

theorem queryArray_at (t : Fin cfg0.N) (y : S512x1024.Idx) (z : S16384x1024.Idx) (h0 : (z 0).val = t.val * 512 + (y 0).val) (h1 : (z 1).val = (y 1).val) :
    queryArray m c z = queryAt m c t y := by
  have y0 : (y 0).val < 512 := (y 0).isLt
  unfold queryArray
  have e : posOf (z 0).val (z 0).isLt = t := Fin.ext (by
    show (z 0).val / 512 = t.val
    omega)
  rw [e]
  congr 1
  funext a
  apply Fin.ext
  match a with
  | 0 => show (z 0).val % 512 = (y 0).val; omega
  | 1 => exact h1

theorem query_cut (t : Fin cfg0.N) (X : FVec Ideal S512x1024 .bf16) : (cfg0.win 4).cut (grid0.coords t) X = X := rfl

theorem query_read (t : Fin cfg0.N) (G : FVec Ideal S16384x1024 .bf16) (X : FVec Ideal S512x1024 .bf16)
    (h : ∀ (y : S512x1024.Idx) (z : S16384x1024.Idx), (z 0).val = t.val * 512 + (y 0).val → (z 1).val = (y 1).val → G z = X y) :
    ((cfg0.win 4).blk t).view.read (Elt Ideal) G = X := by
  obtain ⟨h0, h1⟩ := idx4 t
  funext y
  rw [View.read_apply]
  refine h y (((cfg0.win 4).blk t).view.emb y) ?_ ?_
  · show win0_4.index t 0 * 512 + 1 * (y 0).val = _; rw [h0]; omega
  · show win0_4.index t 1 * 1024 + 1 * (y 1).val = _; rw [h1]; omega

theorem query_flushed (t : Fin cfg0.N) : (dats m 0 c).flushed 4 t = queryAt m c t :=
  (Cert.Kernel3Ideal.Value.flushed4 m c t).trans (query_cut t (queryAt m c t))

theorem query_eq (t : Fin cfg0.N) (_ : (cfg0.win 4).flush t = true) :
    (dats m 0 c).flushed 4 t = ((cfg0.win 4).blk t).view.read (Elt Ideal) (queryArray m c) :=
  (query_flushed m c t).trans (query_read t (queryArray m c) (queryAt m c t) (queryArray_at m c t)).symm

theorem query_final : (dats m 0 c).arrAt 4 cfg0.N = queryArray m c :=
  (dats m 0 c).arrAt_eq_of_cover 4 (queryArray m c) (query_eq m c) fun i => by
    have i0 : (i 0 : ℕ) < 16384 := (i 0).isLt
    have i1 : (i 1 : ℕ) < 1024 := (i 1).isLt
    refine ⟨posOf (i 0).val i0, flush0_4 _, ?_⟩
    show i ∈ ((View.whole main_v6_0).slice (win0_4.rect (posOf (i 0).val i0))).set
    rw [View.set_slice_whole, Rect.mem_set_unit]
    obtain ⟨h0, h1⟩ := idx4 (posOf (i 0).val i0)
    have hp : (posOf (i 0).val i0).val = (i 0).val / 512 := rfl
    intro a
    match a with
    | ⟨0, _⟩ =>
      show win0_4.index (posOf (i 0).val i0) 0 * 512 ≤ (i 0 : ℕ) ∧ (i 0 : ℕ) < win0_4.index (posOf (i 0).val i0) 0 * 512 + 512
      rw [h0, hp]; omega
    | ⟨1, _⟩ =>
      show win0_4.index (posOf (i 0).val i0) 1 * 1024 ≤ (i 1 : ℕ) ∧ (i 1 : ℕ) < win0_4.index (posOf (i 0).val i0) 1 * 1024 + 1024
      rw [h1]; omega

/-! The keys. -/
def keyAt (t : Fin cfg0.N) : FVec Ideal S512x256 .f32 :=
  out0_5 (iblk m c 0 t) (iblk m c 1 t) (iblk m c 2 t) (iblk m c 3 t)

def keyArray : FVec Ideal S16384x256 .f32 := fun y =>
  keyAt m c (posOf (y 0).val (y 0).isLt) (ix2 ⟨(y 0).val % 512, Nat.mod_lt _ (by decide)⟩ ⟨(y 1).val, (y 1).isLt⟩)

theorem keyArray_at (t : Fin cfg0.N) (y : S512x256.Idx) (z : S16384x256.Idx) (h0 : (z 0).val = t.val * 512 + (y 0).val) (h1 : (z 1).val = (y 1).val) :
    keyArray m c z = keyAt m c t y := by
  have y0 : (y 0).val < 512 := (y 0).isLt
  unfold keyArray
  have e : posOf (z 0).val (z 0).isLt = t := Fin.ext (by
    show (z 0).val / 512 = t.val
    omega)
  rw [e]
  congr 1
  funext a
  apply Fin.ext
  match a with
  | 0 => show (z 0).val % 512 = (y 0).val; omega
  | 1 => exact h1

theorem key_cut (t : Fin cfg0.N) (X : FVec Ideal S512x256 .f32) : (cfg0.win 5).cut (grid0.coords t) X = X := rfl

theorem key_read (t : Fin cfg0.N) (G : FVec Ideal S16384x256 .f32) (X : FVec Ideal S512x256 .f32)
    (h : ∀ (y : S512x256.Idx) (z : S16384x256.Idx), (z 0).val = t.val * 512 + (y 0).val → (z 1).val = (y 1).val → G z = X y) :
    ((cfg0.win 5).blk t).view.read (Elt Ideal) G = X := by
  obtain ⟨h0, h1⟩ := idx5 t
  funext y
  rw [View.read_apply]
  refine h y (((cfg0.win 5).blk t).view.emb y) ?_ ?_
  · show win0_5.index t 0 * 512 + 1 * (y 0).val = _; rw [h0]; omega
  · show win0_5.index t 1 * 256 + 1 * (y 1).val = _; rw [h1]; omega

theorem key_flushed (t : Fin cfg0.N) : (dats m 0 c).flushed 5 t = keyAt m c t :=
  (Cert.Kernel3Ideal.Value.flushed5 m c t).trans (key_cut t (keyAt m c t))

theorem key_eq (t : Fin cfg0.N) (_ : (cfg0.win 5).flush t = true) :
    (dats m 0 c).flushed 5 t = ((cfg0.win 5).blk t).view.read (Elt Ideal) (keyArray m c) :=
  (key_flushed m c t).trans (key_read t (keyArray m c) (keyAt m c t) (keyArray_at m c t)).symm

theorem key_final : (dats m 0 c).arrAt 5 cfg0.N = keyArray m c :=
  (dats m 0 c).arrAt_eq_of_cover 5 (keyArray m c) (key_eq m c) fun i => by
    have i0 : (i 0 : ℕ) < 16384 := (i 0).isLt
    have i1 : (i 1 : ℕ) < 256 := (i 1).isLt
    refine ⟨posOf (i 0).val i0, flush0_5 _, ?_⟩
    show i ∈ ((View.whole main_v6_1).slice (win0_5.rect (posOf (i 0).val i0))).set
    rw [View.set_slice_whole, Rect.mem_set_unit]
    obtain ⟨h0, h1⟩ := idx5 (posOf (i 0).val i0)
    have hp : (posOf (i 0).val i0).val = (i 0).val / 512 := rfl
    intro a
    match a with
    | ⟨0, _⟩ =>
      show win0_5.index (posOf (i 0).val i0) 0 * 512 ≤ (i 0 : ℕ) ∧ (i 0 : ℕ) < win0_5.index (posOf (i 0).val i0) 0 * 512 + 512
      rw [h0, hp]; omega
    | ⟨1, _⟩ =>
      show win0_5.index (posOf (i 0).val i0) 1 * 256 ≤ (i 1 : ℕ) ∧ (i 1 : ℕ) < win0_5.index (posOf (i 0).val i0) 1 * 256 + 256
      rw [h1]; omega

/-! The values. -/
def valueAt (t : Fin cfg0.N) : FVec Ideal S512x256 .f32 :=
  out0_6 (iblk m c 0 t) (iblk m c 1 t) (iblk m c 2 t) (iblk m c 3 t)

def valueArray : FVec Ideal S16384x256 .f32 := fun y =>
  valueAt m c (posOf (y 0).val (y 0).isLt) (ix2 ⟨(y 0).val % 512, Nat.mod_lt _ (by decide)⟩ ⟨(y 1).val, (y 1).isLt⟩)

theorem valueArray_at (t : Fin cfg0.N) (y : S512x256.Idx) (z : S16384x256.Idx) (h0 : (z 0).val = t.val * 512 + (y 0).val) (h1 : (z 1).val = (y 1).val) :
    valueArray m c z = valueAt m c t y := by
  have y0 : (y 0).val < 512 := (y 0).isLt
  unfold valueArray
  have e : posOf (z 0).val (z 0).isLt = t := Fin.ext (by
    show (z 0).val / 512 = t.val
    omega)
  rw [e]
  congr 1
  funext a
  apply Fin.ext
  match a with
  | 0 => show (z 0).val % 512 = (y 0).val; omega
  | 1 => exact h1

theorem value_cut (t : Fin cfg0.N) (X : FVec Ideal S512x256 .f32) : (cfg0.win 6).cut (grid0.coords t) X = X := rfl

theorem value_read (t : Fin cfg0.N) (G : FVec Ideal S16384x256 .f32) (X : FVec Ideal S512x256 .f32)
    (h : ∀ (y : S512x256.Idx) (z : S16384x256.Idx), (z 0).val = t.val * 512 + (y 0).val → (z 1).val = (y 1).val → G z = X y) :
    ((cfg0.win 6).blk t).view.read (Elt Ideal) G = X := by
  obtain ⟨h0, h1⟩ := idx6 t
  funext y
  rw [View.read_apply]
  refine h y (((cfg0.win 6).blk t).view.emb y) ?_ ?_
  · show win0_6.index t 0 * 512 + 1 * (y 0).val = _; rw [h0]; omega
  · show win0_6.index t 1 * 256 + 1 * (y 1).val = _; rw [h1]; omega

theorem value_flushed (t : Fin cfg0.N) : (dats m 0 c).flushed 6 t = valueAt m c t :=
  (Cert.Kernel3Ideal.Value.flushed6 m c t).trans (value_cut t (valueAt m c t))

theorem value_eq (t : Fin cfg0.N) (_ : (cfg0.win 6).flush t = true) :
    (dats m 0 c).flushed 6 t = ((cfg0.win 6).blk t).view.read (Elt Ideal) (valueArray m c) :=
  (value_flushed m c t).trans (value_read t (valueArray m c) (valueAt m c t) (valueArray_at m c t)).symm

theorem value_final : (dats m 0 c).arrAt 6 cfg0.N = valueArray m c :=
  (dats m 0 c).arrAt_eq_of_cover 6 (valueArray m c) (value_eq m c) fun i => by
    have i0 : (i 0 : ℕ) < 16384 := (i 0).isLt
    have i1 : (i 1 : ℕ) < 256 := (i 1).isLt
    refine ⟨posOf (i 0).val i0, flush0_6 _, ?_⟩
    show i ∈ ((View.whole main_v6_2).slice (win0_6.rect (posOf (i 0).val i0))).set
    rw [View.set_slice_whole, Rect.mem_set_unit]
    obtain ⟨h0, h1⟩ := idx6 (posOf (i 0).val i0)
    have hp : (posOf (i 0).val i0).val = (i 0).val / 512 := rfl
    intro a
    match a with
    | ⟨0, _⟩ =>
      show win0_6.index (posOf (i 0).val i0) 0 * 512 ≤ (i 0 : ℕ) ∧ (i 0 : ℕ) < win0_6.index (posOf (i 0).val i0) 0 * 512 + 512
      rw [h0, hp]; omega
    | ⟨1, _⟩ =>
      show win0_6.index (posOf (i 0).val i0) 1 * 256 ≤ (i 1 : ℕ) ∧ (i 1 : ℕ) < win0_6.index (posOf (i 0).val i0) 1 * 256 + 256
      rw [h1]; omega

end Cert.Kernel3Ideal.Project
-- ==== Proof.Project.Reference.lean ====
/-
  The reference's projection read at an element: the normalised and modulated token, and the three parts of its product with the weights.
-/
module

public import proofs.«01_k».proof.Proof.Project.Body
public import proofs.«01_k».proof.Proof.Gen.Reference3Ideal.Read

@[expose] public section

set_option maxRecDepth 16384

noncomputable section

namespace Cert.Reference3Ideal.Project

open Idealize.ShloMosaic Cert.Reference3Ideal Cert.Reference3Ideal.Read Cert.Reference3Ideal.Gen
open Cert.Feed

variable (x : FVec Ideal S8x2048x1024 .f32) (s : FVec Ideal S8x6144 .f32) (g : FVec Ideal S2x4x1024 .f32) (w : FVec Ideal S1x1024x1536 .f32)
variable (b : Fin 8) (n : Fin 2048) (d : Fin 1024)

/-- The sixth `k` of the modulation of the batch's entry `b`. -/
def sixth (k : Fin 6) (d : Fin 1024) : EReal := s (ix2 b ⟨k.val * 1024 + d.val, by omega⟩)

/-- One token's projection. -/
def row (a : Fin 1536) : EReal := proj (fun d => x (ix3 b n d)) (fun d => g (ix3 0 0 d)) (sixth s b 1) (sixth s b 0) (fun e a => w (ix3 0 e a)) a

theorem zero_bits : (FloatOps.ofBits (F := Ideal) .f32 0x00000000#32 : EReal) = 0 := by simp

theorem square_at : val_main_v15 (F := Ideal) x (ix2 b n) = ∑ e, x (ix3 b n e) * x (ix3 b n e) := by
  rw [val_main_v15_apply, val_main_cst_apply, zero_bits, zero_add]
  refine Finset.sum_congr rfl fun e _ => ?_
  rw [val_main_v14_apply]
  have e' : idx_main_v15 (ix2 b n) e = ix3 b n e := funext fun a => by fin_cases a <;> rfl
  rw [e']
  rfl

theorem input_at : val_main_v32 (F := Ideal) x s g (ix3 b n d)
    = inner (fun d => x (ix3 b n d)) (fun d => g (ix3 0 0 d)) (sixth s b 1) (sixth s b 0) d := by
  have h := square_at x b n
  unfold val_main_v32 val_main_v31 val_main_v30 val_main_v29 val_main_v28 val_main_v27 val_main_cst_2 val_main_v26 val_main_v25 val_main_v24 val_main_v23 val_main_v22
    val_main_v21 val_main_v20 val_main_v19 val_main_cst_1 val_main_v18 val_main_v17 val_main_cst_0 val_main_v16 val_main_v13 val_main_v12 val_main_v7 val_main_v6 val_main_v1 val_main_v0
  generalize val_main_v15 (F := Ideal) x = y at h ⊢
  pointwise
  rw [h]
  have e0 : sixth s b 0 d = s (ix2 b ⟨d.val, by omega⟩) := congrArg (fun i => s (ix2 b i)) (Fin.ext (by show 0 * 1024 + d.val = d.val; omega))
  unfold Cert.Feed.inner
  rw [e0]
  rfl

theorem row_at (a : Fin 1536) : val_main_v34 (F := Ideal) x s g w (ix3 b n a) = row x s g w b n a := by
  have h : ∀ e a, val_main_v33 (F := Ideal) w (ix2 e a) = w (ix3 0 e a) := fun e a => by pointwise [val_main_v33]
  rw [val_main_v34_apply]
  unfold row proj
  refine Finset.sum_congr rfl fun e _ => ?_
  show _ = _ * w (ix3 0 e a)
  rw [← h, ← input_at]
  exact congrArg₂ (· * ·) (congrArg _ (funext fun a => by fin_cases a <;> rfl)) (congrArg _ (funext fun a => by fin_cases a <;> rfl))

variable (r : Fin 16384) (hr : r.val = b.val * 2048 + n.val) (a : Fin 256)

include hr

theorem query_at : val_main_v39 (F := Ideal) x s g w (ix2 r d) = row x s g w b n ⟨d.val, by omega⟩ * eighth := by
  rw [val_main_v39_apply, val_main_v38_apply]
  have e : idx_main_v38 (ix2 r d) = ix3 b n d := funext fun a => Fin.ext (by
    match a with
    | 0 => show (r.val * 1024 + d.val) / 2097152 = b.val; omega
    | 1 => show (r.val * 1024 + d.val) / 1024 % 2048 = n.val; omega
    | 2 => show (r.val * 1024 + d.val) % 1024 = d.val; omega)
  have h := row_at x s g w b n ⟨d.val, by omega⟩
  rw [e]
  show val_main_v37 (F := Ideal) x s g w (ix3 b n d) = _
  unfold val_main_v37 val_main_v36 val_main_v35 val_main_cst_3
  generalize val_main_v34 (F := Ideal) x s g w = y at h ⊢
  pointwise
  rw [← h]
  rfl

theorem key_at : val_main_v41 (F := Ideal) x s g w (ix2 r a) = row x s g w b n ⟨1024 + a.val, by omega⟩ := by
  rw [val_main_v41_apply, val_main_v40_apply, ← row_at]
  refine congrArg _ (funext fun i => Fin.ext ?_)
  match i with
  | 0 => show (r.val * 256 + a.val) / 524288 = b.val; omega
  | 1 => show (r.val * 256 + a.val) / 256 % 2048 = n.val; omega
  | 2 => show 1024 + (r.val * 256 + a.val) % 256 = 1024 + a.val; omega

theorem value_at : val_main_v43 (F := Ideal) x s g w (ix2 r a) = row x s g w b n ⟨1280 + a.val, by omega⟩ := by
  rw [val_main_v43_apply, val_main_v42_apply, ← row_at]
  refine congrArg _ (funext fun i => Fin.ext ?_)
  match i with
  | 0 => show (r.val * 256 + a.val) / 524288 = b.val; omega
  | 1 => show (r.val * 256 + a.val) / 256 % 2048 = n.val; omega
  | 2 => show 1280 + (r.val * 256 + a.val) % 256 = 1280 + a.val; omega

end Cert.Reference3Ideal.Project
-- ==== Proof.Project.Equal.lean ====
/-
  The projection of the windowed layer: the two programs end with equal results.
-/
module

public import proofs.«01_k».proof.Defs
public import proofs.«01_k».proof.Proof.Gen.Reference3Ideal.Run
public import proofs.«01_k».proof.Proof.Project.Array
public import proofs.«01_k».proof.Proof.Project.Reference

@[expose] public section

set_option maxRecDepth 16384

noncomputable section

namespace Cert.Project

open Idealize.ShloMosaic Idealize.ShloMosaic.TcCoe Idealize.SL.Sem Cert.Kernel3Ideal.Project Cert.Kernel3Ideal.Gen

variable (m : (ℓ : Loc Cert.Kernel3Ideal.nD Cert.Kernel3Ideal.τ Cert.Kernel3Ideal.sig) → Buf (Elt Ideal) ℓ) (c : Dev Cert.Kernel3Ideal.nD)

theorem query_at_eq (x : Fin 16384) (d : Fin 1024) :
    queryArray m c (ix2 x d) = Cert.Reference3Ideal.Read.val_main_v39 (F := Ideal) (argX m c) (argS m c) (argG m c) (argW m c) (ix2 x d) := by
  let b : Fin 8 := ⟨x.val / 2048, by omega⟩
  let i : Fin 4 := ⟨x.val % 2048 / 512, by omega⟩
  let p : Fin 512 := ⟨x.val % 512, by omega⟩
  have h0 : x.val = (x.val / 2048 * 4 + x.val % 2048 / 512) * 512 + x.val % 512 := by omega
  have h1 : x.val = x.val / 2048 * 2048 + (x.val % 2048 / 512 * 512 + x.val % 512) := by omega
  rw [queryArray_at m c (pos b i) (ix2 p d) (ix2 x d) h0 rfl, Cert.Reference3Ideal.Project.query_at _ _ _ _ b (place i p) d x h1]
  unfold queryAt
  rw [Cert.Kernel3Ideal.Project.query_at, proj_block_eq]
  rfl

theorem query_eq_reference :
    queryArray m c = Cert.Reference3Ideal.Read.val_main_v39 (F := Ideal) (argX m c) (argS m c) (argG m c) (argW m c) := by
  funext z
  have hz : z = ix2 (z 0) (z 1) := funext fun a => by fin_cases a <;> rfl
  exact (congrArg _ hz).trans ((query_at_eq m c (z 0) (z 1)).trans (congrArg _ hz.symm))

theorem key_at_eq (x : Fin 16384) (d : Fin 256) :
    keyArray m c (ix2 x d) = Cert.Reference3Ideal.Read.val_main_v41 (F := Ideal) (argX m c) (argS m c) (argG m c) (argW m c) (ix2 x d) := by
  let b : Fin 8 := ⟨x.val / 2048, by omega⟩
  let i : Fin 4 := ⟨x.val % 2048 / 512, by omega⟩
  let p : Fin 512 := ⟨x.val % 512, by omega⟩
  have h0 : x.val = (x.val / 2048 * 4 + x.val % 2048 / 512) * 512 + x.val % 512 := by omega
  have h1 : x.val = x.val / 2048 * 2048 + (x.val % 2048 / 512 * 512 + x.val % 512) := by omega
  rw [keyArray_at m c (pos b i) (ix2 p d) (ix2 x d) h0 rfl, Cert.Reference3Ideal.Project.key_at _ _ _ _ b (place i p) x h1 d]
  unfold keyAt
  rw [Cert.Kernel3Ideal.Project.key_at, proj_block_eq]
  rfl

theorem key_eq_reference :
    keyArray m c = Cert.Reference3Ideal.Read.val_main_v41 (F := Ideal) (argX m c) (argS m c) (argG m c) (argW m c) := by
  funext z
  have hz : z = ix2 (z 0) (z 1) := funext fun a => by fin_cases a <;> rfl
  exact (congrArg _ hz).trans ((key_at_eq m c (z 0) (z 1)).trans (congrArg _ hz.symm))

theorem value_at_eq (x : Fin 16384) (d : Fin 256) :
    valueArray m c (ix2 x d) = Cert.Reference3Ideal.Read.val_main_v43 (F := Ideal) (argX m c) (argS m c) (argG m c) (argW m c) (ix2 x d) := by
  let b : Fin 8 := ⟨x.val / 2048, by omega⟩
  let i : Fin 4 := ⟨x.val % 2048 / 512, by omega⟩
  let p : Fin 512 := ⟨x.val % 512, by omega⟩
  have h0 : x.val = (x.val / 2048 * 4 + x.val % 2048 / 512) * 512 + x.val % 512 := by omega
  have h1 : x.val = x.val / 2048 * 2048 + (x.val % 2048 / 512 * 512 + x.val % 512) := by omega
  rw [valueArray_at m c (pos b i) (ix2 p d) (ix2 x d) h0 rfl, Cert.Reference3Ideal.Project.value_at _ _ _ _ b (place i p) x h1 d]
  unfold valueAt
  rw [Cert.Kernel3Ideal.Project.value_at, proj_block_eq]
  rfl

theorem value_eq_reference :
    valueArray m c = Cert.Reference3Ideal.Read.val_main_v43 (F := Ideal) (argX m c) (argS m c) (argG m c) (argW m c) := by
  funext z
  have hz : z = ix2 (z 0) (z 1) := funext fun a => by fin_cases a <;> rfl
  exact (congrArg _ hz).trans ((value_at_eq m c (z 0) (z 1)).trans (congrArg _ hz.symm))

/-- From equal arguments both runs end with these three arrays. -/
theorem algebraic : Cert.algebraic_Kernel3Ideal_Reference3Ideal :=
  fun m g m' g' _ hargs => by
    refine ⟨fun c => queryArray m c, fun c => keyArray m c, fun c => valueArray m c,
      (θ_run Cert.Kernel3Ideal.defs _ _).mono (fun r h c => ⟨(h c).1.trans (query_final m c), (h c).2.1.trans (key_final m c), (h c).2.2.1.trans (value_final m c), (h c).2.2.2⟩)
        (Cert.Kernel3Ideal.Value.run_blocks m g), ?_⟩
    refine (θ_run Cert.Reference3Ideal.defs _ _).mono (fun r h c => ⟨(h c).1.trans ?_, (h c).2.1.trans ?_, (h c).2.2.1.trans ?_, (h c).2.2.2⟩)
      (Cert.Reference3Ideal.Value.run (F := Ideal) m' g')
    all_goals obtain ⟨h0, h1, h2, h3⟩ := hargs c
    · refine Eq.trans ?_ (query_eq_reference m c).symm
      rw [Cert.Reference3Ideal.Read.val_main_v39_eq, h0, h1, h2, h3]
    · refine Eq.trans ?_ (key_eq_reference m c).symm
      rw [Cert.Reference3Ideal.Read.val_main_v41_eq, h0, h1, h2, h3]
    · refine Eq.trans ?_ (value_eq_reference m c).symm
      rw [Cert.Reference3Ideal.Read.val_main_v43_eq, h0, h1, h2, h3]

end Cert.Project
-- ==== Proof.Sample.Body.lean ====
/-
  What the body leaves in the output's block of the samples, read at an element.
-/
module

public import proofs.«01_k».proof.Proof.Feed.Model
public import proofs.«01_k».proof.Proof.Gen.Kernel4Ideal.Frame
public import Idealize.ShloMosaic.Lib.Pipeline.Value

@[expose] public section

set_option maxRecDepth 16384
set_option maxHeartbeats 1000000

noncomputable section

namespace Cert.Kernel4Ideal.Sample

open Idealize.ShloMosaic Idealize.SL.Sem
open Cert.Kernel4Ideal Cert.Kernel4Ideal.Gen Cert.Feed

/-- A chunk's share of the feed-forward's output. -/
def chunk (h : FVec Ideal S128x1024 .bf16) (A B : Vec Ideal S1x1024x256 .bf16) (D : Vec Ideal S1x256x1024 .bf16) (p : Fin 128) (d : Fin 1024) : EReal :=
  ∑ f : Fin 256, unit (fun e => h (ix2 p e)) (fun e => A (ix3 0 e f)) (fun e => B (ix3 0 e f)) * D (ix3 0 f d)

variable (h : FVec Ideal S128x1024 .bf16) (acc : FVec Ideal S128x1024 .f32) (A B A' B' : Vec Ideal S1x1024x256 .bf16) (D D' : Vec Ideal S1x256x1024 .bf16)
variable (p : Fin 128) (d : Fin 1024)

theorem pay8_at (s c x : FVec Ideal S128x1024 .f32) (g : FVec Ideal S1x1024 .f32) :
    k0_pay8 s c x g A B D (ix2 p d) = chunk (k0_pay7 s c x g) A B D p d := by
  unfold k0_pay8
  generalize k0_pay7 s c x g = h
  pointwise
  try rw [zero_add]
  rfl

theorem pay10_at : k0_pay10 h acc (k0_pay9 A) B D A' B' D' (ix2 p d)
    = acc (ix2 p d) + chunk h A B D p d + chunk h A' B' D' p d := by
  pointwise [k0_pay10, k0_pay9]
  rfl

theorem pay11_at : k0_pay11 h acc A B D (ix2 p d) = acc (ix2 p d) + chunk h A B D p d := by
  pointwise [k0_pay11]
  rfl

theorem pay14_at : k0_pay14 h acc (k0_pay12 h A B) (k0_pay13 D) A' B' D' (ix2 p d)
    = acc (ix2 p d) + chunk h A B D p d + chunk h A' B' D' p d := by
  pointwise [k0_pay14, k0_pay12, k0_pay13]
  rfl

theorem pay16_at : k0_pay16 h acc (k0_pay15 h A B) D A' B' D' (ix2 p d)
    = acc (ix2 p d) + chunk h A B D p d + chunk h A' B' D' p d := by
  pointwise [k0_pay16, k0_pay15]
  rfl

theorem pay20_at : k0_pay20 h acc (k0_pay17 h A) (k0_pay18 h B) (k0_pay19 h A) D A' B' D' (ix2 p d)
    = acc (ix2 p d) + chunk h A B D p d + chunk h A' B' D' p d := by
  pointwise [k0_pay20, k0_pay17, k0_pay18, k0_pay19]
  rfl

theorem pay1_at (gate : Vec Ideal S1x128x1024 .f32) (x : FVec Ideal S128x1024 .f32) (g : Vec Ideal S1x1024 .f32) :
    k0_pay1 (k0_pay4 gate) x acc (k0_pay21 h A) (k0_pay22 h B) (k0_pay23 h A) D g (ix2 p d)
      = x (ix2 p d) + gate (ix3 0 p d) * rms (fun d => acc (ix2 p d) + chunk h A B D p d) (fun d => g (ix2 0 d)) d := by
  pointwise [k0_pay1, k0_pay4, k0_pay21, k0_pay22, k0_pay23]
  rfl

theorem pay5_at (gate : Vec Ideal S1x128x1024 .f32) (o : Vec Ideal S128x1024 .bf16) (w : Vec Ideal S1024x1024 .bf16) (x : Vec Ideal S128x1024 .f32) (g : Vec Ideal S1x1024 .f32) :
    k0_pay5 gate o w x g (ix2 p d)
      = mixed (fun e => o (ix2 p e)) (fun d => x (ix2 p d)) (fun d => gate (ix3 0 p d)) (fun d => g (ix2 0 d)) (fun e d => w (ix2 e d)) d := by
  pointwise [k0_pay5]
  rfl

theorem pay7_at (s c : Vec Ideal S1x128x1024 .f32) (x : FVec Ideal S128x1024 .f32) (g : Vec Ideal S1x1024 .f32) :
    k0_pay7 (k0_pay2 s) (k0_pay3 c) x (k0_pay6 g) (ix2 p d)
      = inner (fun d => x (ix2 p d)) (fun d => g (ix2 0 d)) (fun d => c (ix3 0 p d)) (fun d => s (ix3 0 p d)) d := by
  pointwise [k0_pay7, k0_pay2, k0_pay3, k0_pay6]
  rfl

/-! The loads: a block of columns, a block of rows, one row, a sixth of the modulation. -/
theorem cols_at (w : Vec Ideal S1x1024x5632 .bf16) (n : ℕ) (hn) (e : Fin 1024) (f : Fin 256) (x : Fin 5632) (hx : x.val = n + f.val) :
    View.ld w (Rect.unit (s := S1x1024x5632) ![0, 0, n] S1x1024x256.size hn) (ix3 0 e f) = w (ix3 0 e x) :=
  congrArg w (funext fun a => Fin.ext (by
    match a with
    | 0 => show 0 + 1 * 0 = 0; rfl
    | 1 => show 0 + 1 * e.val = e.val; omega
    | 2 => show n + 1 * f.val = x.val; omega))

theorem rows_at (v : Vec Ideal S1x2816x1024 .bf16) (n : ℕ) (hn) (f : Fin 256) (d : Fin 1024) (x : Fin 2816) (hx : x.val = n + f.val) :
    View.ld v (Rect.unit (s := S1x2816x1024) ![0, n, 0] S1x256x1024.size hn) (ix3 0 f d) = v (ix3 0 x d) :=
  congrArg v (funext fun a => Fin.ext (by
    match a with
    | 0 => show 0 + 1 * 0 = 0; rfl
    | 1 => show n + 1 * f.val = x.val; omega
    | 2 => show 0 + 1 * d.val = d.val; omega))

theorem gain_at (g : Vec Ideal S4x1024 .f32) (n : ℕ) (hn) (d : Fin 1024) (x : Fin 4) (hx : x.val = n) :
    View.ld g (Rect.unit (s := S4x1024) ![n, 0] S1x1024.size hn) (ix2 0 d) = g (ix2 x d) :=
  congrArg g (funext fun a => Fin.ext (by
    match a with
    | 0 => show n + 1 * 0 = x.val; omega
    | 1 => show 0 + 1 * d.val = d.val; omega))

theorem part_at (s : Vec Ideal S1x128x6144 .f32) (n : ℕ) (hn) (p : Fin 128) (d : Fin 1024) (x : Fin 6144) (hx : x.val = n + d.val) :
    View.ld s (Rect.unit (s := S1x128x6144) ![0, 0, n] S1x128x1024.size hn) (ix3 0 p d) = s (ix3 0 p x) :=
  congrArg s (funext fun a => Fin.ext (by
    match a with
    | 0 => show 0 + 1 * 0 = 0; rfl
    | 1 => show 0 + 1 * p.val = p.val; omega
    | 2 => show n + 1 * d.val = x.val; omega))

theorem block_at {e : EltTy} (x : Vec Ideal S128x1024 e) (p : Fin 128) (d : Fin 1024) : View.ld x r0_4 (ix2 p d) = x (ix2 p d) :=
  congrArg x (funext fun a => Fin.ext (by
    match a with
    | 0 => show 0 + 1 * p.val = p.val; omega
    | 1 => show 0 + 1 * d.val = d.val; omega))

theorem square_at (x : Vec Ideal S1024x1024 .bf16) (p d : Fin 1024) : View.ld x r0_5 (ix2 p d) = x (ix2 p d) :=
  congrArg x (funext fun a => Fin.ext (by
    match a with
    | 0 => show 0 + 1 * p.val = p.val; omega
    | 1 => show 0 + 1 * d.val = d.val; omega))

/-- A chunk's share, from the layer's weights. -/
theorem chunk_at (w : Vec Ideal S1x1024x5632 .bf16) (v : Vec Ideal S1x2816x1024 .bf16) (n n' : ℕ) (hn : n' = 2816 + n) (h1 h2 h3) (c : Fin 11) (hc : n = c.val * 256) :
    chunk h (View.ld w (Rect.unit (s := S1x1024x5632) ![0, 0, n] S1x1024x256.size h1)) (View.ld w (Rect.unit (s := S1x1024x5632) ![0, 0, n'] S1x1024x256.size h2))
        (View.ld v (Rect.unit (s := S1x2816x1024) ![0, n, 0] S1x256x1024.size h3)) p d
      = ∑ f : Fin 256, gated (fun e => h (ix2 p e)) (fun e f => w (ix3 0 e f)) ⟨c.val * 256 + f.val, by omega⟩
          * v (ix3 0 ⟨c.val * 256 + f.val, by omega⟩ d) := by
  subst hn hc
  unfold chunk gated
  refine Finset.sum_congr rfl fun f _ => ?_
  rw [rows_at v _ h3 f d ⟨c.val * 256 + f.val, by omega⟩ rfl]
  simp only [fun e => cols_at w _ h1 e f ⟨c.val * 256 + f.val, by omega⟩ rfl,
    fun e => cols_at w _ h2 e f ⟨2816 + (c.val * 256 + f.val), by omega⟩ (by dsimp only; omega)]

variable (x0 : Vec Ideal S128x1024 .bf16) (x1 : Vec Ideal S128x1024 .f32) (x2 : Vec Ideal S1x128x6144 .f32) (x3 : Vec Ideal S4x1024 .f32)
  (x4 : Vec Ideal S1024x1024 .bf16) (x5 : Vec Ideal S1x1024x5632 .bf16) (x6 : Vec Ideal S1x2816x1024 .bf16)

theorem congr_mixed {o o' x x' gate gate' g g' : Fin 1024 → EReal} {w w' : Fin 1024 → Fin 1024 → EReal} (h1 : ∀ d, o d = o' d) (h2 : ∀ d, x d = x' d)
    (h3 : ∀ d, gate d = gate' d) (h4 : ∀ d, g d = g' d) (h5 : ∀ e d, w e d = w' e d) (d : Fin 1024) : mixed o x gate g w d = mixed o' x' gate' g' w' d := by
  rw [funext h1, funext h2, funext h3, funext h4, funext fun e => funext (h5 e)]

theorem sum_eleven (f : Fin 11 → EReal) : ∑ c, f c = f 0 + f 1 + f 2 + f 3 + f 4 + f 5 + f 6 + f 7 + f 8 + f 9 + f 10 := by
  rw [Fin.sum_univ_castSucc, Fin.sum_univ_castSucc, Fin.sum_univ_castSucc, Fin.sum_univ_eight]
  rfl

/-- The sixth `n` of the modulation. -/
def part (n : Fin 6) (d : Fin 1024) : EReal := x2 (ix3 0 p ⟨n.val * 1024 + d.val, by omega⟩)

theorem mixed_at : k0_pay26 x0 x1 x2 x3 x4 x5 x6 (ix2 p d)
    = mixed (fun e => x0 (ix2 p e)) (fun d => x1 (ix2 p d)) (part p x2 2) (fun d => x3 (ix2 1 d)) (fun e d => x4 (ix2 e d)) d := by
  unfold k0_pay26
  rw [pay5_at]
  simp only [block_at, square_at, fun d => gain_at x3 1 inb_S4x1024_S1x1024_1_0 d 1 rfl,
    fun d => part_at x2 2048 inb_S1x128x6144_S1x128x1024_0_0_2048 p d ⟨2048 + d.val, by omega⟩ rfl]
  exact congr_mixed (block_at x0 p) (block_at x1 p) (fun _ => rfl) (fun _ => rfl) (fun e d => square_at x4 e d) d

theorem inner_at : k0_pay28 x0 x1 x2 x3 x4 x5 x6 (ix2 p d)
    = inner (mixed (fun e => x0 (ix2 p e)) (fun d => x1 (ix2 p d)) (part p x2 2) (fun d => x3 (ix2 1 d)) (fun e d => x4 (ix2 e d)))
        (fun d => x3 (ix2 2 d)) (part p x2 4) (part p x2 3) d := by
  unfold k0_pay28 k0_pay24 k0_pay25 k0_pay27
  rw [pay7_at]
  simp only [mixed_at, fun d => gain_at x3 2 inb_S4x1024_S1x1024_2_0 d 2 rfl,
    fun d => part_at x2 3072 inb_S1x128x6144_S1x128x1024_0_0_3072 p d ⟨3072 + d.val, by omega⟩ rfl,
    fun d => part_at x2 4096 inb_S1x128x6144_S1x128x1024_0_0_4096 p d ⟨4096 + d.val, by omega⟩ rfl]
  rfl

/-- The first chunk's share, on the body's own operands. -/
theorem pay8_body (A B : Vec Ideal S1x1024x256 .bf16) (D : Vec Ideal S1x256x1024 .bf16) :
    k0_pay8 (k0_pay24 x0 x1 x2 x3 x4 x5 x6) (k0_pay25 x0 x1 x2 x3 x4 x5 x6) (k0_pay26 x0 x1 x2 x3 x4 x5 x6) (k0_pay27 x0 x1 x2 x3 x4 x5 x6) A B D (ix2 p d)
      = chunk (k0_pay28 x0 x1 x2 x3 x4 x5 x6) A B D p d := pay8_at A B D p d _ _ _ _

theorem out_at : out0_7 x0 x1 x2 x3 x4 x5 x6 (ix2 p d)
    = token (fun e => x0 (ix2 p e)) (fun d => x1 (ix2 p d)) (part p x2 2) (part p x2 3) (part p x2 4) (part p x2 5)
        (fun d => x3 (ix2 1 d)) (fun d => x3 (ix2 2 d)) (fun d => x3 (ix2 3 d)) (fun e d => x4 (ix2 e d)) (fun e f => x5 (ix3 0 e f)) (fun f d => x6 (ix3 0 f d)) d := by
  have hw : ∀ (P : FVec Ideal S128x1024 .f32), View.canon (Val := Elt Ideal) (s := S128x1024) (e := .f32) [⟨r0_4, P⟩] (ix2 p d) = P (ix2 p d) := fun P => by
    have e : (ix2 p d : S128x1024.Idx) = r0_4.emb (ix2 p d) := funext fun a => Fin.ext (by
      match a with
      | 0 => show p.val = 0 + 1 * p.val; omega
      | 1 => show d.val = 0 + 1 * d.val; omega)
    conv_lhs => rw [e]
    exact View.canon_cons_emb (Val := Elt Ideal) (e := .f32) r0_4 P [] (ix2 p d)
  unfold out0_7
  rw [hw, pay1_at]
  unfold token
  rw [mixed_at, part_at x2 5120 inb_S1x128x6144_S1x128x1024_0_0_5120 p d ⟨5120 + d.val, by omega⟩ rfl]
  have hx : (fun d => inner (mixed (fun e => x0 (ix2 p e)) (fun d => x1 (ix2 p d)) (part p x2 2) (fun d => x3 (ix2 1 d)) (fun e d => x4 (ix2 e d)))
      (fun d => x3 (ix2 2 d)) (part p x2 4) (part p x2 3) d) = fun d => k0_pay28 x0 x1 x2 x3 x4 x5 x6 (ix2 p d) := funext fun d => (inner_at p d x0 x1 x2 x3 x4 x5 x6).symm
  have hg : (fun d => View.ld x3 r0_41 (ix2 0 d)) = fun d => x3 (ix2 3 d) := funext fun d => gain_at x3 3 inb_S4x1024_S1x1024_3_0 d 3 rfl
  rw [hg]
  unfold feed
  refine congrArg (fun a => mixed _ _ _ _ _ d + _ * rms a _ d) (funext fun d => ?_)
  rw [show inner _ _ _ _ = fun d => k0_pay28 x0 x1 x2 x3 x4 x5 x6 (ix2 p d) from hx]
  rw [sum_chunks fun f : Fin 2816 => gated (fun d => k0_pay28 x0 x1 x2 x3 x4 x5 x6 (ix2 p d)) (fun e f => x5 (ix3 0 e f)) f * x6 (ix3 0 f d)]
  rw [pay20_at, pay16_at, pay14_at, pay11_at, pay10_at, pay8_body]
  rw [chunk_at (k0_pay28 x0 x1 x2 x3 x4 x5 x6) p d x5 x6 0 2816 rfl inb_S1x1024x5632_S1x1024x256_0_0_0 inb_S1x1024x5632_S1x1024x256_0_0_2816 inb_S1x2816x1024_S1x256x1024_0_0_0 0 rfl,
    chunk_at (k0_pay28 x0 x1 x2 x3 x4 x5 x6) p d x5 x6 256 3072 rfl inb_S1x1024x5632_S1x1024x256_0_0_256 inb_S1x1024x5632_S1x1024x256_0_0_3072 inb_S1x2816x1024_S1x256x1024_0_256_0 1 rfl,
    chunk_at (k0_pay28 x0 x1 x2 x3 x4 x5 x6) p d x5 x6 512 3328 rfl inb_S1x1024x5632_S1x1024x256_0_0_512 inb_S1x1024x5632_S1x1024x256_0_0_3328 inb_S1x2816x1024_S1x256x1024_0_512_0 2 rfl,
    chunk_at (k0_pay28 x0 x1 x2 x3 x4 x5 x6) p d x5 x6 768 3584 rfl inb_S1x1024x5632_S1x1024x256_0_0_768 inb_S1x1024x5632_S1x1024x256_0_0_3584 inb_S1x2816x1024_S1x256x1024_0_768_0 3 rfl,
    chunk_at (k0_pay28 x0 x1 x2 x3 x4 x5 x6) p d x5 x6 1024 3840 rfl inb_S1x1024x5632_S1x1024x256_0_0_1024 inb_S1x1024x5632_S1x1024x256_0_0_3840 inb_S1x2816x1024_S1x256x1024_0_1024_0 4 rfl,
    chunk_at (k0_pay28 x0 x1 x2 x3 x4 x5 x6) p d x5 x6 1280 4096 rfl inb_S1x1024x5632_S1x1024x256_0_0_1280 inb_S1x1024x5632_S1x1024x256_0_0_4096 inb_S1x2816x1024_S1x256x1024_0_1280_0 5 rfl,
    chunk_at (k0_pay28 x0 x1 x2 x3 x4 x5 x6) p d x5 x6 1536 4352 rfl inb_S1x1024x5632_S1x1024x256_0_0_1536 inb_S1x1024x5632_S1x1024x256_0_0_4352 inb_S1x2816x1024_S1x256x1024_0_1536_0 6 rfl,
    chunk_at (k0_pay28 x0 x1 x2 x3 x4 x5 x6) p d x5 x6 1792 4608 rfl inb_S1x1024x5632_S1x1024x256_0_0_1792 inb_S1x1024x5632_S1x1024x256_0_0_4608 inb_S1x2816x1024_S1x256x1024_0_1792_0 7 rfl,
    chunk_at (k0_pay28 x0 x1 x2 x3 x4 x5 x6) p d x5 x6 2048 4864 rfl inb_S1x1024x5632_S1x1024x256_0_0_2048 inb_S1x1024x5632_S1x1024x256_0_0_4864 inb_S1x2816x1024_S1x256x1024_0_2048_0 8 rfl,
    chunk_at (k0_pay28 x0 x1 x2 x3 x4 x5 x6) p d x5 x6 2304 5120 rfl inb_S1x1024x5632_S1x1024x256_0_0_2304 inb_S1x1024x5632_S1x1024x256_0_0_5120 inb_S1x2816x1024_S1x256x1024_0_2304_0 9 rfl,
    chunk_at (k0_pay28 x0 x1 x2 x3 x4 x5 x6) p d x5 x6 2560 5376 rfl inb_S1x1024x5632_S1x1024x256_0_0_2560 inb_S1x1024x5632_S1x1024x256_0_0_5376 inb_S1x2816x1024_S1x256x1024_0_2560_0 10 rfl]
  rw [sum_eleven]

end Cert.Kernel4Ideal.Sample
-- ==== Proof.Sample.Array.lean ====
/-
  The arrays the kernel reads for the samples, in terms of its arguments, and the array its run ends with.
-/
module

public import proofs.«01_k».proof.Proof.Sample.Body
public import proofs.«01_k».proof.Proof.Gen.Kernel4Ideal.Value
public import Idealize.ShloMosaic.Lib.Pipeline.Value

@[expose] public section

set_option maxRecDepth 16384
set_option maxHeartbeats 1000000

noncomputable section

namespace Cert.Kernel4Ideal.Sample

open Idealize.ShloMosaic Idealize.ShloMosaic.TcCoe Idealize.SL.Sem Idealize.ShloMosaic.Tactic
open Cert.Kernel4Ideal Cert.Kernel4Ideal.Gen Cert.Feed

variable (m : (ℓ : Loc nD τ sig) → Buf (Elt Ideal) ℓ)

/-- The argument arrays of one device. -/
abbrev argO (c : Dev nD) : FVec Ideal S128x4x1024 .f32 := m ((c : Thread nD τ).loc main_arg0)
abbrev argX (c : Dev nD) : FVec Ideal S128x4x1024 .f32 := m ((c : Thread nD τ).loc main_arg1)
abbrev argS (c : Dev nD) : FVec Ideal S128x6144 .f32 := m ((c : Thread nD τ).loc main_arg2)
abbrev argG (c : Dev nD) : FVec Ideal S2x4x1024 .f32 := m ((c : Thread nD τ).loc main_arg3)
abbrev argP (c : Dev nD) : FVec Ideal S1x1024x1024 .f32 := m ((c : Thread nD τ).loc main_arg4)
abbrev argW (c : Dev nD) : FVec Ideal S2x1024x5632 .f32 := m ((c : Thread nD τ).loc main_arg5)
abbrev argV (c : Dev nD) : FVec Ideal S2x2816x1024 .f32 := m ((c : Thread nD τ).loc main_arg6)

/-! What the host leaves in the arrays the kernel reads. -/
theorem V_v1 (c : Dev nD) : V m c main_v1 = shapeCast S4x1024 (extractStridedSlice S1x4x1024 ![1, 0, 0] (argG m c) slices_S2x4x1024_S1x4x1024_1_0_0) shapeCasts_S1x4x1024_S4x1024 := by
  show StableHlo.after hostOps0 _ _ = _
  after_results
  rfl
theorem V_v3 (c : Dev nD) : V m c main_v3 = truncf .bf16 (shapeCast S1024x1024 (argP m c) shapeCasts_S1x1024x1024_S1024x1024) bitsLt_bf16_f32 := by
  show StableHlo.after hostOps0 _ _ = _
  after_results
  rfl
theorem V_v4 (c : Dev nD) : V m c main_v4 = truncf .bf16 (argW m c) bitsLt_bf16_f32 := by
  show StableHlo.after hostOps0 _ _ = _
  after_results
theorem V_v5 (c : Dev nD) : V m c main_v5 = truncf .bf16 (argV m c) bitsLt_bf16_f32 := by
  show StableHlo.after hostOps0 _ _ = _
  after_results
theorem V_v7 (c : Dev nD) : V m c main_v7 = shapeCast S512x1024 (transpose S4x128x1024 [1, 0, 2] (argX m c) transposes_S128x4x1024_S4x128x1024_1_0_2) shapeCasts_S4x128x1024_S512x1024 := by
  show StableHlo.after hostOps0 _ _ = _
  after_results
  rfl
theorem V_v10 (c : Dev nD) : V m c main_v10 = truncf .bf16 (shapeCast S512x1024 (transpose S4x128x1024 [1, 0, 2] (argO m c) transposes_S128x4x1024_S4x128x1024_1_0_2) shapeCasts_S4x128x1024_S512x1024) bitsLt_bf16_f32 := by
  show StableHlo.after hostOps0 _ _ = _
  after_results
  rfl
theorem V_v11 (c : Dev nD) : V m c main_v11 = shapeCast S1x128x6144 (argS m c) shapeCasts_S128x6144_S1x128x6144 := by
  show StableHlo.after hostOps0 _ _ = _
  after_results
  rfl

theorem v1_apply (g : FVec Ideal S2x4x1024 .f32) (k : Fin 4) (d : Fin 1024) :
    shapeCast S4x1024 (extractStridedSlice S1x4x1024 ![1, 0, 0] g slices_S2x4x1024_S1x4x1024_1_0_0) shapeCasts_S1x4x1024_S4x1024 (ix2 k d) = g (ix3 1 k d) := by
  pointwise
theorem v3_apply (w : FVec Ideal S1x1024x1024 .f32) (e d : Fin 1024) :
    (truncf .bf16 (shapeCast S1024x1024 w shapeCasts_S1x1024x1024_S1024x1024) bitsLt_bf16_f32 : FVec Ideal S1024x1024 .bf16) (ix2 e d) = w (ix3 0 e d) := by
  pointwise
theorem v7_apply (x : FVec Ideal S128x4x1024 .f32) (i : Fin 4) (p : Fin 128) (d : Fin 1024) :
    shapeCast S512x1024 (transpose S4x128x1024 [1, 0, 2] x transposes_S128x4x1024_S4x128x1024_1_0_2) shapeCasts_S4x128x1024_S512x1024 (ix2 ⟨i.val * 128 + p.val, by omega⟩ d) = x (ix3 p i d) := by
  pointwise
theorem v11_apply (s : FVec Ideal S128x6144 .f32) (p : Fin 128) (d : Fin 6144) :
    shapeCast S1x128x6144 s shapeCasts_S128x6144_S1x128x6144 (ix3 0 p d) = s (ix2 p d) := by
  pointwise

/-! The grid's position for the token `i` of every sample. -/
def pos (i : Fin 4) : Fin cfg0.N := ⟨i.val, by rw [show cfg0.N = 4 from N_0]; omega⟩

theorem idx0 (i : Fin 4) : win0_0.index (pos i) 0 = i.val ∧ win0_0.index (pos i) 1 = 0 := by
  revert i; decide +kernel
theorem idx1 (i : Fin 4) : win0_1.index (pos i) 0 = i.val ∧ win0_1.index (pos i) 1 = 0 := by
  revert i; decide +kernel
theorem idx2 (i : Fin 4) : win0_2.index (pos i) 0 = 0 ∧ win0_2.index (pos i) 1 = 0 ∧ win0_2.index (pos i) 2 = 0 := by
  revert i; decide +kernel
theorem idx34 (i : Fin 4) : (win0_3.index (pos i) 0 = 0 ∧ win0_3.index (pos i) 1 = 0) ∧ win0_4.index (pos i) 0 = 0 ∧ win0_4.index (pos i) 1 = 0 := by
  revert i; decide +kernel
theorem idx5 (i : Fin 4) : win0_5.index (pos i) 0 = 1 ∧ win0_5.index (pos i) 1 = 0 ∧ win0_5.index (pos i) 2 = 0 := by
  revert i; decide +kernel
theorem idx6 (i : Fin 4) : win0_6.index (pos i) 0 = 1 ∧ win0_6.index (pos i) 1 = 0 ∧ win0_6.index (pos i) 2 = 0 := by
  revert i; decide +kernel
theorem idx7 : ∀ t : Fin cfg0.N, win0_7.index t 0 = t.val ∧ win0_7.index t 1 = 0 :=
  (by decide +kernel : ∀ t : Fin grid0.N, win0_7.index t 0 = t.val ∧ win0_7.index t 1 = 0)

variable (c : Dev nD) (i : Fin 4)

theorem iblk0_apply (p : Fin 128) (d : Fin 1024) : (iblk m c 0 (pos i) : Vec Ideal S128x1024 .bf16) (ix2 p d) = argO m c (ix3 p i d) := by
  unfold iblk
  rw [View.read_apply]
  show V m c main_v10 _ = _
  rw [V_v10]
  refine Eq.trans ?_ (v7_apply (argO m c) i p d)
  show shapeCast S512x1024 (transpose S4x128x1024 [1, 0, 2] (argO m c) _) _ _ = _
  congr 1
  obtain ⟨h0, h1⟩ := idx0 i
  funext y
  apply Fin.ext
  match y with
  | 0 => show win0_0.index (pos i) 0 * 128 + 1 * p.val = _; rw [h0]; show _ = i.val * 128 + p.val; omega
  | 1 => show win0_0.index (pos i) 1 * 1024 + 1 * d.val = _; rw [h1]; show _ = d.val; omega

theorem iblk1_apply (p : Fin 128) (d : Fin 1024) : (iblk m c 1 (pos i) : Vec Ideal S128x1024 .f32) (ix2 p d) = argX m c (ix3 p i d) := by
  unfold iblk
  rw [View.read_apply]
  show V m c main_v7 _ = _
  rw [V_v7]
  refine Eq.trans ?_ (v7_apply (argX m c) i p d)
  congr 1
  obtain ⟨h0, h1⟩ := idx1 i
  funext y
  apply Fin.ext
  match y with
  | 0 => show win0_1.index (pos i) 0 * 128 + 1 * p.val = _; rw [h0]; show _ = i.val * 128 + p.val; omega
  | 1 => show win0_1.index (pos i) 1 * 1024 + 1 * d.val = _; rw [h1]; show _ = d.val; omega

theorem iblk2_apply (p : Fin 128) (d : Fin 6144) : (iblk m c 2 (pos i) : Vec Ideal S1x128x6144 .f32) (ix3 0 p d) = argS m c (ix2 p d) := by
  unfold iblk
  rw [View.read_apply]
  show V m c main_v11 _ = _
  rw [V_v11]
  refine Eq.trans ?_ (v11_apply (argS m c) p d)
  congr 1
  obtain ⟨h0, h1, h2⟩ := idx2 i
  funext y
  apply Fin.ext
  match y with
  | 0 => show win0_2.index (pos i) 0 * 1 + 1 * 0 = _; rw [h0]; rfl
  | 1 => show win0_2.index (pos i) 1 * 128 + 1 * p.val = _; rw [h1]; show _ = p.val; omega
  | 2 => show win0_2.index (pos i) 2 * 6144 + 1 * d.val = _; rw [h2]; show _ = d.val; omega

theorem iblk3_apply (k : Fin 4) (d : Fin 1024) : (iblk m c 3 (pos i) : Vec Ideal S4x1024 .f32) (ix2 k d) = argG m c (ix3 1 k d) := by
  unfold iblk
  rw [View.read_apply]
  show V m c main_v1 _ = _
  rw [V_v1]
  refine Eq.trans ?_ (v1_apply (argG m c) k d)
  congr 1
  obtain ⟨⟨h0, h1⟩, -⟩ := idx34 i
  funext y
  apply Fin.ext
  match y with
  | 0 => show win0_3.index (pos i) 0 * 4 + 1 * k.val = _; rw [h0]; show _ = k.val; omega
  | 1 => show win0_3.index (pos i) 1 * 1024 + 1 * d.val = _; rw [h1]; show _ = d.val; omega

theorem iblk4_apply (e d : Fin 1024) : (iblk m c 4 (pos i) : Vec Ideal S1024x1024 .bf16) (ix2 e d) = argP m c (ix3 0 e d) := by
  unfold iblk
  rw [View.read_apply]
  show V m c main_v3 _ = _
  rw [V_v3]
  refine Eq.trans ?_ (v3_apply (argP m c) e d)
  congr 1
  obtain ⟨-, h0, h1⟩ := idx34 i
  funext y
  apply Fin.ext
  match y with
  | 0 => show win0_4.index (pos i) 0 * 1024 + 1 * e.val = _; rw [h0]; show _ = e.val; omega
  | 1 => show win0_4.index (pos i) 1 * 1024 + 1 * d.val = _; rw [h1]; show _ = d.val; omega

theorem iblk5_apply (e : Fin 1024) (f : Fin 5632) : (iblk m c 5 (pos i) : Vec Ideal S1x1024x5632 .bf16) (ix3 0 e f) = argW m c (ix3 1 e f) := by
  unfold iblk
  rw [View.read_apply]
  show V m c main_v4 _ = _
  rw [V_v4]
  show argW m c _ = _
  congr 1
  obtain ⟨h0, h1, h2⟩ := idx5 i
  funext y
  apply Fin.ext
  match y with
  | 0 => show win0_5.index (pos i) 0 * 1 + 1 * 0 = _; rw [h0]; rfl
  | 1 => show win0_5.index (pos i) 1 * 1024 + 1 * e.val = _; rw [h1]; show _ = e.val; omega
  | 2 => show win0_5.index (pos i) 2 * 5632 + 1 * f.val = _; rw [h2]; show _ = f.val; omega

theorem iblk6_apply (f : Fin 2816) (d : Fin 1024) : (iblk m c 6 (pos i) : Vec Ideal S1x2816x1024 .bf16) (ix3 0 f d) = argV m c (ix3 1 f d) := by
  unfold iblk
  rw [View.read_apply]
  show V m c main_v5 _ = _
  rw [V_v5]
  show argV m c _ = _
  congr 1
  obtain ⟨h0, h1, h2⟩ := idx6 i
  funext y
  apply Fin.ext
  match y with
  | 0 => show win0_6.index (pos i) 0 * 1 + 1 * 0 = _; rw [h0]; rfl
  | 1 => show win0_6.index (pos i) 1 * 2816 + 1 * f.val = _; rw [h1]; show _ = f.val; omega
  | 2 => show win0_6.index (pos i) 2 * 1024 + 1 * d.val = _; rw [h2]; show _ = d.val; omega

/-- What the body leaves in the output's block at a grid position. -/
def outAt (t : Fin cfg0.N) : FVec Ideal S128x1024 .f32 :=
  out0_7 (iblk m c 0 t) (iblk m c 1 t) (iblk m c 2 t) (iblk m c 3 t) (iblk m c 4 t) (iblk m c 5 t) (iblk m c 6 t)

/-- The same, at an element, in terms of the arguments. -/
theorem outAt_apply (p : Fin 128) (d : Fin 1024) : outAt m c (pos i) (ix2 p d)
    = token (fun e => argO m c (ix3 p i e)) (fun d => argX m c (ix3 p i d)) (fun d => argS m c (ix2 p ⟨2 * 1024 + d.val, by omega⟩))
        (fun d => argS m c (ix2 p ⟨3 * 1024 + d.val, by omega⟩)) (fun d => argS m c (ix2 p ⟨4 * 1024 + d.val, by omega⟩)) (fun d => argS m c (ix2 p ⟨5 * 1024 + d.val, by omega⟩))
        (fun d => argG m c (ix3 1 1 d)) (fun d => argG m c (ix3 1 2 d)) (fun d => argG m c (ix3 1 3 d)) (fun e d => argP m c (ix3 0 e d))
        (fun e f => argW m c (ix3 1 e f)) (fun f d => argV m c (ix3 1 f d)) d := by
  have hp : ∀ k : Fin 6, part p (iblk m c 2 (pos i)) k = fun d => argS m c (ix2 p ⟨k.val * 1024 + d.val, by omega⟩) := fun k =>
    funext fun d => iblk2_apply m c i p ⟨k.val * 1024 + d.val, by omega⟩
  unfold outAt
  rw [out_at, hp, hp, hp, hp, funext (iblk0_apply m c i p), funext (iblk1_apply m c i p), funext (iblk3_apply m c i 1), funext (iblk3_apply m c i 2),
    funext (iblk3_apply m c i 3), funext fun e => funext (iblk4_apply m c i e), funext fun e => funext (iblk5_apply m c i e), funext fun f => funext (iblk6_apply m c i f)]
  rfl

/-- The grid position that writes row `x`. -/
def posOf (x : ℕ) (hx : x < 512) : Fin cfg0.N := ⟨x / 128, by rw [show cfg0.N = 4 from N_0]; omega⟩

/-- The result array. -/
def result : FVec Ideal S512x1024 .f32 := fun y =>
  outAt m c (posOf (y 0).val (y 0).isLt) (ix2 ⟨(y 0).val % 128, Nat.mod_lt _ (by decide)⟩ ⟨(y 1).val, (y 1).isLt⟩)

theorem result_at (t : Fin cfg0.N) (y : S128x1024.Idx) (z : S512x1024.Idx) (h0 : (z 0).val = t.val * 128 + (y 0).val) (h1 : (z 1).val = (y 1).val) :
    result m c z = outAt m c t y := by
  have y0 : (y 0).val < 128 := (y 0).isLt
  unfold result
  have e : posOf (z 0).val (z 0).isLt = t := Fin.ext (by
    show (z 0).val / 128 = t.val
    omega)
  rw [e]
  congr 1
  funext a
  apply Fin.ext
  match a with
  | 0 => show (z 0).val % 128 = (y 0).val; omega
  | 1 => exact h1

theorem cut_out (t : Fin cfg0.N) (X : FVec Ideal S128x1024 .f32) : (cfg0.win 7).cut (grid0.coords t) X = X := rfl

theorem read_of (t : Fin cfg0.N) (G : FVec Ideal S512x1024 .f32) (X : FVec Ideal S128x1024 .f32)
    (h : ∀ (y : S128x1024.Idx) (z : S512x1024.Idx), (z 0).val = t.val * 128 + (y 0).val → (z 1).val = (y 1).val → G z = X y) :
    ((cfg0.win 7).blk t).view.read (Elt Ideal) G = X := by
  obtain ⟨h0, h1⟩ := idx7 t
  funext y
  rw [View.read_apply]
  refine h y (((cfg0.win 7).blk t).view.emb y) ?_ ?_
  · show win0_7.index t 0 * 128 + 1 * (y 0).val = _; rw [h0]; omega
  · show win0_7.index t 1 * 1024 + 1 * (y 1).val = _; rw [h1]; omega

theorem read_out (t : Fin cfg0.N) : ((cfg0.win 7).blk t).view.read (Elt Ideal) (result m c) = outAt m c t :=
  read_of t (result m c) (outAt m c t) (result_at m c t)

theorem flushed_out (t : Fin cfg0.N) : (dats m 0 c).flushed 7 t = outAt m c t :=
  (Cert.Kernel4Ideal.Value.flushed7 m c t).trans (cut_out t (outAt m c t))

theorem flushed_eq (t : Fin cfg0.N) (_ : (cfg0.win 7).flush t = true) :
    (dats m 0 c).flushed 7 t = ((cfg0.win 7).blk t).view.read (Elt Ideal) (result m c) :=
  (flushed_out m c t).trans (read_out m c t).symm

theorem final_out : (dats m 0 c).arrAt 7 cfg0.N = result m c :=
  (dats m 0 c).arrAt_eq_of_cover 7 (result m c) (flushed_eq m c) fun i => by
    have i0 : (i 0 : ℕ) < 512 := (i 0).isLt
    have i1 : (i 1 : ℕ) < 1024 := (i 1).isLt
    refine ⟨posOf (i 0).val i0, flush0_7 _, ?_⟩
    show i ∈ ((View.whole main_v12).slice (win0_7.rect (posOf (i 0).val i0))).set
    rw [View.set_slice_whole, Rect.mem_set_unit]
    obtain ⟨h0, h1⟩ := idx7 (posOf (i 0).val i0)
    have hp : (posOf (i 0).val i0).val = (i 0).val / 128 := rfl
    intro a
    match a with
    | ⟨0, _⟩ =>
      show win0_7.index (posOf (i 0).val i0) 0 * 128 ≤ (i 0 : ℕ) ∧ (i 0 : ℕ) < win0_7.index (posOf (i 0).val i0) 0 * 128 + 128
      rw [h0, hp]; omega
    | ⟨1, _⟩ =>
      show win0_7.index (posOf (i 0).val i0) 1 * 1024 ≤ (i 1 : ℕ) ∧ (i 1 : ℕ) < win0_7.index (posOf (i 0).val i0) 1 * 1024 + 1024
      rw [h1]; omega

end Cert.Kernel4Ideal.Sample
-- ==== Proof.Sample.Reference.lean ====
/-
  The reference of the samples read at an element: the residual stream after the attention, the feed-forward's input, its hidden units, the result.
-/
module

public import proofs.«01_k».proof.Proof.Feed.Model
public import proofs.«01_k».proof.Proof.Gen.Reference4Ideal.Read

@[expose] public section

set_option maxRecDepth 16384

noncomputable section

namespace Cert.Reference4Ideal.Sample

open Idealize.ShloMosaic Cert.Reference4Ideal Cert.Reference4Ideal.Read Cert.Reference4Ideal.Gen
open Cert.Feed

variable (o x : FVec Ideal S128x4x1024 .f32) (s : FVec Ideal S128x6144 .f32) (g : FVec Ideal S2x4x1024 .f32) (wo : FVec Ideal S1x1024x1024 .f32)
  (w : FVec Ideal S2x1024x5632 .f32) (v : FVec Ideal S2x2816x1024 .f32)
variable (b : Fin 128) (n : Fin 4) (d : Fin 1024)

/-- The sixth `k` of the modulation of the batch's entry `b`. -/
def sixth (k : Fin 6) (d : Fin 1024) : EReal := s (ix2 b ⟨k.val * 1024 + d.val, by omega⟩)

/-- The row of gains `k` of the second layer. -/
def gain (k : Fin 4) (d : Fin 1024) : EReal := g (ix3 1 k d)

/-- The residual stream after the attention, of one token. -/
def stream (d : Fin 1024) : EReal :=
  mixed (fun e => o (ix3 b n e)) (fun d => x (ix3 b n d)) (sixth s b 2) (gain g 1) (fun e d => wo (ix3 0 e d)) d

/-- The feed-forward's input, of one token. -/
def input (d : Fin 1024) : EReal := inner (stream o x s g wo b n) (gain g 2) (sixth s b 4) (sixth s b 3) d

theorem zero_bits : (FloatOps.ofBits (F := Ideal) .f32 0x00000000#32 : EReal) = 0 := by simp

theorem proj_at : val_main_v13 (F := Ideal) o wo (ix3 b n d) = ∑ e, o (ix3 b n e) * wo (ix3 0 e d) := by
  have h : ∀ e d : Fin 1024, val_main_v12 (F := Ideal) wo (ix2 e d) = wo (ix3 0 e d) := fun e d => by pointwise [val_main_v12]
  rw [val_main_v13_apply]
  refine Finset.sum_congr rfl fun e _ => ?_
  rw [← h]
  exact congrArg₂ (· * ·) (congrArg o (funext fun a => by fin_cases a <;> rfl)) (congrArg _ (funext fun a => by fin_cases a <;> rfl))

theorem square1_at : val_main_v17 (F := Ideal) o wo (ix2 b n)
    = ∑ e, val_main_v13 (F := Ideal) o wo (ix3 b n e) * val_main_v13 (F := Ideal) o wo (ix3 b n e) := by
  rw [val_main_v17_apply, val_main_cst_apply, zero_bits, zero_add]
  refine Finset.sum_congr rfl fun e _ => ?_
  rw [val_main_v16_apply]
  have e' : idx_main_v17 (ix2 b n) e = ix3 b n e := funext fun a => by fin_cases a <;> rfl
  rw [e']
  rfl

theorem rms1_at : val_main_v28 (F := Ideal) o g wo (ix3 b n d)
    = rms (fun e => val_main_v13 (F := Ideal) o wo (ix3 b n e)) (gain g 1) d := by
  have h := square1_at o wo b n
  unfold val_main_v28 val_main_v25 val_main_v24 val_main_v23 val_main_v22 val_main_v20 val_main_v18 val_main_v19 val_main_cst_0 val_main_v21 val_main_cst_1 val_main_v27 val_main_v26 val_main_v15 val_main_v14
  generalize val_main_v17 (F := Ideal) o wo = y at h ⊢
  generalize val_main_v13 (F := Ideal) o wo = z at h ⊢
  pointwise
  rw [h]
  rfl

theorem stream_at : val_main_v31 (F := Ideal) o x s g wo (ix3 b n d) = stream o x s g wo b n d := by
  have h := rms1_at o g wo b n d
  simp only [proj_at] at h
  unfold val_main_v31 val_main_v30 val_main_v29 val_main_v8 val_main_v2
  generalize val_main_v28 (F := Ideal) o g wo = y at h ⊢
  pointwise
  rw [h]
  rfl

theorem square2_at : val_main_v35 (F := Ideal) o x s g wo (ix2 b n)
    = ∑ e, val_main_v31 (F := Ideal) o x s g wo (ix3 b n e) * val_main_v31 (F := Ideal) o x s g wo (ix3 b n e) := by
  rw [val_main_v35_apply, val_main_cst_2_apply, zero_bits, zero_add]
  refine Finset.sum_congr rfl fun e _ => ?_
  rw [val_main_v34_apply]
  have e' : idx_main_v35 (ix2 b n) e = ix3 b n e := funext fun a => by fin_cases a <;> rfl
  rw [e']
  rfl

theorem rms2_at : val_main_v46 (F := Ideal) o x s g wo (ix3 b n d)
    = rms (fun e => val_main_v31 (F := Ideal) o x s g wo (ix3 b n e)) (gain g 2) d := by
  have h := square2_at o x s g wo b n
  unfold val_main_v46 val_main_v43 val_main_v42 val_main_v41 val_main_v40 val_main_v38 val_main_v36 val_main_v37 val_main_cst_3 val_main_v39 val_main_cst_4 val_main_v45 val_main_v44 val_main_v33 val_main_v32
  generalize val_main_v35 (F := Ideal) o x s g wo = y at h ⊢
  generalize val_main_v31 (F := Ideal) o x s g wo = z at h ⊢
  pointwise
  rw [h]
  rfl

theorem input_at : val_main_v52 (F := Ideal) o x s g wo (ix3 b n d) = input o x s g wo b n d := by
  have h := rms2_at o x s g wo b n d
  simp only [stream_at] at h
  unfold val_main_v52 val_main_v50 val_main_v49 val_main_v48 val_main_v47 val_main_cst_5 val_main_v10 val_main_v4 val_main_v51 val_main_v9 val_main_v3
  generalize val_main_v46 (F := Ideal) o x s g wo = y at h ⊢
  pointwise
  rw [h]
  rfl

theorem up_at (f : Fin 5632) : val_main_v55 (F := Ideal) o x s g wo w (ix3 b n f) = ∑ e, input o x s g wo b n e * w (ix3 1 e f) := by
  have h : ∀ e f, val_main_v54 (F := Ideal) w (ix2 e f) = w (ix3 1 e f) := fun e f => by pointwise [val_main_v54, val_main_v53]
  rw [val_main_v55_apply]
  refine Finset.sum_congr rfl fun e _ => ?_
  rw [← h, ← input_at]
  exact congrArg₂ (· * ·) (congrArg _ (funext fun a => by fin_cases a <;> rfl)) (congrArg _ (funext fun a => by fin_cases a <;> rfl))

theorem hidden_at (f : Fin 2816) : val_main_v59 (F := Ideal) o x s g wo w (ix3 b n f) = gated (input o x s g wo b n) (fun e f => w (ix3 1 e f)) f := by
  have h := up_at o x s g wo w b n
  unfold val_main_v59 val_main_v58 val_main_v57 val_main_v56 val_main_call0_v5 val_main_call0_v4 val_main_call0_v3 val_main_call0_v2 val_main_call0_v1 val_main_call0_v0
    val_main_call0_cst val_main_call0_cst_0 val_main_v56
  generalize val_main_v55 (F := Ideal) o x s g wo w = y at h ⊢
  unfold gated Cert.Feed.unit
  rw [gate_eq, ← h, ← h]
  pointwise

theorem down_at : val_main_v62 (F := Ideal) o x s g wo w v (ix3 b n d) = feed (input o x s g wo b n) (fun e f => w (ix3 1 e f)) (fun f d => v (ix3 1 f d)) d := by
  have h : ∀ f d, val_main_v61 (F := Ideal) v (ix2 f d) = v (ix3 1 f d) := fun f d => by pointwise [val_main_v61, val_main_v60]
  rw [val_main_v62_apply]
  unfold feed
  refine Finset.sum_congr rfl fun f _ => ?_
  show _ = _ * v (ix3 1 f d)
  rw [← h, ← hidden_at]
  exact congrArg₂ (· * ·) (congrArg _ (funext fun a => by fin_cases a <;> rfl)) (congrArg _ (funext fun a => by fin_cases a <;> rfl))

theorem square3_at : val_main_v66 (F := Ideal) o x s g wo w v (ix2 b n)
    = ∑ e, val_main_v62 (F := Ideal) o x s g wo w v (ix3 b n e) * val_main_v62 (F := Ideal) o x s g wo w v (ix3 b n e) := by
  rw [val_main_v66_apply, val_main_cst_6_apply, zero_bits, zero_add]
  refine Finset.sum_congr rfl fun e _ => ?_
  rw [val_main_v65_apply]
  have e' : idx_main_v66 (ix2 b n) e = ix3 b n e := funext fun a => by fin_cases a <;> rfl
  rw [e']
  rfl

theorem rms3_at : val_main_v77 (F := Ideal) o x s g wo w v (ix3 b n d)
    = rms (fun e => val_main_v62 (F := Ideal) o x s g wo w v (ix3 b n e)) (gain g 3) d := by
  have h := square3_at o x s g wo w v b n
  unfold val_main_v77 val_main_v74 val_main_v73 val_main_v72 val_main_v71 val_main_v69 val_main_v67 val_main_v68 val_main_cst_7 val_main_v70 val_main_cst_8 val_main_v76 val_main_v75 val_main_v64 val_main_v63
  generalize val_main_v66 (F := Ideal) o x s g wo w v = y at h ⊢
  generalize val_main_v62 (F := Ideal) o x s g wo w v = z at h ⊢
  pointwise
  rw [h]
  rfl

theorem block_at : val_main_v80 (F := Ideal) o x s g wo w v (ix3 b n d)
    = token (fun e => o (ix3 b n e)) (fun d => x (ix3 b n d)) (sixth s b 2) (sixth s b 3) (sixth s b 4) (sixth s b 5) (gain g 1) (gain g 2) (gain g 3)
        (fun e d => wo (ix3 0 e d)) (fun e f => w (ix3 1 e f)) (fun f d => v (ix3 1 f d)) d := by
  have h := rms3_at o x s g wo w v b n d
  have h' := stream_at o x s g wo b n d
  simp only [down_at] at h
  unfold val_main_v80 val_main_v79 val_main_v78 val_main_v11 val_main_v5
  generalize val_main_v77 (F := Ideal) o x s g wo w v = y at h ⊢
  generalize val_main_v31 (F := Ideal) o x s g wo = z at h' ⊢
  pointwise
  rw [h, h']
  rfl

theorem result_at (r : Fin 512) (hr : r.val = n.val * 128 + b.val) : val_main_v82 (F := Ideal) o x s g wo w v (ix2 r d)
    = token (fun e => o (ix3 b n e)) (fun d => x (ix3 b n d)) (sixth s b 2) (sixth s b 3) (sixth s b 4) (sixth s b 5) (gain g 1) (gain g 2) (gain g 3)
        (fun e d => wo (ix3 0 e d)) (fun e f => w (ix3 1 e f)) (fun f d => v (ix3 1 f d)) d := by
  rw [val_main_v82_apply, val_main_v81_apply, ← block_at]
  refine congrArg _ (funext fun a => Fin.ext ?_)
  match a with
  | 0 => show (r.val * 1024 + d.val) / 1024 % 128 = b.val; omega
  | 1 => show (r.val * 1024 + d.val) / 131072 = n.val; omega
  | 2 => show (r.val * 1024 + d.val) % 1024 = d.val; omega

end Cert.Reference4Ideal.Sample
-- ==== Proof.Sample.Equal.lean ====
/-
  The second half of the layer, on the samples: the two programs end with equal results.
-/
module

public import proofs.«01_k».proof.Defs
public import proofs.«01_k».proof.Proof.Gen.Reference4Ideal.Run
public import proofs.«01_k».proof.Proof.Sample.Array
public import proofs.«01_k».proof.Proof.Sample.Reference

@[expose] public section

set_option maxRecDepth 16384

noncomputable section

namespace Cert.Sample

open Idealize.ShloMosaic Idealize.ShloMosaic.TcCoe Idealize.SL.Sem Cert.Kernel4Ideal.Sample Cert.Kernel4Ideal.Gen

variable (m : (ℓ : Loc Cert.Kernel4Ideal.nD Cert.Kernel4Ideal.τ Cert.Kernel4Ideal.sig) → Buf (Elt Ideal) ℓ) (c : Dev Cert.Kernel4Ideal.nD)

theorem result_at_eq (x : Fin 512) (d : Fin 1024) :
    result m c (ix2 x d)
      = Cert.Reference4Ideal.Read.val_main_v82 (F := Ideal) (argO m c) (argX m c) (argS m c) (argG m c) (argP m c) (argW m c) (argV m c) (ix2 x d) := by
  let i : Fin 4 := ⟨x.val / 128, by omega⟩
  let p : Fin 128 := ⟨x.val % 128, by omega⟩
  have h0 : x.val = x.val / 128 * 128 + x.val % 128 := by omega
  rw [Cert.Kernel4Ideal.Sample.result_at m c (pos i) (ix2 p d) (ix2 x d) h0 rfl, outAt_apply,
    Cert.Reference4Ideal.Sample.result_at _ _ _ _ _ _ _ p i d x h0]
  rfl

theorem result_eq_reference :
    result m c = Cert.Reference4Ideal.Read.val_main_v82 (F := Ideal) (argO m c) (argX m c) (argS m c) (argG m c) (argP m c) (argW m c) (argV m c) := by
  funext z
  have hz : z = ix2 (z 0) (z 1) := funext fun a => by fin_cases a <;> rfl
  exact (congrArg _ hz).trans ((result_at_eq m c (z 0) (z 1)).trans (congrArg _ hz.symm))

/-- From equal arguments both runs end with this array. -/
theorem algebraic : Cert.algebraic_Kernel4Ideal_Reference4Ideal :=
  fun m g m' g' _ hargs => by
    refine ⟨fun c => result m c, (θ_run Cert.Kernel4Ideal.defs _ _).mono (fun r h c => ⟨(h c).1.trans (final_out m c), (h c).2⟩) (Cert.Kernel4Ideal.Value.run_blocks m g), ?_⟩
    refine (θ_run Cert.Reference4Ideal.defs _ _).mono (fun r h c => ⟨(h c).1.trans ?_, (h c).2⟩) (Cert.Reference4Ideal.Value.run (F := Ideal) m' g')
    obtain ⟨h0, h1, h2, h3, h4, h5, h6⟩ := hargs c
    refine Eq.trans ?_ (result_eq_reference m c).symm
    rw [Cert.Reference4Ideal.Read.val_main_v82_eq, h0, h1, h2, h3, h4, h5, h6]

end Cert.Sample
-- ==== Proof.Condition.Body.lean ====
/-
  The conditioning: what the body leaves in the output's block, read at an element.
-/
module

public import proofs.«01_k».proof.Proof.Feed.Model
public import proofs.«01_k».proof.Proof.Gen.Kernel5Ideal.Frame
public import Idealize.ShloMosaic.Lib.Pipeline.Value

@[expose] public section

set_option maxRecDepth 16384
set_option maxHeartbeats 1000000

noncomputable section

namespace Cert.Condition

open Idealize.ShloMosaic

/-- One number of the modulation: the conditioning vector through its gate, times a column of weights, plus the bias. -/
def modulation (c w : Fin 1024 → EReal) (b : EReal) : EReal := ∑ d, Ideal.div (c d) (1 + Ideal.exp (0 - c d)) * w d + b

theorem congr_modulation {c c' w w' : Fin 1024 → EReal} {b b' : EReal} (h1 : ∀ d, c d = c' d) (h2 : ∀ d, w d = w' d) (h3 : b = b') :
    modulation c w b = modulation c' w' b' := by
  rw [funext h1, funext h2, h3]

end Cert.Condition

namespace Cert.Kernel5Ideal.Condition

open Idealize.ShloMosaic Idealize.SL.Sem
open Cert.Kernel5Ideal Cert.Kernel5Ideal.Gen Cert.Condition

variable (p : Fin 136) (e : Fin 1024)

theorem pay1_at (c : Vec Ideal S136x1024 .f32) (w : Vec Ideal S1x1024x1024 .f32) (b : Vec Ideal S1x1x1024 .f32) :
    k0_pay1 c w b (ix3 0 p e) = modulation (fun d => c (ix2 p d)) (fun d => w (ix3 0 d e)) (b (ix3 0 0 e)) := by
  pointwise [k0_pay1]
  rfl

theorem vector_at (c : Vec Ideal S136x1024 .f32) (p : Fin 136) (d : Fin 1024) : View.ld c r0_0 (ix2 p d) = c (ix2 p d) :=
  congrArg c (funext fun a => Fin.ext (by
    match a with
    | 0 => show 0 + 1 * p.val = p.val; omega
    | 1 => show 0 + 1 * d.val = d.val; omega))

theorem weight_at (w : Vec Ideal S1x1024x1024 .f32) (d e : Fin 1024) : View.ld w r0_1 (ix3 0 d e) = w (ix3 0 d e) :=
  congrArg w (funext fun a => Fin.ext (by
    match a with
    | 0 => show 0 + 1 * 0 = 0; rfl
    | 1 => show 0 + 1 * d.val = d.val; omega
    | 2 => show 0 + 1 * e.val = e.val; omega))

theorem bias_at (b : Vec Ideal S1x1x1024 .f32) (e : Fin 1024) : View.ld b r0_2 (ix3 0 0 e) = b (ix3 0 0 e) :=
  congrArg b (funext fun a => Fin.ext (by
    match a with
    | 0 => show 0 + 1 * 0 = 0; rfl
    | 1 => show 0 + 1 * 0 = 0; rfl
    | 2 => show 0 + 1 * e.val = e.val; omega))

theorem canon_at (P : FVec Ideal S1x136x1024 .f32) : View.canon (Val := Elt Ideal) (s := S1x136x1024) (e := .f32) [⟨r0_3, P⟩] (ix3 0 p e) = P (ix3 0 p e) := by
  have h : (ix3 0 p e : S1x136x1024.Idx) = r0_3.emb (ix3 0 p e) := funext fun a => Fin.ext (by
    match a with
    | 0 => show 0 = 0 + 1 * 0; rfl
    | 1 => show p.val = 0 + 1 * p.val; omega
    | 2 => show e.val = 0 + 1 * e.val; omega)
  conv_lhs => rw [h]
  exact View.canon_cons_emb (Val := Elt Ideal) (e := .f32) r0_3 P [] (ix3 0 p e)

theorem out_at (x0 : Vec Ideal S136x1024 .f32) (x1 : Vec Ideal S1x1024x1024 .f32) (x2 : Vec Ideal S1x1x1024 .f32) :
    out0_3 x0 x1 x2 (ix3 0 p e) = modulation (fun d => x0 (ix2 p d)) (fun d => x1 (ix3 0 d e)) (x2 (ix3 0 0 e)) := by
  unfold out0_3
  rw [canon_at, pay1_at]
  exact congr_modulation (vector_at x0 p) (fun d => weight_at x1 d e) (bias_at x2 e)

end Cert.Kernel5Ideal.Condition
-- ==== Proof.Condition.Array.lean ====
/-
  The conditioning: the arrays the kernel reads, in terms of its arguments, and the array its run ends with.
-/
module

public import proofs.«01_k».proof.Proof.Condition.Body
public import proofs.«01_k».proof.Proof.Gen.Kernel5Ideal.Value
public import Idealize.ShloMosaic.Lib.Pipeline.Value

@[expose] public section

set_option maxRecDepth 16384
set_option maxHeartbeats 1000000

noncomputable section

namespace Cert.Kernel5Ideal.Condition

open Idealize.ShloMosaic Idealize.ShloMosaic.TcCoe Idealize.SL.Sem Idealize.ShloMosaic.Tactic
open Cert.Kernel5Ideal Cert.Kernel5Ideal.Gen Cert.Condition

variable (m : (ℓ : Loc nD τ sig) → Buf (Elt Ideal) ℓ)

/-- The argument arrays of one device. -/
abbrev argC (c : Dev nD) : FVec Ideal S136x1024 .f32 := m ((c : Thread nD τ).loc main_arg0)
abbrev argW (c : Dev nD) : FVec Ideal S2x1024x6144 .f32 := m ((c : Thread nD τ).loc main_arg1)
abbrev argB (c : Dev nD) : FVec Ideal S2x6144 .f32 := m ((c : Thread nD τ).loc main_arg2)

/-! What the host leaves in the arrays the kernel reads. -/
theorem V_arg0 (c : Dev nD) : V m c main_arg0 = argC m c := by
  show StableHlo.after hostOps0 _ _ = _
  after_results
theorem V_arg1 (c : Dev nD) : V m c main_arg1 = argW m c := by
  show StableHlo.after hostOps0 _ _ = _
  after_results
theorem V_v0 (c : Dev nD) : V m c main_v0 = shapeCast S2x1x6144 (argB m c) shapeCasts_S2x6144_S2x1x6144 := by
  show StableHlo.after hostOps0 _ _ = _
  after_results
  rfl

theorem v0_apply (b : FVec Ideal S2x6144 .f32) (l : Fin 2) (d : Fin 6144) :
    shapeCast S2x1x6144 b shapeCasts_S2x6144_S2x1x6144 (ix3 l 0 d) = b (ix2 l d) := by
  pointwise

/-! The grid's position for the sixth `t` of the layer `l`. -/
def pos (l : Fin 2) (t : Fin 6) : Fin cfg0.N := ⟨l.val * 6 + t.val, by rw [show cfg0.N = 12 from N_0]; omega⟩

/-- The column `e` of the sixth `t`. -/
def column (t : Fin 6) (e : Fin 1024) : Fin 6144 := ⟨t.val * 1024 + e.val, by omega⟩

theorem idx0 (l : Fin 2) (t : Fin 6) : win0_0.index (pos l t) 0 = 0 ∧ win0_0.index (pos l t) 1 = 0 := by
  revert l t; decide +kernel
theorem idx1 (l : Fin 2) (t : Fin 6) : win0_1.index (pos l t) 0 = l.val ∧ win0_1.index (pos l t) 1 = 0 ∧ win0_1.index (pos l t) 2 = t.val := by
  revert l t; decide +kernel
theorem idx2 (l : Fin 2) (t : Fin 6) : win0_2.index (pos l t) 0 = l.val ∧ win0_2.index (pos l t) 1 = 0 ∧ win0_2.index (pos l t) 2 = t.val := by
  revert l t; decide +kernel
theorem idx3 : ∀ t : Fin cfg0.N, win0_3.index t 0 = t.val / 6 ∧ win0_3.index t 1 = 0 ∧ win0_3.index t 2 = t.val % 6 :=
  (by decide +kernel : ∀ t : Fin grid0.N, win0_3.index t 0 = t.val / 6 ∧ win0_3.index t 1 = 0 ∧ win0_3.index t 2 = t.val % 6)

variable (c : Dev nD) (l : Fin 2) (t : Fin 6)

theorem iblk0_apply (p : Fin 136) (d : Fin 1024) : (iblk m c 0 (pos l t) : Vec Ideal S136x1024 .f32) (ix2 p d) = argC m c (ix2 p d) := by
  unfold iblk
  rw [View.read_apply]
  show V m c main_arg0 _ = _
  rw [V_arg0]
  congr 1
  obtain ⟨h0, h1⟩ := idx0 l t
  funext y
  apply Fin.ext
  match y with
  | 0 => show win0_0.index (pos l t) 0 * 136 + 1 * p.val = _; rw [h0]; show _ = p.val; omega
  | 1 => show win0_0.index (pos l t) 1 * 1024 + 1 * d.val = _; rw [h1]; show _ = d.val; omega

theorem iblk1_apply (d e : Fin 1024) : (iblk m c 1 (pos l t) : Vec Ideal S1x1024x1024 .f32) (ix3 0 d e) = argW m c (ix3 l d (column t e)) := by
  unfold iblk
  rw [View.read_apply]
  show V m c main_arg1 _ = _
  rw [V_arg1]
  congr 1
  obtain ⟨h0, h1, h2⟩ := idx1 l t
  funext y
  apply Fin.ext
  match y with
  | 0 => show win0_1.index (pos l t) 0 * 1 + 1 * 0 = _; rw [h0]; show _ = l.val; omega
  | 1 => show win0_1.index (pos l t) 1 * 1024 + 1 * d.val = _; rw [h1]; show _ = d.val; omega
  | 2 => show win0_1.index (pos l t) 2 * 1024 + 1 * e.val = _; rw [h2]; show _ = t.val * 1024 + e.val; omega

theorem iblk2_apply (e : Fin 1024) : (iblk m c 2 (pos l t) : Vec Ideal S1x1x1024 .f32) (ix3 0 0 e) = argB m c (ix2 l (column t e)) := by
  unfold iblk
  rw [View.read_apply]
  show V m c main_v0 _ = _
  rw [V_v0]
  refine Eq.trans ?_ (v0_apply (argB m c) l (column t e))
  congr 1
  obtain ⟨h0, h1, h2⟩ := idx2 l t
  funext y
  apply Fin.ext
  match y with
  | 0 => show win0_2.index (pos l t) 0 * 1 + 1 * 0 = _; rw [h0]; show _ = l.val; omega
  | 1 => show win0_2.index (pos l t) 1 * 1 + 1 * 0 = _; rw [h1]; rfl
  | 2 => show win0_2.index (pos l t) 2 * 1024 + 1 * e.val = _; rw [h2]; show _ = t.val * 1024 + e.val; omega

/-- What the body leaves in the output's block at a grid position. -/
def outAt (t : Fin cfg0.N) : FVec Ideal S1x136x1024 .f32 := out0_3 (iblk m c 0 t) (iblk m c 1 t) (iblk m c 2 t)

/-- The same, at an element, in terms of the arguments. -/
theorem outAt_apply (p : Fin 136) (e : Fin 1024) : outAt m c (pos l t) (ix3 0 p e)
    = modulation (fun d => argC m c (ix2 p d)) (fun d => argW m c (ix3 l d (column t e))) (argB m c (ix2 l (column t e))) := by
  unfold outAt
  rw [out_at]
  exact congr_modulation (iblk0_apply m c l t p) (fun d => iblk1_apply m c l t d e) (iblk2_apply m c l t e)

/-- The grid position that writes column `x` of layer `l`. -/
def posOf (l x : ℕ) (hl : l < 2) (hx : x < 6144) : Fin cfg0.N := ⟨l * 6 + x / 1024, by rw [show cfg0.N = 12 from N_0]; omega⟩

/-- The result array. -/
def result : FVec Ideal S2x136x6144 .f32 := fun y =>
  outAt m c (posOf (y 0).val (y 2).val (y 0).isLt (y 2).isLt) (ix3 0 ⟨(y 1).val, (y 1).isLt⟩ ⟨(y 2).val % 1024, Nat.mod_lt _ (by decide)⟩)

theorem result_at (t : Fin cfg0.N) (y : S1x136x1024.Idx) (z : S2x136x6144.Idx) (h0 : (z 0).val = t.val / 6) (h1 : (z 1).val = (y 1).val)
    (h2 : (z 2).val = t.val % 6 * 1024 + (y 2).val) : result m c z = outAt m c t y := by
  have y0 : (y 0).val < 1 := (y 0).isLt
  have y2 : (y 2).val < 1024 := (y 2).isLt
  unfold result
  have e : posOf (z 0).val (z 2).val (z 0).isLt (z 2).isLt = t := Fin.ext (by
    show (z 0).val * 6 + (z 2).val / 1024 = t.val
    omega)
  rw [e]
  congr 1
  funext a
  apply Fin.ext
  match a with
  | 0 => show 0 = (y 0).val; omega
  | 1 => exact h1
  | 2 => show (z 2).val % 1024 = (y 2).val; omega

theorem cut_out (t : Fin cfg0.N) (X : FVec Ideal S1x136x1024 .f32) : (cfg0.win 3).cut (grid0.coords t) X = X := rfl

theorem read_of (t : Fin cfg0.N) (G : FVec Ideal S2x136x6144 .f32) (X : FVec Ideal S1x136x1024 .f32)
    (h : ∀ (y : S1x136x1024.Idx) (z : S2x136x6144.Idx), (z 0).val = t.val / 6 → (z 1).val = (y 1).val → (z 2).val = t.val % 6 * 1024 + (y 2).val → G z = X y) :
    ((cfg0.win 3).blk t).view.read (Elt Ideal) G = X := by
  obtain ⟨h0, h1, h2⟩ := idx3 t
  funext y
  have y0 : (y 0).val < 1 := (y 0).isLt
  rw [View.read_apply]
  refine h y (((cfg0.win 3).blk t).view.emb y) ?_ ?_ ?_
  · show win0_3.index t 0 * 1 + 1 * (y 0).val = _; rw [h0]; omega
  · show win0_3.index t 1 * 136 + 1 * (y 1).val = _; rw [h1]; omega
  · show win0_3.index t 2 * 1024 + 1 * (y 2).val = _; rw [h2]; omega

theorem flushed_out (t : Fin cfg0.N) : (dats m 0 c).flushed 3 t = outAt m c t :=
  (Cert.Kernel5Ideal.Value.flushed3 m c t).trans (cut_out t (outAt m c t))

theorem flushed_eq (t : Fin cfg0.N) (_ : (cfg0.win 3).flush t = true) :
    (dats m 0 c).flushed 3 t = ((cfg0.win 3).blk t).view.read (Elt Ideal) (result m c) :=
  (flushed_out m c t).trans (read_of t (result m c) (outAt m c t) (result_at m c t)).symm

theorem final_out : (dats m 0 c).arrAt 3 cfg0.N = result m c :=
  (dats m 0 c).arrAt_eq_of_cover 3 (result m c) (flushed_eq m c) fun i => by
    have i0 : (i 0 : ℕ) < 2 := (i 0).isLt
    have i1 : (i 1 : ℕ) < 136 := (i 1).isLt
    have i2 : (i 2 : ℕ) < 6144 := (i 2).isLt
    refine ⟨posOf (i 0).val (i 2).val i0 i2, flush0_3 _, ?_⟩
    show i ∈ ((View.whole main_v1).slice (win0_3.rect (posOf (i 0).val (i 2).val i0 i2))).set
    rw [View.set_slice_whole, Rect.mem_set_unit]
    obtain ⟨h0, h1, h2⟩ := idx3 (posOf (i 0).val (i 2).val i0 i2)
    have hp : (posOf (i 0).val (i 2).val i0 i2).val = (i 0).val * 6 + (i 2).val / 1024 := rfl
    intro a
    match a with
    | ⟨0, _⟩ =>
      show win0_3.index (posOf (i 0).val (i 2).val i0 i2) 0 * 1 ≤ (i 0 : ℕ) ∧ (i 0 : ℕ) < win0_3.index (posOf (i 0).val (i 2).val i0 i2) 0 * 1 + 1
      rw [h0, hp]; omega
    | ⟨1, _⟩ =>
      show win0_3.index (posOf (i 0).val (i 2).val i0 i2) 1 * 136 ≤ (i 1 : ℕ) ∧ (i 1 : ℕ) < win0_3.index (posOf (i 0).val (i 2).val i0 i2) 1 * 136 + 136
      rw [h1]; omega
    | ⟨2, _⟩ =>
      show win0_3.index (posOf (i 0).val (i 2).val i0 i2) 2 * 1024 ≤ (i 2 : ℕ) ∧ (i 2 : ℕ) < win0_3.index (posOf (i 0).val (i 2).val i0 i2) 2 * 1024 + 1024
      rw [h2, hp]; omega

end Cert.Kernel5Ideal.Condition
-- ==== Proof.Condition.Reference.lean ====
/-
  The conditioning: the reference read at an element.
-/
module

public import proofs.«01_k».proof.Proof.Condition.Body
public import proofs.«01_k».proof.Proof.Gen.Reference5Ideal.Read

@[expose] public section

set_option maxRecDepth 16384

noncomputable section

namespace Cert.Reference5Ideal.Condition

open Idealize.ShloMosaic Cert.Reference5Ideal Cert.Reference5Ideal.Read Cert.Reference5Ideal.Gen
open Cert.Condition

variable (c : FVec Ideal S136x1024 .f32) (w : FVec Ideal S2x1024x6144 .f32) (b : FVec Ideal S2x6144 .f32)
variable (p : Fin 136) (e : Fin 6144)

theorem gate0_at (d : Fin 1024) : val_main_v0 (F := Ideal) c (ix2 p d) = Ideal.div (c (ix2 p d)) (1 + Ideal.exp (0 - c (ix2 p d))) := by
  rw [Cert.Feed.gate_eq]
  pointwise [val_main_v0, val_main_call0_v5, val_main_call0_v4, val_main_call0_v3, val_main_call0_v2, val_main_call0_v1, val_main_call0_v0, val_main_call0_cst, val_main_call0_cst_0]

theorem gate1_at (d : Fin 1024) : val_main_v9 (F := Ideal) c (ix2 p d) = Ideal.div (c (ix2 p d)) (1 + Ideal.exp (0 - c (ix2 p d))) := by
  rw [Cert.Feed.gate_eq]
  pointwise [val_main_v9, val_main_call1_v5, val_main_call1_v4, val_main_call1_v3, val_main_call1_v2, val_main_call1_v1, val_main_call1_v0, val_main_call1_cst, val_main_call1_cst_0]

theorem layer0_at : val_main_v8 (F := Ideal) c w b (ix2 p e) = modulation (fun d => c (ix2 p d)) (fun d => w (ix3 0 d e)) (b (ix2 0 e)) := by
  have hw : ∀ d, val_main_v2 (F := Ideal) w (ix2 d e) = w (ix3 0 d e) := fun d => by pointwise [val_main_v2, val_main_v1]
  have hb : val_main_v7 (F := Ideal) b (ix2 p e) = b (ix2 0 e) := by pointwise [val_main_v7, val_main_v6, val_main_v5, val_main_v4]
  rw [val_main_v8_apply, val_main_v3_apply, hb]
  refine congrArg (· + b (ix2 0 e)) (Finset.sum_congr rfl fun d _ => ?_)
  show _ = Ideal.div (c (ix2 p d)) (1 + Ideal.exp (0 - c (ix2 p d))) * w (ix3 0 d e)
  rw [← hw, ← gate0_at]
  exact congrArg₂ (· * ·) (congrArg _ (funext fun a => by fin_cases a <;> rfl)) (congrArg _ (funext fun a => by fin_cases a <;> rfl))

theorem layer1_at : val_main_v17 (F := Ideal) c w b (ix2 p e) = modulation (fun d => c (ix2 p d)) (fun d => w (ix3 1 d e)) (b (ix2 1 e)) := by
  have hw : ∀ d, val_main_v11 (F := Ideal) w (ix2 d e) = w (ix3 1 d e) := fun d => by pointwise [val_main_v11, val_main_v10]
  have hb : val_main_v16 (F := Ideal) b (ix2 p e) = b (ix2 1 e) := by pointwise [val_main_v16, val_main_v15, val_main_v14, val_main_v13]
  rw [val_main_v17_apply, val_main_v12_apply, hb]
  refine congrArg (· + b (ix2 1 e)) (Finset.sum_congr rfl fun d _ => ?_)
  show _ = Ideal.div (c (ix2 p d)) (1 + Ideal.exp (0 - c (ix2 p d))) * w (ix3 1 d e)
  rw [← hw, ← gate1_at]
  exact congrArg₂ (· * ·) (congrArg _ (funext fun a => by fin_cases a <;> rfl)) (congrArg _ (funext fun a => by fin_cases a <;> rfl))

theorem result0_at : val_main_v20 (F := Ideal) c w b (ix3 0 p e) = modulation (fun d => c (ix2 p d)) (fun d => w (ix3 0 d e)) (b (ix2 0 e)) := by
  have h := layer0_at c w b p e
  unfold val_main_v20 val_main_v19 val_main_v18
  generalize val_main_v8 (F := Ideal) c w b = y at h ⊢
  generalize val_main_v17 (F := Ideal) c w b = z
  pointwise
  exact h

theorem result1_at : val_main_v20 (F := Ideal) c w b (ix3 1 p e) = modulation (fun d => c (ix2 p d)) (fun d => w (ix3 1 d e)) (b (ix2 1 e)) := by
  have h := layer1_at c w b p e
  unfold val_main_v20 val_main_v19 val_main_v18
  generalize val_main_v8 (F := Ideal) c w b = y
  generalize val_main_v17 (F := Ideal) c w b = z at h ⊢
  pointwise
  exact h

theorem result_at (l : Fin 2) : val_main_v20 (F := Ideal) c w b (ix3 l p e) = modulation (fun d => c (ix2 p d)) (fun d => w (ix3 l d e)) (b (ix2 l e)) := by
  match l with
  | 0 => exact result0_at c w b p e
  | 1 => exact result1_at c w b p e

end Cert.Reference5Ideal.Condition
-- ==== Proof.Condition.Equal.lean ====
/-
  The conditioning: the two programs end with equal results.
-/
module

public import proofs.«01_k».proof.Defs
public import proofs.«01_k».proof.Proof.Gen.Reference5Ideal.Run
public import proofs.«01_k».proof.Proof.Condition.Array
public import proofs.«01_k».proof.Proof.Condition.Reference

@[expose] public section

set_option maxRecDepth 16384

noncomputable section

namespace Cert.Condition

open Idealize.ShloMosaic Idealize.ShloMosaic.TcCoe Idealize.SL.Sem Cert.Kernel5Ideal.Condition Cert.Kernel5Ideal.Gen

variable (m : (ℓ : Loc Cert.Kernel5Ideal.nD Cert.Kernel5Ideal.τ Cert.Kernel5Ideal.sig) → Buf (Elt Ideal) ℓ) (c : Dev Cert.Kernel5Ideal.nD)

theorem result_at_eq (l : Fin 2) (p : Fin 136) (e : Fin 6144) :
    result m c (ix3 l p e) = Cert.Reference5Ideal.Read.val_main_v20 (F := Ideal) (argC m c) (argW m c) (argB m c) (ix3 l p e) := by
  let t : Fin 6 := ⟨e.val / 1024, by omega⟩
  let q : Fin 1024 := ⟨e.val % 1024, by omega⟩
  have h0 : l.val = (l.val * 6 + e.val / 1024) / 6 := by omega
  have h2 : e.val = (l.val * 6 + e.val / 1024) % 6 * 1024 + e.val % 1024 := by omega
  have he : column t q = e := Fin.ext (by show e.val / 1024 * 1024 + e.val % 1024 = e.val; omega)
  rw [Cert.Kernel5Ideal.Condition.result_at m c (pos l t) (ix3 0 p q) (ix3 l p e) h0 rfl h2, outAt_apply, he, Cert.Reference5Ideal.Condition.result_at]

theorem result_eq_reference : result m c = Cert.Reference5Ideal.Read.val_main_v20 (F := Ideal) (argC m c) (argW m c) (argB m c) := by
  funext z
  have hz : z = ix3 (z 0) (z 1) (z 2) := funext fun a => by fin_cases a <;> rfl
  exact (congrArg _ hz).trans ((result_at_eq m c (z 0) (z 1) (z 2)).trans (congrArg _ hz.symm))

/-- From equal arguments both runs end with this array. -/
theorem algebraic : Cert.algebraic_Kernel5Ideal_Reference5Ideal :=
  fun m g m' g' _ hargs => by
    refine ⟨fun c => result m c, (θ_run Cert.Kernel5Ideal.defs _ _).mono (fun r h c => ⟨(h c).1.trans (final_out m c), (h c).2⟩) (Cert.Kernel5Ideal.Value.run_blocks m g), ?_⟩
    refine (θ_run Cert.Reference5Ideal.defs _ _).mono (fun r h c => ⟨(h c).1.trans ?_, (h c).2⟩) (Cert.Reference5Ideal.Value.run (F := Ideal) m' g')
    obtain ⟨h0, h1, h2⟩ := hargs c
    refine Eq.trans ?_ (result_eq_reference m c).symm
    rw [Cert.Reference5Ideal.Read.val_main_v20_eq, h0, h1, h2]

end Cert.Condition
-- ==== Proof.Token.Body.lean ====
/-
  What the body of the wider projection leaves in its three blocks, read at an element.
-/
module

public import proofs.«01_k».proof.Proof.Project.Body
public import proofs.«01_k».proof.Proof.Gen.Kernel6Ideal.Frame
public import Idealize.ShloMosaic.Lib.Pipeline.Value

@[expose] public section

set_option maxRecDepth 16384
set_option maxHeartbeats 1000000

noncomputable section

namespace Cert.Feed

open Idealize.ShloMosaic

/-- One token's projection to the wider keys and values: the normalised and modulated row times a column of weights. -/
def wide (x g scale shift : Fin 1024 → EReal) (w : Fin 1024 → Fin 2048 → EReal) (a : Fin 2048) : EReal :=
  ∑ e, inner x g scale shift e * w e a

end Cert.Feed

namespace Cert.Kernel6Ideal.Token

open Idealize.ShloMosaic Idealize.SL.Sem
open Cert.Kernel6Ideal Cert.Kernel6Ideal.Gen Cert.Feed

variable (p : Fin 128) (d : Fin 1024) (a : Fin 512)

theorem pay2_at (s c : Vec Ideal S1x128x1024 .f32) (x : Vec Ideal S128x1024 .f32) (g : Vec Ideal S1x1024 .f32) (w : Vec Ideal S1024x2048 .bf16) (a : Fin 2048) :
    k0_pay2 s c x g w (ix2 p a)
      = wide (fun d => x (ix2 p d)) (fun d => g (ix2 0 d)) (fun d => c (ix3 0 p d)) (fun d => s (ix3 0 p d)) (fun e a => w (ix2 e a)) a := by
  pointwise [k0_pay2]
  rfl

theorem gain_at (g : Vec Ideal S4x1024 .f32) (d : Fin 1024) : View.ld g r0_3 (ix2 0 d) = g (ix2 0 d) :=
  congrArg g (funext fun a => Fin.ext (by
    match a with
    | 0 => show 0 + 1 * 0 = 0; rfl
    | 1 => show 0 + 1 * d.val = d.val; omega))

theorem part_at (s : Vec Ideal S1x128x6144 .f32) (n : ℕ) (hn) (p : Fin 128) (d : Fin 1024) (x : Fin 6144) (hx : x.val = n + d.val) :
    View.ld s (Rect.unit (s := S1x128x6144) ![0, 0, n] S1x128x1024.size hn) (ix3 0 p d) = s (ix3 0 p x) :=
  congrArg s (funext fun a => Fin.ext (by
    match a with
    | 0 => show 0 + 1 * 0 = 0; rfl
    | 1 => show 0 + 1 * p.val = p.val; omega
    | 2 => show n + 1 * d.val = x.val; omega))

theorem block_at (x : Vec Ideal S128x1024 .f32) (p : Fin 128) (d : Fin 1024) : View.ld x r0_2 (ix2 p d) = x (ix2 p d) :=
  congrArg x (funext fun a => Fin.ext (by
    match a with
    | 0 => show 0 + 1 * p.val = p.val; omega
    | 1 => show 0 + 1 * d.val = d.val; omega))

theorem weight_at (x : Vec Ideal S1024x2048 .bf16) (e : Fin 1024) (a : Fin 2048) : View.ld x r0_4 (ix2 e a) = x (ix2 e a) :=
  congrArg x (funext fun i => Fin.ext (by
    match i with
    | 0 => show 0 + 1 * e.val = e.val; omega
    | 1 => show 0 + 1 * a.val = a.val; omega))

theorem congr_wide {x x' g g' c c' s s' : Fin 1024 → EReal} {w w' : Fin 1024 → Fin 2048 → EReal} (h1 : ∀ d, x d = x' d) (h2 : ∀ d, g d = g' d)
    (h3 : ∀ d, c d = c' d) (h4 : ∀ d, s d = s' d) (h5 : ∀ e a, w e a = w' e a) (a : Fin 2048) : wide x g c s w a = wide x' g' c' s' w' a := by
  rw [funext h1, funext h2, funext h3, funext h4, funext fun e => funext (h5 e)]

variable (x0 : Vec Ideal S128x1024 .f32) (x1 : Vec Ideal S1x128x6144 .f32) (x2 : Vec Ideal S4x1024 .f32) (x3 : Vec Ideal S1024x2048 .bf16)

/-- The sixth `n` of the modulation. -/
def part (n : Fin 6) (d : Fin 1024) : EReal := x1 (ix3 0 p ⟨n.val * 1024 + d.val, by omega⟩)

/-- The block's projection at an element. -/
def wide_block (a : Fin 2048) : EReal := wide (fun d => x0 (ix2 p d)) (fun d => x2 (ix2 0 d)) (part p x1 1) (part p x1 0) (fun e a => x3 (ix2 e a)) a

theorem all_at (a : Fin 2048) : k0_pay2 (View.ld x1 r0_0) (View.ld x1 r0_1) (View.ld x0 r0_2) (View.ld x2 r0_3) (View.ld x3 r0_4) (ix2 p a) = wide_block p x0 x1 x2 x3 a :=
  (pay2_at p _ _ _ _ _ a).trans (congr_wide (block_at x0 p) (gain_at x2)
    (fun d => part_at x1 1024 inb_S1x128x6144_S1x128x1024_0_0_1024 p d ⟨1 * 1024 + d.val, by omega⟩ (by dsimp only))
    (fun d => part_at x1 0 inb_S1x128x6144_S1x128x1024_0_0_0 p d ⟨0 * 1024 + d.val, by omega⟩ (by dsimp only))
    (weight_at x3) a)

theorem canon_wide (P : FVec Ideal S128x1024 .bf16) : View.canon (Val := Elt Ideal) (s := S128x1024) (e := .bf16) [⟨r0_2, P⟩] (ix2 p d) = P (ix2 p d) := by
  have e : (ix2 p d : S128x1024.Idx) = r0_2.emb (ix2 p d) := funext fun a => Fin.ext (by
    match a with
    | 0 => show p.val = 0 + 1 * p.val; omega
    | 1 => show d.val = 0 + 1 * d.val; omega)
  conv_lhs => rw [e]
  exact View.canon_cons_emb (Val := Elt Ideal) (e := .bf16) r0_2 P [] (ix2 p d)

theorem canon_narrow (P : FVec Ideal S128x512 .f32) : View.canon (Val := Elt Ideal) (s := S128x512) (e := .f32) [⟨r0_5, P⟩] (ix2 p a) = P (ix2 p a) := by
  have e : (ix2 p a : S128x512.Idx) = r0_5.emb (ix2 p a) := funext fun i => Fin.ext (by
    match i with
    | 0 => show p.val = 0 + 1 * p.val; omega
    | 1 => show a.val = 0 + 1 * a.val; omega)
  conv_lhs => rw [e]
  exact View.canon_cons_emb (Val := Elt Ideal) (e := .f32) r0_5 P [] (ix2 p a)

theorem query_at : out0_4 x0 x1 x2 x3 (ix2 p d) = wide_block p x0 x1 x2 x3 ⟨d.val, by omega⟩ * eighth := by
  have h := all_at p x0 x1 x2 x3 ⟨d.val, by omega⟩
  unfold out0_4
  rw [canon_wide]
  unfold k0_pay3
  generalize k0_pay2 (View.ld x1 r0_0) (View.ld x1 r0_1) (View.ld x0 r0_2) (View.ld x2 r0_3) (View.ld x3 r0_4) = y at h ⊢
  pointwise
  rw [← h]
  rfl

theorem key_at : out0_5 x0 x1 x2 x3 (ix2 p a) = wide_block p x0 x1 x2 x3 ⟨1024 + a.val, by omega⟩ := by
  have h := all_at p x0 x1 x2 x3 ⟨1024 + a.val, by omega⟩
  unfold out0_5
  rw [canon_narrow]
  unfold k0_pay4
  generalize k0_pay2 (View.ld x1 r0_0) (View.ld x1 r0_1) (View.ld x0 r0_2) (View.ld x2 r0_3) (View.ld x3 r0_4) = y at h ⊢
  pointwise
  exact h

theorem value_at : out0_6 x0 x1 x2 x3 (ix2 p a) = wide_block p x0 x1 x2 x3 ⟨1536 + a.val, by omega⟩ := by
  have h := all_at p x0 x1 x2 x3 ⟨1536 + a.val, by omega⟩
  unfold out0_6
  rw [canon_narrow]
  unfold k0_pay1
  generalize k0_pay2 (View.ld x1 r0_0) (View.ld x1 r0_1) (View.ld x0 r0_2) (View.ld x2 r0_3) (View.ld x3 r0_4) = y at h ⊢
  pointwise
  exact h

end Cert.Kernel6Ideal.Token
-- ==== Proof.Token.Array.lean ====
/-
  The arrays the wider projection reads, for the samples, in terms of its arguments, and the three arrays its run ends with.
-/
module

public import proofs.«01_k».proof.Proof.Token.Body
public import proofs.«01_k».proof.Proof.Gen.Kernel6Ideal.Value
public import Idealize.ShloMosaic.Lib.Pipeline.Value

@[expose] public section

set_option maxRecDepth 16384
set_option maxHeartbeats 1000000

noncomputable section

namespace Cert.Kernel6Ideal.Token

open Idealize.ShloMosaic Idealize.ShloMosaic.TcCoe Idealize.SL.Sem Idealize.ShloMosaic.Tactic
open Cert.Kernel6Ideal Cert.Kernel6Ideal.Gen Cert.Feed

variable (m : (ℓ : Loc nD τ sig) → Buf (Elt Ideal) ℓ)

/-- The argument arrays of one device. -/
abbrev argX (c : Dev nD) : FVec Ideal S128x4x1024 .f32 := m ((c : Thread nD τ).loc main_arg0)
abbrev argS (c : Dev nD) : FVec Ideal S128x6144 .f32 := m ((c : Thread nD τ).loc main_arg1)
abbrev argG (c : Dev nD) : FVec Ideal S2x4x1024 .f32 := m ((c : Thread nD τ).loc main_arg2)
abbrev argW (c : Dev nD) : FVec Ideal S1x1024x2048 .f32 := m ((c : Thread nD τ).loc main_arg3)

/-! What the host leaves in the arrays the kernel reads. -/
theorem V_v1 (c : Dev nD) : V m c main_v1 = shapeCast S4x1024 (extractStridedSlice S1x4x1024 ![1, 0, 0] (argG m c) slices_S2x4x1024_S1x4x1024_1_0_0) shapeCasts_S1x4x1024_S4x1024 := by
  show StableHlo.after hostOps0 _ _ = _
  after_results
  rfl
theorem V_v3 (c : Dev nD) : V m c main_v3 = truncf .bf16 (shapeCast S1024x2048 (argW m c) shapeCasts_S1x1024x2048_S1024x2048) bitsLt_bf16_f32 := by
  show StableHlo.after hostOps0 _ _ = _
  after_results
  rfl
theorem V_v5 (c : Dev nD) : V m c main_v5 = shapeCast S512x1024 (transpose S4x128x1024 [1, 0, 2] (argX m c) transposes_S128x4x1024_S4x128x1024_1_0_2) shapeCasts_S4x128x1024_S512x1024 := by
  show StableHlo.after hostOps0 _ _ = _
  after_results
  rfl
theorem V_v6 (c : Dev nD) : V m c main_v6 = shapeCast S1x128x6144 (argS m c) shapeCasts_S128x6144_S1x128x6144 := by
  show StableHlo.after hostOps0 _ _ = _
  after_results
  rfl

theorem v1_apply (g : FVec Ideal S2x4x1024 .f32) (k : Fin 4) (d : Fin 1024) :
    shapeCast S4x1024 (extractStridedSlice S1x4x1024 ![1, 0, 0] g slices_S2x4x1024_S1x4x1024_1_0_0) shapeCasts_S1x4x1024_S4x1024 (ix2 k d) = g (ix3 1 k d) := by
  pointwise
theorem v3_apply (w : FVec Ideal S1x1024x2048 .f32) (e : Fin 1024) (a : Fin 2048) :
    (truncf .bf16 (shapeCast S1024x2048 w shapeCasts_S1x1024x2048_S1024x2048) bitsLt_bf16_f32 : FVec Ideal S1024x2048 .bf16) (ix2 e a) = w (ix3 0 e a) := by
  pointwise
theorem v5_apply (x : FVec Ideal S128x4x1024 .f32) (i : Fin 4) (p : Fin 128) (d : Fin 1024) :
    shapeCast S512x1024 (transpose S4x128x1024 [1, 0, 2] x transposes_S128x4x1024_S4x128x1024_1_0_2) shapeCasts_S4x128x1024_S512x1024 (ix2 ⟨i.val * 128 + p.val, by omega⟩ d) = x (ix3 p i d) := by
  pointwise
theorem v6_apply (s : FVec Ideal S128x6144 .f32) (p : Fin 128) (d : Fin 6144) :
    shapeCast S1x128x6144 s shapeCasts_S128x6144_S1x128x6144 (ix3 0 p d) = s (ix2 p d) := by
  pointwise

/-! The grid's position for the token `i` of every sample. -/
def pos (i : Fin 4) : Fin cfg0.N := ⟨i.val, by rw [show cfg0.N = 4 from N_0]; omega⟩

theorem idx0 (i : Fin 4) : win0_0.index (pos i) 0 = i.val ∧ win0_0.index (pos i) 1 = 0 := by
  revert i; decide +kernel
theorem idx1 (i : Fin 4) : win0_1.index (pos i) 0 = 0 ∧ win0_1.index (pos i) 1 = 0 ∧ win0_1.index (pos i) 2 = 0 := by
  revert i; decide +kernel
theorem idx23 (i : Fin 4) : (win0_2.index (pos i) 0 = 0 ∧ win0_2.index (pos i) 1 = 0) ∧ win0_3.index (pos i) 0 = 0 ∧ win0_3.index (pos i) 1 = 0 := by
  revert i; decide +kernel
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)

variable (c : Dev nD) (i : Fin 4)

theorem iblk0_apply (p : Fin 128) (d : Fin 1024) : (iblk m c 0 (pos i) : Vec Ideal S128x1024 .f32) (ix2 p d) = argX m c (ix3 p i d) := by
  unfold iblk
  rw [View.read_apply]
  show V m c main_v5 _ = _
  rw [V_v5]
  refine Eq.trans ?_ (v5_apply (argX m c) i p d)
  congr 1
  obtain ⟨h0, h1⟩ := idx0 i
  funext y
  apply Fin.ext
  match y with
  | 0 => show win0_0.index (pos i) 0 * 128 + 1 * p.val = _; rw [h0]; show _ = i.val * 128 + p.val; omega
  | 1 => show win0_0.index (pos i) 1 * 1024 + 1 * d.val = _; rw [h1]; show _ = d.val; omega

theorem iblk1_apply (p : Fin 128) (d : Fin 6144) : (iblk m c 1 (pos i) : Vec Ideal S1x128x6144 .f32) (ix3 0 p d) = argS m c (ix2 p d) := by
  unfold iblk
  rw [View.read_apply]
  show V m c main_v6 _ = _
  rw [V_v6]
  refine Eq.trans ?_ (v6_apply (argS m c) p d)
  congr 1
  obtain ⟨h0, h1, h2⟩ := idx1 i
  funext y
  apply Fin.ext
  match y with
  | 0 => show win0_1.index (pos i) 0 * 1 + 1 * 0 = _; rw [h0]; rfl
  | 1 => show win0_1.index (pos i) 1 * 128 + 1 * p.val = _; rw [h1]; show _ = p.val; omega
  | 2 => show win0_1.index (pos i) 2 * 6144 + 1 * d.val = _; rw [h2]; show _ = d.val; omega

theorem iblk2_apply (k : Fin 4) (d : Fin 1024) : (iblk m c 2 (pos i) : Vec Ideal S4x1024 .f32) (ix2 k d) = argG m c (ix3 1 k d) := by
  unfold iblk
  rw [View.read_apply]
  show V m c main_v1 _ = _
  rw [V_v1]
  refine Eq.trans ?_ (v1_apply (argG m c) k d)
  congr 1
  obtain ⟨⟨h0, h1⟩, -⟩ := idx23 i
  funext y
  apply Fin.ext
  match y with
  | 0 => show win0_2.index (pos i) 0 * 4 + 1 * k.val = _; rw [h0]; show _ = k.val; omega
  | 1 => show win0_2.index (pos i) 1 * 1024 + 1 * d.val = _; rw [h1]; show _ = d.val; omega

theorem iblk3_apply (e : Fin 1024) (a : Fin 2048) : (iblk m c 3 (pos i) : Vec Ideal S1024x2048 .bf16) (ix2 e a) = argW m c (ix3 0 e a) := by
  unfold iblk
  rw [View.read_apply]
  show V m c main_v3 _ = _
  rw [V_v3]
  refine Eq.trans ?_ (v3_apply (argW m c) e a)
  congr 1
  obtain ⟨-, h0, h1⟩ := idx23 i
  funext y
  apply Fin.ext
  match y with
  | 0 => show win0_3.index (pos i) 0 * 1024 + 1 * e.val = _; rw [h0]; show _ = e.val; omega
  | 1 => show win0_3.index (pos i) 1 * 2048 + 1 * a.val = _; rw [h1]; show _ = a.val; omega

/-- A block's projection, in terms of the arguments. -/
theorem wide_block_eq (p : Fin 128) (a : Fin 2048) : wide_block p (iblk m c 0 (pos i)) (iblk m c 1 (pos i)) (iblk m c 2 (pos i)) (iblk m c 3 (pos i)) a
    = wide (fun d => argX m c (ix3 p i d)) (fun d => argG m c (ix3 1 0 d)) (fun d => argS m c (ix2 p ⟨1 * 1024 + d.val, by omega⟩))
        (fun d => argS m c (ix2 p ⟨0 * 1024 + d.val, by omega⟩)) (fun e a => argW m c (ix3 0 e a)) a :=
  congr_wide (iblk0_apply m c i p) (iblk2_apply m c i 0) (fun d => iblk1_apply m c i p ⟨1 * 1024 + d.val, by omega⟩)
    (fun d => iblk1_apply m c i p ⟨0 * 1024 + d.val, by omega⟩) (iblk3_apply m c i) a

/-- The grid position that writes row `x`. -/
def posOf (x : ℕ) (hx : x < 512) : Fin cfg0.N := ⟨x / 128, by rw [show cfg0.N = 4 from N_0]; omega⟩

/-! The queries: what the body leaves in a block, and the array. -/
def queryAt (t : Fin cfg0.N) : FVec Ideal S128x1024 .bf16 :=
  out0_4 (iblk m c 0 t) (iblk m c 1 t) (iblk m c 2 t) (iblk m c 3 t)

def queryArray : FVec Ideal S512x1024 .bf16 := fun y =>
  queryAt m c (posOf (y 0).val (y 0).isLt) (ix2 ⟨(y 0).val % 128, Nat.mod_lt _ (by decide)⟩ ⟨(y 1).val, (y 1).isLt⟩)

theorem queryArray_at (t : Fin cfg0.N) (y : S128x1024.Idx) (z : S512x1024.Idx) (h0 : (z 0).val = t.val * 128 + (y 0).val) (h1 : (z 1).val = (y 1).val) :
    queryArray m c z = queryAt m c t y := by
  have y0 : (y 0).val < 128 := (y 0).isLt
  unfold queryArray
  have e : posOf (z 0).val (z 0).isLt = t := Fin.ext (by
    show (z 0).val / 128 = t.val
    omega)
  rw [e]
  congr 1
  funext a
  apply Fin.ext
  match a with
  | 0 => show (z 0).val % 128 = (y 0).val; omega
  | 1 => exact h1

theorem query_cut (t : Fin cfg0.N) (X : FVec Ideal S128x1024 .bf16) : (cfg0.win 4).cut (grid0.coords t) X = X := rfl

theorem query_read (t : Fin cfg0.N) (G : FVec Ideal S512x1024 .bf16) (X : FVec Ideal S128x1024 .bf16)
    (h : ∀ (y : S128x1024.Idx) (z : S512x1024.Idx), (z 0).val = t.val * 128 + (y 0).val → (z 1).val = (y 1).val → G z = X y) :
    ((cfg0.win 4).blk t).view.read (Elt Ideal) G = X := by
  obtain ⟨h0, h1⟩ := idx4 t
  funext y
  rw [View.read_apply]
  refine h y (((cfg0.win 4).blk t).view.emb y) ?_ ?_
  · show win0_4.index t 0 * 128 + 1 * (y 0).val = _; rw [h0]; omega
  · show win0_4.index t 1 * 1024 + 1 * (y 1).val = _; rw [h1]; omega

theorem query_flushed (t : Fin cfg0.N) : (dats m 0 c).flushed 4 t = queryAt m c t :=
  (Cert.Kernel6Ideal.Value.flushed4 m c t).trans (query_cut t (queryAt m c t))

theorem query_eq (t : Fin cfg0.N) (_ : (cfg0.win 4).flush t = true) :
    (dats m 0 c).flushed 4 t = ((cfg0.win 4).blk t).view.read (Elt Ideal) (queryArray m c) :=
  (query_flushed m c t).trans (query_read t (queryArray m c) (queryAt m c t) (queryArray_at m c t)).symm

theorem query_final : (dats m 0 c).arrAt 4 cfg0.N = queryArray m c :=
  (dats m 0 c).arrAt_eq_of_cover 4 (queryArray m c) (query_eq m c) fun i => by
    have i0 : (i 0 : ℕ) < 512 := (i 0).isLt
    have i1 : (i 1 : ℕ) < 1024 := (i 1).isLt
    refine ⟨posOf (i 0).val i0, flush0_4 _, ?_⟩
    show i ∈ ((View.whole main_v7_0).slice (win0_4.rect (posOf (i 0).val i0))).set
    rw [View.set_slice_whole, Rect.mem_set_unit]
    obtain ⟨h0, h1⟩ := idx4 (posOf (i 0).val i0)
    have hp : (posOf (i 0).val i0).val = (i 0).val / 128 := rfl
    intro a
    match a with
    | ⟨0, _⟩ =>
      show win0_4.index (posOf (i 0).val i0) 0 * 128 ≤ (i 0 : ℕ) ∧ (i 0 : ℕ) < win0_4.index (posOf (i 0).val i0) 0 * 128 + 128
      rw [h0, hp]; omega
    | ⟨1, _⟩ =>
      show win0_4.index (posOf (i 0).val i0) 1 * 1024 ≤ (i 1 : ℕ) ∧ (i 1 : ℕ) < win0_4.index (posOf (i 0).val i0) 1 * 1024 + 1024
      rw [h1]; omega

/-! The keys. -/
def keyAt (t : Fin cfg0.N) : FVec Ideal S128x512 .f32 :=
  out0_5 (iblk m c 0 t) (iblk m c 1 t) (iblk m c 2 t) (iblk m c 3 t)

def keyArray : FVec Ideal S512x512 .f32 := fun y =>
  keyAt m c (posOf (y 0).val (y 0).isLt) (ix2 ⟨(y 0).val % 128, Nat.mod_lt _ (by decide)⟩ ⟨(y 1).val, (y 1).isLt⟩)

theorem keyArray_at (t : Fin cfg0.N) (y : S128x512.Idx) (z : S512x512.Idx) (h0 : (z 0).val = t.val * 128 + (y 0).val) (h1 : (z 1).val = (y 1).val) :
    keyArray m c z = keyAt m c t y := by
  have y0 : (y 0).val < 128 := (y 0).isLt
  unfold keyArray
  have e : posOf (z 0).val (z 0).isLt = t := Fin.ext (by
    show (z 0).val / 128 = t.val
    omega)
  rw [e]
  congr 1
  funext a
  apply Fin.ext
  match a with
  | 0 => show (z 0).val % 128 = (y 0).val; omega
  | 1 => exact h1

theorem key_cut (t : Fin cfg0.N) (X : FVec Ideal S128x512 .f32) : (cfg0.win 5).cut (grid0.coords t) X = X := rfl

theorem key_read (t : Fin cfg0.N) (G : FVec Ideal S512x512 .f32) (X : FVec Ideal S128x512 .f32)
    (h : ∀ (y : S128x512.Idx) (z : S512x512.Idx), (z 0).val = t.val * 128 + (y 0).val → (z 1).val = (y 1).val → G z = X y) :
    ((cfg0.win 5).blk t).view.read (Elt Ideal) G = X := by
  obtain ⟨h0, h1⟩ := idx5 t
  funext y
  rw [View.read_apply]
  refine h y (((cfg0.win 5).blk t).view.emb y) ?_ ?_
  · show win0_5.index t 0 * 128 + 1 * (y 0).val = _; rw [h0]; omega
  · show win0_5.index t 1 * 512 + 1 * (y 1).val = _; rw [h1]; omega

theorem key_flushed (t : Fin cfg0.N) : (dats m 0 c).flushed 5 t = keyAt m c t :=
  (Cert.Kernel6Ideal.Value.flushed5 m c t).trans (key_cut t (keyAt m c t))

theorem key_eq (t : Fin cfg0.N) (_ : (cfg0.win 5).flush t = true) :
    (dats m 0 c).flushed 5 t = ((cfg0.win 5).blk t).view.read (Elt Ideal) (keyArray m c) :=
  (key_flushed m c t).trans (key_read t (keyArray m c) (keyAt m c t) (keyArray_at m c t)).symm

theorem key_final : (dats m 0 c).arrAt 5 cfg0.N = keyArray m c :=
  (dats m 0 c).arrAt_eq_of_cover 5 (keyArray m c) (key_eq m c) fun i => by
    have i0 : (i 0 : ℕ) < 512 := (i 0).isLt
    have i1 : (i 1 : ℕ) < 512 := (i 1).isLt
    refine ⟨posOf (i 0).val i0, flush0_5 _, ?_⟩
    show i ∈ ((View.whole main_v7_1).slice (win0_5.rect (posOf (i 0).val i0))).set
    rw [View.set_slice_whole, Rect.mem_set_unit]
    obtain ⟨h0, h1⟩ := idx5 (posOf (i 0).val i0)
    have hp : (posOf (i 0).val i0).val = (i 0).val / 128 := rfl
    intro a
    match a with
    | ⟨0, _⟩ =>
      show win0_5.index (posOf (i 0).val i0) 0 * 128 ≤ (i 0 : ℕ) ∧ (i 0 : ℕ) < win0_5.index (posOf (i 0).val i0) 0 * 128 + 128
      rw [h0, hp]; omega
    | ⟨1, _⟩ =>
      show win0_5.index (posOf (i 0).val i0) 1 * 512 ≤ (i 1 : ℕ) ∧ (i 1 : ℕ) < win0_5.index (posOf (i 0).val i0) 1 * 512 + 512
      rw [h1]; omega

/-! The values. -/
def valueAt (t : Fin cfg0.N) : FVec Ideal S128x512 .f32 :=
  out0_6 (iblk m c 0 t) (iblk m c 1 t) (iblk m c 2 t) (iblk m c 3 t)

def valueArray : FVec Ideal S512x512 .f32 := fun y =>
  valueAt m c (posOf (y 0).val (y 0).isLt) (ix2 ⟨(y 0).val % 128, Nat.mod_lt _ (by decide)⟩ ⟨(y 1).val, (y 1).isLt⟩)

theorem valueArray_at (t : Fin cfg0.N) (y : S128x512.Idx) (z : S512x512.Idx) (h0 : (z 0).val = t.val * 128 + (y 0).val) (h1 : (z 1).val = (y 1).val) :
    valueArray m c z = valueAt m c t y := by
  have y0 : (y 0).val < 128 := (y 0).isLt
  unfold valueArray
  have e : posOf (z 0).val (z 0).isLt = t := Fin.ext (by
    show (z 0).val / 128 = t.val
    omega)
  rw [e]
  congr 1
  funext a
  apply Fin.ext
  match a with
  | 0 => show (z 0).val % 128 = (y 0).val; omega
  | 1 => exact h1

theorem value_cut (t : Fin cfg0.N) (X : FVec Ideal S128x512 .f32) : (cfg0.win 6).cut (grid0.coords t) X = X := rfl

theorem value_read (t : Fin cfg0.N) (G : FVec Ideal S512x512 .f32) (X : FVec Ideal S128x512 .f32)
    (h : ∀ (y : S128x512.Idx) (z : S512x512.Idx), (z 0).val = t.val * 128 + (y 0).val → (z 1).val = (y 1).val → G z = X y) :
    ((cfg0.win 6).blk t).view.read (Elt Ideal) G = X := by
  obtain ⟨h0, h1⟩ := idx6 t
  funext y
  rw [View.read_apply]
  refine h y (((cfg0.win 6).blk t).view.emb y) ?_ ?_
  · show win0_6.index t 0 * 128 + 1 * (y 0).val = _; rw [h0]; omega
  · show win0_6.index t 1 * 512 + 1 * (y 1).val = _; rw [h1]; omega

theorem value_flushed (t : Fin cfg0.N) : (dats m 0 c).flushed 6 t = valueAt m c t :=
  (Cert.Kernel6Ideal.Value.flushed6 m c t).trans (value_cut t (valueAt m c t))

theorem value_eq (t : Fin cfg0.N) (_ : (cfg0.win 6).flush t = true) :
    (dats m 0 c).flushed 6 t = ((cfg0.win 6).blk t).view.read (Elt Ideal) (valueArray m c) :=
  (value_flushed m c t).trans (value_read t (valueArray m c) (valueAt m c t) (valueArray_at m c t)).symm

theorem value_final : (dats m 0 c).arrAt 6 cfg0.N = valueArray m c :=
  (dats m 0 c).arrAt_eq_of_cover 6 (valueArray m c) (value_eq m c) fun i => by
    have i0 : (i 0 : ℕ) < 512 := (i 0).isLt
    have i1 : (i 1 : ℕ) < 512 := (i 1).isLt
    refine ⟨posOf (i 0).val i0, flush0_6 _, ?_⟩
    show i ∈ ((View.whole main_v7_2).slice (win0_6.rect (posOf (i 0).val i0))).set
    rw [View.set_slice_whole, Rect.mem_set_unit]
    obtain ⟨h0, h1⟩ := idx6 (posOf (i 0).val i0)
    have hp : (posOf (i 0).val i0).val = (i 0).val / 128 := rfl
    intro a
    match a with
    | ⟨0, _⟩ =>
      show win0_6.index (posOf (i 0).val i0) 0 * 128 ≤ (i 0 : ℕ) ∧ (i 0 : ℕ) < win0_6.index (posOf (i 0).val i0) 0 * 128 + 128
      rw [h0, hp]; omega
    | ⟨1, _⟩ =>
      show win0_6.index (posOf (i 0).val i0) 1 * 512 ≤ (i 1 : ℕ) ∧ (i 1 : ℕ) < win0_6.index (posOf (i 0).val i0) 1 * 512 + 512
      rw [h1]; omega

end Cert.Kernel6Ideal.Token
-- ==== Proof.Token.Reference.lean ====
/-
  The reference's wider projection, on the samples, read at an element: the normalised and modulated token, and the three parts of its product with the weights.
-/
module

public import proofs.«01_k».proof.Proof.Token.Body
public import proofs.«01_k».proof.Proof.Gen.Reference6Ideal.Read

@[expose] public section

set_option maxRecDepth 16384

noncomputable section

namespace Cert.Reference6Ideal.Token

open Idealize.ShloMosaic Cert.Reference6Ideal Cert.Reference6Ideal.Read Cert.Reference6Ideal.Gen
open Cert.Feed

variable (x : FVec Ideal S128x4x1024 .f32) (s : FVec Ideal S128x6144 .f32) (g : FVec Ideal S2x4x1024 .f32) (w : FVec Ideal S1x1024x2048 .f32)
variable (b : Fin 128) (n : Fin 4) (d : Fin 1024)

/-- The sixth `k` of the modulation of the sample `b`. -/
def sixth (k : Fin 6) (d : Fin 1024) : EReal := s (ix2 b ⟨k.val * 1024 + d.val, by omega⟩)

/-- One token's projection. -/
def row (a : Fin 2048) : EReal := wide (fun d => x (ix3 b n d)) (fun d => g (ix3 1 0 d)) (sixth s b 1) (sixth s b 0) (fun e a => w (ix3 0 e a)) a

theorem zero_bits : (FloatOps.ofBits (F := Ideal) .f32 0x00000000#32 : EReal) = 0 := by simp

theorem square_at : val_main_v15 (F := Ideal) x (ix2 b n) = ∑ e, x (ix3 b n e) * x (ix3 b n e) := by
  rw [val_main_v15_apply, val_main_cst_apply, zero_bits, zero_add]
  refine Finset.sum_congr rfl fun e _ => ?_
  rw [val_main_v14_apply]
  have e' : idx_main_v15 (ix2 b n) e = ix3 b n e := funext fun a => by fin_cases a <;> rfl
  rw [e']
  rfl

theorem input_at : val_main_v32 (F := Ideal) x s g (ix3 b n d)
    = inner (fun d => x (ix3 b n d)) (fun d => g (ix3 1 0 d)) (sixth s b 1) (sixth s b 0) d := by
  have h := square_at x b n
  unfold val_main_v32 val_main_v31 val_main_v30 val_main_v29 val_main_v28 val_main_v27 val_main_cst_2 val_main_v26 val_main_v25 val_main_v24 val_main_v23 val_main_v22
    val_main_v21 val_main_v20 val_main_v19 val_main_cst_1 val_main_v18 val_main_v17 val_main_cst_0 val_main_v16 val_main_v13 val_main_v12 val_main_v7 val_main_v6 val_main_v1 val_main_v0
  generalize val_main_v15 (F := Ideal) x = y at h ⊢
  pointwise
  rw [h]
  have e0 : sixth s b 0 d = s (ix2 b ⟨d.val, by omega⟩) := congrArg (fun i => s (ix2 b i)) (Fin.ext (by show 0 * 1024 + d.val = d.val; omega))
  unfold Cert.Feed.inner
  rw [e0]
  rfl

theorem row_at (a : Fin 2048) : val_main_v34 (F := Ideal) x s g w (ix3 b n a) = row x s g w b n a := by
  have h : ∀ e a, val_main_v33 (F := Ideal) w (ix2 e a) = w (ix3 0 e a) := fun e a => by pointwise [val_main_v33]
  rw [val_main_v34_apply]
  unfold row wide
  refine Finset.sum_congr rfl fun e _ => ?_
  show _ = _ * w (ix3 0 e a)
  rw [← h, ← input_at]
  exact congrArg₂ (· * ·) (congrArg _ (funext fun a => by fin_cases a <;> rfl)) (congrArg _ (funext fun a => by fin_cases a <;> rfl))

variable (r : Fin 512) (hr : r.val = n.val * 128 + b.val) (a : Fin 512)

include hr

theorem moved_at (a : Fin 2048) : val_main_v36 (F := Ideal) x s g w (ix2 r a) = row x s g w b n a := by
  rw [val_main_v36_apply, val_main_v35_apply, ← row_at]
  refine congrArg _ (funext fun i => Fin.ext ?_)
  match i with
  | 0 => show (r.val * 2048 + a.val) / 2048 % 128 = b.val; omega
  | 1 => show (r.val * 2048 + a.val) / 262144 = n.val; omega
  | 2 => show (r.val * 2048 + a.val) % 2048 = a.val; omega

theorem query_at : val_main_v40 (F := Ideal) x s g w (ix2 r d) = row x s g w b n ⟨d.val, by omega⟩ * eighth := by
  have h := moved_at x s g w b n r hr ⟨d.val, by omega⟩
  unfold val_main_v40 val_main_v39 val_main_v38 val_main_v37 val_main_cst_3
  generalize val_main_v36 (F := Ideal) x s g w = y at h ⊢
  pointwise
  rw [← h]
  rfl

theorem key_at : val_main_v41 (F := Ideal) x s g w (ix2 r a) = row x s g w b n ⟨1024 + a.val, by omega⟩ := by
  have h := moved_at x s g w b n r hr ⟨1024 + a.val, by omega⟩
  unfold val_main_v41
  generalize val_main_v36 (F := Ideal) x s g w = y at h ⊢
  pointwise
  exact h

theorem value_at : val_main_v42 (F := Ideal) x s g w (ix2 r a) = row x s g w b n ⟨1536 + a.val, by omega⟩ := by
  have h := moved_at x s g w b n r hr ⟨1536 + a.val, by omega⟩
  unfold val_main_v42
  generalize val_main_v36 (F := Ideal) x s g w = y at h ⊢
  pointwise
  exact h

end Cert.Reference6Ideal.Token
-- ==== Proof.Token.Equal.lean ====
/-
  The wider projection, on the samples: the two programs end with equal results.
-/
module

public import proofs.«01_k».proof.Defs
public import proofs.«01_k».proof.Proof.Gen.Reference6Ideal.Run
public import proofs.«01_k».proof.Proof.Token.Array
public import proofs.«01_k».proof.Proof.Token.Reference

@[expose] public section

set_option maxRecDepth 16384

noncomputable section

namespace Cert.Token

open Idealize.ShloMosaic Idealize.ShloMosaic.TcCoe Idealize.SL.Sem Cert.Kernel6Ideal.Token Cert.Kernel6Ideal.Gen

variable (m : (ℓ : Loc Cert.Kernel6Ideal.nD Cert.Kernel6Ideal.τ Cert.Kernel6Ideal.sig) → Buf (Elt Ideal) ℓ) (c : Dev Cert.Kernel6Ideal.nD)

theorem query_at_eq (x : Fin 512) (d : Fin 1024) :
    queryArray m c (ix2 x d) = Cert.Reference6Ideal.Read.val_main_v40 (F := Ideal) (argX m c) (argS m c) (argG m c) (argW m c) (ix2 x d) := by
  let i : Fin 4 := ⟨x.val / 128, by omega⟩
  let p : Fin 128 := ⟨x.val % 128, by omega⟩
  have h0 : x.val = x.val / 128 * 128 + x.val % 128 := by omega
  rw [queryArray_at m c (pos i) (ix2 p d) (ix2 x d) h0 rfl, Cert.Reference6Ideal.Token.query_at _ _ _ _ p i d x h0]
  unfold queryAt
  rw [Cert.Kernel6Ideal.Token.query_at, wide_block_eq]
  rfl

theorem query_eq_reference :
    queryArray m c = Cert.Reference6Ideal.Read.val_main_v40 (F := Ideal) (argX m c) (argS m c) (argG m c) (argW m c) := by
  funext z
  have hz : z = ix2 (z 0) (z 1) := funext fun a => by fin_cases a <;> rfl
  exact (congrArg _ hz).trans ((query_at_eq m c (z 0) (z 1)).trans (congrArg _ hz.symm))

theorem key_at_eq (x : Fin 512) (d : Fin 512) :
    keyArray m c (ix2 x d) = Cert.Reference6Ideal.Read.val_main_v41 (F := Ideal) (argX m c) (argS m c) (argG m c) (argW m c) (ix2 x d) := by
  let i : Fin 4 := ⟨x.val / 128, by omega⟩
  let p : Fin 128 := ⟨x.val % 128, by omega⟩
  have h0 : x.val = x.val / 128 * 128 + x.val % 128 := by omega
  rw [keyArray_at m c (pos i) (ix2 p d) (ix2 x d) h0 rfl, Cert.Reference6Ideal.Token.key_at _ _ _ _ p i x h0 d]
  unfold keyAt
  rw [Cert.Kernel6Ideal.Token.key_at, wide_block_eq]
  rfl

theorem key_eq_reference :
    keyArray m c = Cert.Reference6Ideal.Read.val_main_v41 (F := Ideal) (argX m c) (argS m c) (argG m c) (argW m c) := by
  funext z
  have hz : z = ix2 (z 0) (z 1) := funext fun a => by fin_cases a <;> rfl
  exact (congrArg _ hz).trans ((key_at_eq m c (z 0) (z 1)).trans (congrArg _ hz.symm))

theorem value_at_eq (x : Fin 512) (d : Fin 512) :
    valueArray m c (ix2 x d) = Cert.Reference6Ideal.Read.val_main_v42 (F := Ideal) (argX m c) (argS m c) (argG m c) (argW m c) (ix2 x d) := by
  let i : Fin 4 := ⟨x.val / 128, by omega⟩
  let p : Fin 128 := ⟨x.val % 128, by omega⟩
  have h0 : x.val = x.val / 128 * 128 + x.val % 128 := by omega
  rw [valueArray_at m c (pos i) (ix2 p d) (ix2 x d) h0 rfl, Cert.Reference6Ideal.Token.value_at _ _ _ _ p i x h0 d]
  unfold valueAt
  rw [Cert.Kernel6Ideal.Token.value_at, wide_block_eq]
  rfl

theorem value_eq_reference :
    valueArray m c = Cert.Reference6Ideal.Read.val_main_v42 (F := Ideal) (argX m c) (argS m c) (argG m c) (argW m c) := by
  funext z
  have hz : z = ix2 (z 0) (z 1) := funext fun a => by fin_cases a <;> rfl
  exact (congrArg _ hz).trans ((value_at_eq m c (z 0) (z 1)).trans (congrArg _ hz.symm))

/-- From equal arguments both runs end with these three arrays. -/
theorem algebraic : Cert.algebraic_Kernel6Ideal_Reference6Ideal :=
  fun m g m' g' _ hargs => by
    refine ⟨fun c => queryArray m c, fun c => keyArray m c, fun c => valueArray m c,
      (θ_run Cert.Kernel6Ideal.defs _ _).mono (fun r h c => ⟨(h c).1.trans (query_final m c), (h c).2.1.trans (key_final m c), (h c).2.2.1.trans (value_final m c), (h c).2.2.2⟩)
        (Cert.Kernel6Ideal.Value.run_blocks m g), ?_⟩
    refine (θ_run Cert.Reference6Ideal.defs _ _).mono (fun r h c => ⟨(h c).1.trans ?_, (h c).2.1.trans ?_, (h c).2.2.1.trans ?_, (h c).2.2.2⟩)
      (Cert.Reference6Ideal.Value.run (F := Ideal) m' g')
    all_goals obtain ⟨h0, h1, h2, h3⟩ := hargs c
    · refine Eq.trans ?_ (query_eq_reference m c).symm
      rw [Cert.Reference6Ideal.Read.val_main_v40_eq, h0, h1, h2, h3]
    · refine Eq.trans ?_ (key_eq_reference m c).symm
      rw [Cert.Reference6Ideal.Read.val_main_v41_eq, h0, h1, h2, h3]
    · refine Eq.trans ?_ (value_eq_reference m c).symm
      rw [Cert.Reference6Ideal.Read.val_main_v42_eq, h0, h1, h2, h3]

end Cert.Token
-- ==== Proof.lean ====
/-
  The claims. Of the prompt's attention: the frames of the kernel, of the kernel read ideally and of the reference, the
  named constants, and the equality of the results on finite values and finite vectors of the factor. Of the second half
  of the layer: the three frames, the ideal reading, and the equality of the results. The same of the windowed layer's
  projection to queries, keys and values, of the second half of the layer on the samples, of the conditioning,
  and of the differential layer's projection on the samples.
-/
module

public import proofs.«01_k».proof.Defs
public import proofs.«01_k».proof.Proof.Gen.Kernel
public import proofs.«01_k».proof.Proof.Gen.KernelIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.ReferenceIdeal.Run
public import proofs.«01_k».proof.Proof.Gen.ReferenceIdeal
public import proofs.«01_k».proof.Proof.Run.Printed
public import proofs.«01_k».proof.Proof.Value.Equal
public import proofs.«01_k».proof.Proof.Feed.Equal
public import proofs.«01_k».proof.Proof.Project.Equal
public import proofs.«01_k».proof.Proof.Sample.Equal
public import proofs.«01_k».proof.Proof.Condition.Equal
public import proofs.«01_k».proof.Proof.Token.Equal
public import Idealize.ShloMosaic.Adequacy
public import Idealize.ShloMosaic.Init

@[expose] public section

noncomputable section

namespace Cert.Proof

open Idealize.ShloMosaic Idealize.SL.Sem

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "qscale" .f32 0x3E38AA3B#32 ((8⁻¹ * (Real.log 2)⁻¹ : ℝ) : EReal) rfl,
   IdealRules.named_const.statement Cert.KernelIdeal.κ "log2e" .f32 0x3FB8AA3B#32 (((Real.log 2)⁻¹ : ℝ) : EReal) rfl,
   IdealRules.named_const.statement Cert.KernelIdeal.κ "mask" .f32 0xF149F2CA#32 ⊥ rfl⟩

theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem frame_ri3 : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

theorem frame_ri4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem frame_ri5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem frame_ri6 : Cert.quiescent_Reference6Ideal := fun m ρ _ =>
  (θ_run Cert.Reference6Ideal.defs _ _).mono (fun r h => ⟨fun c => (h c).2.2.2,
      Idealize.ShloMosaic.sem_eq_zero_of_no_sems (by decide) r.2⟩)
    (Cert.Reference6Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_v_and_lambda.facts,
  Cert.Printed.frame, fun m ρ _ => Cert.KernelIdeal.Run.frame m ρ, fun m ρ _ => Cert.KernelIdeal.Run.frame m ρ, frame_ri,
  fun m ρ _ => frame_ri m ρ trivial, fun m ρ _ => Cert.Kernel2.Gen.frame m ρ, fun m ρ _ => Cert.Kernel2Ideal.Gen.frame m ρ, frame_ri2,
  fun m ρ _ => Cert.Kernel3.Gen.frame m ρ, fun m ρ _ => Cert.Kernel3Ideal.Gen.frame m ρ, frame_ri3,
  fun m ρ _ => Cert.Kernel4.Gen.frame m ρ, fun m ρ _ => Cert.Kernel4Ideal.Gen.frame m ρ, frame_ri4,
  fun m ρ _ => Cert.Kernel5.Gen.frame m ρ, fun m ρ _ => Cert.Kernel5Ideal.Gen.frame m ρ, frame_ri5,
  fun m ρ _ => Cert.Kernel6.Gen.frame m ρ, fun m ρ _ => Cert.Kernel6Ideal.Gen.frame m ρ, frame_ri6,
  preserves, algebraic, trivial, Cert.Feed.algebraic, trivial, Cert.Project.algebraic,
  trivial, Cert.Sample.algebraic, trivial, Cert.Condition.algebraic, trivial, Cert.Token.algebraic⟩

end Cert.Proof

end
